-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S8x128x512 : Shape := ⟨3, ![8, 128, 512]⟩
abbrev S2x512x8192 : Shape := ⟨3, ![2, 512, 8192]⟩
abbrev S2 : Shape := ⟨1, ![2]⟩
abbrev S32 : Shape := ⟨1, ![32]⟩
abbrev S_ : Shape := ⟨0, ![]⟩
abbrev S128x128 : Shape := ⟨2, ![128, 128]⟩
abbrev S1x128x128 : Shape := ⟨3, ![1, 128, 128]⟩
abbrev S1 : Shape := ⟨1, ![1]⟩
abbrev S1x512x8192 : Shape := ⟨3, ![1, 512, 8192]⟩
abbrev S512x8192 : Shape := ⟨2, ![512, 8192]⟩
abbrev S1x128x512 : Shape := ⟨3, ![1, 128, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S4096x128, .bf16⟩
  | .local _ .vmem, ⟨3, _⟩ => ⟨S8x128x512, .bf16⟩
  | .local _ .vmem, ⟨4, _⟩ => ⟨S2x512x8192, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_11 : BitVec 32 := 0#32
  let v32 : BitVec 1 := Scalar.cmpi .ne v2 c0_i32_11
  let v33 : BitVec 32 := Scalar.extui v32
  let c0_i32_12 : BitVec 32 := 0#32
  let v34 : BitVec 1 := Scalar.cmpi .ne v33 c0_i32_12
  v34

def k0_dev1 : Nat :=
  let c0_i32_626 : BitVec 32 := 0#32
  let c0_i32_624 : BitVec 32 := 0#32
  let c1_i32_625 : BitVec 32 := 1#32
  let v950 : BitVec 32 := Scalar.muli c0_i32_624 c1_i32_625
  let v951 : BitVec 32 := Scalar.addi c0_i32_626 v950
  v951.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let v35 : BitVec 1 := Scalar.cmpi .ne v2 c1_i32_13
  let v36 : BitVec 32 := Scalar.extui v35
  let c0_i32_14 : BitVec 32 := 0#32
  let v37 : BitVec 1 := Scalar.cmpi .ne v36 c0_i32_14
  v37

def k0_dev2 : Nat :=
  let c0_i32_626 : BitVec 32 := 0#32
  let c1_i32_624 : BitVec 32 := 1#32
  let c1_i32_625 : BitVec 32 := 1#32
  let v950 : BitVec 32 := Scalar.muli c1_i32_624 c1_i32_625
  let v951 : BitVec 32 := Scalar.addi c0_i32_626 v950
  v951.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v38 : BitVec 1 := Scalar.cmpi .ne v2 c2_i32
  let v39 : BitVec 32 := Scalar.extui v38
  let c0_i32_15 : BitVec 32 := 0#32
  let v40 : BitVec 1 := Scalar.cmpi .ne v39 c0_i32_15
  v40

def k0_dev3 : Nat :=
  let c0_i32_626 : BitVec 32 := 0#32
  let c2_i32_624 : BitVec 32 := 2#32
  let c1_i32_625 : BitVec 32 := 1#32
  let v950 : BitVec 32 := Scalar.muli c2_i32_624 c1_i32_625
  let v951 : BitVec 32 := Scalar.addi c0_i32_626 v950
  v951.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v41 : BitVec 1 := Scalar.cmpi .ne v2 c3_i32
  let v42 : BitVec 32 := Scalar.extui v41
  let c0_i32_16 : BitVec 32 := 0#32
  let v43 : BitVec 1 := Scalar.cmpi .ne v42 c0_i32_16
  v43

def k0_dev4 : Nat :=
  let c0_i32_626 : BitVec 32 := 0#32
  let c3_i32_624 : BitVec 32 := 3#32
  let c1_i32_625 : BitVec 32 := 1#32
  let v950 : BitVec 32 := Scalar.muli c3_i32_624 c1_i32_625
  let v951 : BitVec 32 := Scalar.addi c0_i32_626 v950
  v951.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_17 : BitVec 32 := 4#32
  let v44 : BitVec 1 := Scalar.cmpi .ne v2 c4_i32_17
  let v45 : BitVec 32 := Scalar.extui v44
  let c0_i32_18 : BitVec 32 := 0#32
  let v46 : BitVec 1 := Scalar.cmpi .ne v45 c0_i32_18
  v46

def k0_dev5 : Nat :=
  let c0_i32_626 : BitVec 32 := 0#32
  let c4_i32_624 : BitVec 32 := 4#32
  let c1_i32_625 : BitVec 32 := 1#32
  let v950 : BitVec 32 := Scalar.muli c4_i32_624 c1_i32_625
  let v951 : BitVec 32 := Scalar.addi c0_i32_626 v950
  v951.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v47 : BitVec 1 := Scalar.cmpi .ne v2 c5_i32
  let v48 : BitVec 32 := Scalar.extui v47
  let c0_i32_19 : BitVec 32 := 0#32
  let v49 : BitVec 1 := Scalar.cmpi .ne v48 c0_i32_19
  v49

def k0_dev6 : Nat :=
  let c0_i32_626 : BitVec 32 := 0#32
  let c5_i32_624 : BitVec 32 := 5#32
  let c1_i32_625 : BitVec 32 := 1#32
  let v950 : BitVec 32 := Scalar.muli c5_i32_624 c1_i32_625
  let v951 : BitVec 32 := Scalar.addi c0_i32_626 v950
  v951.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v50 : BitVec 1 := Scalar.cmpi .ne v2 c6_i32
  let v51 : BitVec 32 := Scalar.extui v50
  let c0_i32_20 : BitVec 32 := 0#32
  let v52 : BitVec 1 := Scalar.cmpi .ne v51 c0_i32_20
  v52

def k0_dev7 : Nat :=
  let c0_i32_626 : BitVec 32 := 0#32
  let c6_i32_624 : BitVec 32 := 6#32
  let c1_i32_625 : BitVec 32 := 1#32
  let v950 : BitVec 32 := Scalar.muli c6_i32_624 c1_i32_625
  let v951 : BitVec 32 := Scalar.addi c0_i32_626 v950
  v951.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v53 : BitVec 1 := Scalar.cmpi .ne v2 c7_i32
  let v54 : BitVec 32 := Scalar.extui v53
  let c0_i32_21 : BitVec 32 := 0#32
  let v55 : BitVec 1 := Scalar.cmpi .ne v54 c0_i32_21
  v55

def k0_dev8 : Nat :=
  let c0_i32_626 : BitVec 32 := 0#32
  let c7_i32_624 : BitVec 32 := 7#32
  let c1_i32_625 : BitVec 32 := 1#32
  let v950 : BitVec 32 := Scalar.muli c7_i32_624 c1_i32_625
  let v951 : BitVec 32 := Scalar.addi c0_i32_626 v950
  v951.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v56 : BitVec 1 := Scalar.cmpi .ne v2 c8_i32
  let v57 : BitVec 32 := Scalar.extui v56
  let c0_i32_22 : BitVec 32 := 0#32
  let v58 : BitVec 1 := Scalar.cmpi .ne v57 c0_i32_22
  v58

def k0_dev9 : Nat :=
  let c0_i32_626 : BitVec 32 := 0#32
  let c8_i32_624 : BitVec 32 := 8#32
  let c1_i32_625 : BitVec 32 := 1#32
  let v950 : BitVec 32 := Scalar.muli c8_i32_624 c1_i32_625
  let v951 : BitVec 32 := Scalar.addi c0_i32_626 v950
  v951.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v59 : BitVec 1 := Scalar.cmpi .ne v2 c9_i32
  let v60 : BitVec 32 := Scalar.extui v59
  let c0_i32_23 : BitVec 32 := 0#32
  let v61 : BitVec 1 := Scalar.cmpi .ne v60 c0_i32_23
  v61

def k0_dev10 : Nat :=
  let c0_i32_626 : BitVec 32 := 0#32
  let c9_i32_624 : BitVec 32 := 9#32
  let c1_i32_625 : BitVec 32 := 1#32
  let v950 : BitVec 32 := Scalar.muli c9_i32_624 c1_i32_625
  let v951 : BitVec 32 := Scalar.addi c0_i32_626 v950
  v951.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v62 : BitVec 1 := Scalar.cmpi .ne v2 c10_i32
  let v63 : BitVec 32 := Scalar.extui v62
  let c0_i32_24 : BitVec 32 := 0#32
  let v64 : BitVec 1 := Scalar.cmpi .ne v63 c0_i32_24
  v64

def k0_dev11 : Nat :=
  let c0_i32_626 : BitVec 32 := 0#32
  let c10_i32_624 : BitVec 32 := 10#32
  let c1_i32_625 : BitVec 32 := 1#32
  let v950 : BitVec 32 := Scalar.muli c10_i32_624 c1_i32_625
  let v951 : BitVec 32 := Scalar.addi c0_i32_626 v950
  v951.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v65 : BitVec 1 := Scalar.cmpi .ne v2 c11_i32
  let v66 : BitVec 32 := Scalar.extui v65
  let c0_i32_25 : BitVec 32 := 0#32
  let v67 : BitVec 1 := Scalar.cmpi .ne v66 c0_i32_25
  v67

def k0_dev12 : Nat :=
  let c0_i32_626 : BitVec 32 := 0#32
  let c11_i32_624 : BitVec 32 := 11#32
  let c1_i32_625 : BitVec 32 := 1#32
  let v950 : BitVec 32 := Scalar.muli c11_i32_624 c1_i32_625
  let v951 : BitVec 32 := Scalar.addi c0_i32_626 v950
  v951.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v68 : BitVec 1 := Scalar.cmpi .ne v2 c12_i32
  let v69 : BitVec 32 := Scalar.extui v68
  let c0_i32_26 : BitVec 32 := 0#32
  let v70 : BitVec 1 := Scalar.cmpi .ne v69 c0_i32_26
  v70

def k0_dev13 : Nat :=
  let c0_i32_626 : BitVec 32 := 0#32
  let c12_i32_624 : BitVec 32 := 12#32
  let c1_i32_625 : BitVec 32 := 1#32
  let v950 : BitVec 32 := Scalar.muli c12_i32_624 c1_i32_625
  let v951 : BitVec 32 := Scalar.addi c0_i32_626 v950
  v951.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v71 : BitVec 1 := Scalar.cmpi .ne v2 c13_i32
  let v72 : BitVec 32 := Scalar.extui v71
  let c0_i32_27 : BitVec 32 := 0#32
  let v73 : BitVec 1 := Scalar.cmpi .ne v72 c0_i32_27
  v73

def k0_dev14 : Nat :=
  let c0_i32_626 : BitVec 32 := 0#32
  let c13_i32_624 : BitVec 32 := 13#32
  let c1_i32_625 : BitVec 32 := 1#32
  let v950 : BitVec 32 := Scalar.muli c13_i32_624 c1_i32_625
  let v951 : BitVec 32 := Scalar.addi c0_i32_626 v950
  v951.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v74 : BitVec 1 := Scalar.cmpi .ne v2 c14_i32
  let v75 : BitVec 32 := Scalar.extui v74
  let c0_i32_28 : BitVec 32 := 0#32
  let v76 : BitVec 1 := Scalar.cmpi .ne v75 c0_i32_28
  v76

def k0_dev15 : Nat :=
  let c0_i32_626 : BitVec 32 := 0#32
  let c14_i32_624 : BitVec 32 := 14#32
  let c1_i32_625 : BitVec 32 := 1#32
  let v950 : BitVec 32 := Scalar.muli c14_i32_624 c1_i32_625
  let v951 : BitVec 32 := Scalar.addi c0_i32_626 v950
  v951.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v77 : BitVec 1 := Scalar.cmpi .ne v2 c15_i32
  let v78 : BitVec 32 := Scalar.extui v77
  let c0_i32_29 : BitVec 32 := 0#32
  let v79 : BitVec 1 := Scalar.cmpi .ne v78 c0_i32_29
  v79

def k0_dev16 : Nat :=
  let c0_i32_626 : BitVec 32 := 0#32
  let c15_i32_624 : BitVec 32 := 15#32
  let c1_i32_625 : BitVec 32 := 1#32
  let v950 : BitVec 32 := Scalar.muli c15_i32_624 c1_i32_625
  let v951 : BitVec 32 := Scalar.addi c0_i32_626 v950
  v951.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v80 : BitVec 1 := Scalar.cmpi .ne v2 c16_i32
  let v81 : BitVec 32 := Scalar.extui v80
  let c0_i32_30 : BitVec 32 := 0#32
  let v82 : BitVec 1 := Scalar.cmpi .ne v81 c0_i32_30
  v82

def k0_dev17 : Nat :=
  let c0_i32_626 : BitVec 32 := 0#32
  let c16_i32_624 : BitVec 32 := 16#32
  let c1_i32_625 : BitVec 32 := 1#32
  let v950 : BitVec 32 := Scalar.muli c16_i32_624 c1_i32_625
  let v951 : BitVec 32 := Scalar.addi c0_i32_626 v950
  v951.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v83 : BitVec 1 := Scalar.cmpi .ne v2 c17_i32
  let v84 : BitVec 32 := Scalar.extui v83
  let c0_i32_31 : BitVec 32 := 0#32
  let v85 : BitVec 1 := Scalar.cmpi .ne v84 c0_i32_31
  v85

def k0_dev18 : Nat :=
  let c0_i32_626 : BitVec 32 := 0#32
  let c17_i32_624 : BitVec 32 := 17#32
  let c1_i32_625 : BitVec 32 := 1#32
  let v950 : BitVec 32 := Scalar.muli c17_i32_624 c1_i32_625
  let v951 : BitVec 32 := Scalar.addi c0_i32_626 v950
  v951.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v86 : BitVec 1 := Scalar.cmpi .ne v2 c18_i32
  let v87 : BitVec 32 := Scalar.extui v86
  let c0_i32_32 : BitVec 32 := 0#32
  let v88 : BitVec 1 := Scalar.cmpi .ne v87 c0_i32_32
  v88

def k0_dev19 : Nat :=
  let c0_i32_626 : BitVec 32 := 0#32
  let c18_i32_624 : BitVec 32 := 18#32
  let c1_i32_625 : BitVec 32 := 1#32
  let v950 : BitVec 32 := Scalar.muli c18_i32_624 c1_i32_625
  let v951 : BitVec 32 := Scalar.addi c0_i32_626 v950
  v951.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v89 : BitVec 1 := Scalar.cmpi .ne v2 c19_i32
  let v90 : BitVec 32 := Scalar.extui v89
  let c0_i32_33 : BitVec 32 := 0#32
  let v91 : BitVec 1 := Scalar.cmpi .ne v90 c0_i32_33
  v91

def k0_dev20 : Nat :=
  let c0_i32_626 : BitVec 32 := 0#32
  let c19_i32_624 : BitVec 32 := 19#32
  let c1_i32_625 : BitVec 32 := 1#32
  let v950 : BitVec 32 := Scalar.muli c19_i32_624 c1_i32_625
  let v951 : BitVec 32 := Scalar.addi c0_i32_626 v950
  v951.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v92 : BitVec 1 := Scalar.cmpi .ne v2 c20_i32
  let v93 : BitVec 32 := Scalar.extui v92
  let c0_i32_34 : BitVec 32 := 0#32
  let v94 : BitVec 1 := Scalar.cmpi .ne v93 c0_i32_34
  v94

def k0_dev21 : Nat :=
  let c0_i32_626 : BitVec 32 := 0#32
  let c20_i32_624 : BitVec 32 := 20#32
  let c1_i32_625 : BitVec 32 := 1#32
  let v950 : BitVec 32 := Scalar.muli c20_i32_624 c1_i32_625
  let v951 : BitVec 32 := Scalar.addi c0_i32_626 v950
  v951.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v95 : BitVec 1 := Scalar.cmpi .ne v2 c21_i32
  let v96 : BitVec 32 := Scalar.extui v95
  let c0_i32_35 : BitVec 32 := 0#32
  let v97 : BitVec 1 := Scalar.cmpi .ne v96 c0_i32_35
  v97

def k0_dev22 : Nat :=
  let c0_i32_626 : BitVec 32 := 0#32
  let c21_i32_624 : BitVec 32 := 21#32
  let c1_i32_625 : BitVec 32 := 1#32
  let v950 : BitVec 32 := Scalar.muli c21_i32_624 c1_i32_625
  let v951 : BitVec 32 := Scalar.addi c0_i32_626 v950
  v951.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v98 : BitVec 1 := Scalar.cmpi .ne v2 c22_i32
  let v99 : BitVec 32 := Scalar.extui v98
  let c0_i32_36 : BitVec 32 := 0#32
  let v100 : BitVec 1 := Scalar.cmpi .ne v99 c0_i32_36
  v100

def k0_dev23 : Nat :=
  let c0_i32_626 : BitVec 32 := 0#32
  let c22_i32_624 : BitVec 32 := 22#32
  let c1_i32_625 : BitVec 32 := 1#32
  let v950 : BitVec 32 := Scalar.muli c22_i32_624 c1_i32_625
  let v951 : BitVec 32 := Scalar.addi c0_i32_626 v950
  v951.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v101 : BitVec 1 := Scalar.cmpi .ne v2 c23_i32
  let v102 : BitVec 32 := Scalar.extui v101
  let c0_i32_37 : BitVec 32 := 0#32
  let v103 : BitVec 1 := Scalar.cmpi .ne v102 c0_i32_37
  v103

def k0_dev24 : Nat :=
  let c0_i32_626 : BitVec 32 := 0#32
  let c23_i32_624 : BitVec 32 := 23#32
  let c1_i32_625 : BitVec 32 := 1#32
  let v950 : BitVec 32 := Scalar.muli c23_i32_624 c1_i32_625
  let v951 : BitVec 32 := Scalar.addi c0_i32_626 v950
  v951.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v104 : BitVec 1 := Scalar.cmpi .ne v2 c24_i32
  let v105 : BitVec 32 := Scalar.extui v104
  let c0_i32_38 : BitVec 32 := 0#32
  let v106 : BitVec 1 := Scalar.cmpi .ne v105 c0_i32_38
  v106

def k0_dev25 : Nat :=
  let c0_i32_626 : BitVec 32 := 0#32
  let c24_i32_624 : BitVec 32 := 24#32
  let c1_i32_625 : BitVec 32 := 1#32
  let v950 : BitVec 32 := Scalar.muli c24_i32_624 c1_i32_625
  let v951 : BitVec 32 := Scalar.addi c0_i32_626 v950
  v951.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v107 : BitVec 1 := Scalar.cmpi .ne v2 c25_i32
  let v108 : BitVec 32 := Scalar.extui v107
  let c0_i32_39 : BitVec 32 := 0#32
  let v109 : BitVec 1 := Scalar.cmpi .ne v108 c0_i32_39
  v109

def k0_dev26 : Nat :=
  let c0_i32_626 : BitVec 32 := 0#32
  let c25_i32_624 : BitVec 32 := 25#32
  let c1_i32_625 : BitVec 32 := 1#32
  let v950 : BitVec 32 := Scalar.muli c25_i32_624 c1_i32_625
  let v951 : BitVec 32 := Scalar.addi c0_i32_626 v950
  v951.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v110 : BitVec 1 := Scalar.cmpi .ne v2 c26_i32
  let v111 : BitVec 32 := Scalar.extui v110
  let c0_i32_40 : BitVec 32 := 0#32
  let v112 : BitVec 1 := Scalar.cmpi .ne v111 c0_i32_40
  v112

def k0_dev27 : Nat :=
  let c0_i32_626 : BitVec 32 := 0#32
  let c26_i32_624 : BitVec 32 := 26#32
  let c1_i32_625 : BitVec 32 := 1#32
  let v950 : BitVec 32 := Scalar.muli c26_i32_624 c1_i32_625
  let v951 : BitVec 32 := Scalar.addi c0_i32_626 v950
  v951.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v113 : BitVec 1 := Scalar.cmpi .ne v2 c27_i32
  let v114 : BitVec 32 := Scalar.extui v113
  let c0_i32_41 : BitVec 32 := 0#32
  let v115 : BitVec 1 := Scalar.cmpi .ne v114 c0_i32_41
  v115

def k0_dev28 : Nat :=
  let c0_i32_626 : BitVec 32 := 0#32
  let c27_i32_624 : BitVec 32 := 27#32
  let c1_i32_625 : BitVec 32 := 1#32
  let v950 : BitVec 32 := Scalar.muli c27_i32_624 c1_i32_625
  let v951 : BitVec 32 := Scalar.addi c0_i32_626 v950
  v951.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v116 : BitVec 1 := Scalar.cmpi .ne v2 c28_i32
  let v117 : BitVec 32 := Scalar.extui v116
  let c0_i32_42 : BitVec 32 := 0#32
  let v118 : BitVec 1 := Scalar.cmpi .ne v117 c0_i32_42
  v118

def k0_dev29 : Nat :=
  let c0_i32_626 : BitVec 32 := 0#32
  let c28_i32_624 : BitVec 32 := 28#32
  let c1_i32_625 : BitVec 32 := 1#32
  let v950 : BitVec 32 := Scalar.muli c28_i32_624 c1_i32_625
  let v951 : BitVec 32 := Scalar.addi c0_i32_626 v950
  v951.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v119 : BitVec 1 := Scalar.cmpi .ne v2 c29_i32
  let v120 : BitVec 32 := Scalar.extui v119
  let c0_i32_43 : BitVec 32 := 0#32
  let v121 : BitVec 1 := Scalar.cmpi .ne v120 c0_i32_43
  v121

def k0_dev30 : Nat :=
  let c0_i32_626 : BitVec 32 := 0#32
  let c29_i32_624 : BitVec 32 := 29#32
  let c1_i32_625 : BitVec 32 := 1#32
  let v950 : BitVec 32 := Scalar.muli c29_i32_624 c1_i32_625
  let v951 : BitVec 32 := Scalar.addi c0_i32_626 v950
  v951.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v122 : BitVec 1 := Scalar.cmpi .ne v2 c30_i32
  let v123 : BitVec 32 := Scalar.extui v122
  let c0_i32_44 : BitVec 32 := 0#32
  let v124 : BitVec 1 := Scalar.cmpi .ne v123 c0_i32_44
  v124

def k0_dev31 : Nat :=
  let c0_i32_626 : BitVec 32 := 0#32
  let c30_i32_624 : BitVec 32 := 30#32
  let c1_i32_625 : BitVec 32 := 1#32
  let v950 : BitVec 32 := Scalar.muli c30_i32_624 c1_i32_625
  let v951 : BitVec 32 := Scalar.addi c0_i32_626 v950
  v951.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v125 : BitVec 1 := Scalar.cmpi .ne v2 c31_i32
  let v126 : BitVec 32 := Scalar.extui v125
  let c0_i32_45 : BitVec 32 := 0#32
  let v127 : BitVec 1 := Scalar.cmpi .ne v126 c0_i32_45
  v127

def k0_dev32 : Nat :=
  let c0_i32_626 : BitVec 32 := 0#32
  let c31_i32_624 : BitVec 32 := 31#32
  let c1_i32_625 : BitVec 32 := 1#32
  let v950 : BitVec 32 := Scalar.muli c31_i32_624 c1_i32_625
  let v951 : BitVec 32 := Scalar.addi c0_i32_626 v950
  v951.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_50 : BitVec 32 := 128#32
  let v134 : BitVec 32 := Scalar.muli v2 c128_i32_50
  let v135 : Index := Scalar.indexCast v134
  let c0_51 : Index := 0#32
  ![v135.toNat, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v137 : Index := Scalar.indexCast v19
  let c0_52 : Index := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let v138 : Index := Scalar.indexCast v30
  ![v137.toNat, 0, v138.toNat]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_53 : BitVec 32 := 0#32
  let v142 : BitVec 1 := Scalar.cmpi .ne v2 c0_i32_53
  let v143 : BitVec 32 := Scalar.extui v142
  let c0_i32_54 : BitVec 32 := 0#32
  let v144 : BitVec 1 := Scalar.cmpi .ne v143 c0_i32_54
  v144

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev33 : Nat :=
  let c0_i32_626 : BitVec 32 := 0#32
  let c0_i32_624 : BitVec 32 := 0#32
  let c1_i32_625 : BitVec 32 := 1#32
  let v950 : BitVec 32 := Scalar.muli c0_i32_624 c1_i32_625
  let v951 : BitVec 32 := Scalar.addi c0_i32_626 v950
  v951.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_55 : BitVec 32 := 1#32
  let v145 : BitVec 1 := Scalar.cmpi .ne v2 c1_i32_55
  let v146 : BitVec 32 := Scalar.extui v145
  let c0_i32_56 : BitVec 32 := 0#32
  let v147 : BitVec 1 := Scalar.cmpi .ne v146 c0_i32_56
  v147

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev34 : Nat :=
  let c0_i32_626 : BitVec 32 := 0#32
  let c1_i32_624 : BitVec 32 := 1#32
  let c1_i32_625 : BitVec 32 := 1#32
  let v950 : BitVec 32 := Scalar.muli c1_i32_624 c1_i32_625
  let v951 : BitVec 32 := Scalar.addi c0_i32_626 v950
  v951.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_57 : BitVec 32 := 2#32
  let v148 : BitVec 1 := Scalar.cmpi .ne v2 c2_i32_57
  let v149 : BitVec 32 := Scalar.extui v148
  let c0_i32_58 : BitVec 32 := 0#32
  let v150 : BitVec 1 := Scalar.cmpi .ne v149 c0_i32_58
  v150

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev35 : Nat :=
  let c0_i32_626 : BitVec 32 := 0#32
  let c2_i32_624 : BitVec 32 := 2#32
  let c1_i32_625 : BitVec 32 := 1#32
  let v950 : BitVec 32 := Scalar.muli c2_i32_624 c1_i32_625
  let v951 : BitVec 32 := Scalar.addi c0_i32_626 v950
  v951.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_59 : BitVec 32 := 3#32
  let v151 : BitVec 1 := Scalar.cmpi .ne v2 c3_i32_59
  let v152 : BitVec 32 := Scalar.extui v151
  let c0_i32_60 : BitVec 32 := 0#32
  let v153 : BitVec 1 := Scalar.cmpi .ne v152 c0_i32_60
  v153

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev36 : Nat :=
  let c0_i32_626 : BitVec 32 := 0#32
  let c3_i32_624 : BitVec 32 := 3#32
  let c1_i32_625 : BitVec 32 := 1#32
  let v950 : BitVec 32 := Scalar.muli c3_i32_624 c1_i32_625
  let v951 : BitVec 32 := Scalar.addi c0_i32_626 v950
  v951.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_61 : BitVec 32 := 4#32
  let v154 : BitVec 1 := Scalar.cmpi .ne v2 c4_i32_61
  let v155 : BitVec 32 := Scalar.extui v154
  let c0_i32_62 : BitVec 32 := 0#32
  let v156 : BitVec 1 := Scalar.cmpi .ne v155 c0_i32_62
  v156

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev37 : Nat :=
  let c0_i32_626 : BitVec 32 := 0#32
  let c4_i32_624 : BitVec 32 := 4#32
  let c1_i32_625 : BitVec 32 := 1#32
  let v950 : BitVec 32 := Scalar.muli c4_i32_624 c1_i32_625
  let v951 : BitVec 32 := Scalar.addi c0_i32_626 v950
  v951.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_63 : BitVec 32 := 5#32
  let v157 : BitVec 1 := Scalar.cmpi .ne v2 c5_i32_63
  let v158 : BitVec 32 := Scalar.extui v157
  let c0_i32_64 : BitVec 32 := 0#32
  let v159 : BitVec 1 := Scalar.cmpi .ne v158 c0_i32_64
  v159

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev38 : Nat :=
  let c0_i32_626 : BitVec 32 := 0#32
  let c5_i32_624 : BitVec 32 := 5#32
  let c1_i32_625 : BitVec 32 := 1#32
  let v950 : BitVec 32 := Scalar.muli c5_i32_624 c1_i32_625
  let v951 : BitVec 32 := Scalar.addi c0_i32_626 v950
  v951.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_65 : BitVec 32 := 6#32
  let v160 : BitVec 1 := Scalar.cmpi .ne v2 c6_i32_65
  let v161 : BitVec 32 := Scalar.extui v160
  let c0_i32_66 : BitVec 32 := 0#32
  let v162 : BitVec 1 := Scalar.cmpi .ne v161 c0_i32_66
  v162

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev39 : Nat :=
  let c0_i32_626 : BitVec 32 := 0#32
  let c6_i32_624 : BitVec 32 := 6#32
  let c1_i32_625 : BitVec 32 := 1#32
  let v950 : BitVec 32 := Scalar.muli c6_i32_624 c1_i32_625
  let v951 : BitVec 32 := Scalar.addi c0_i32_626 v950
  v951.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_67 : BitVec 32 := 7#32
  let v163 : BitVec 1 := Scalar.cmpi .ne v2 c7_i32_67
  let v164 : BitVec 32 := Scalar.extui v163
  let c0_i32_68 : BitVec 32 := 0#32
  let v165 : BitVec 1 := Scalar.cmpi .ne v164 c0_i32_68
  v165

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev40 : Nat :=
  let c0_i32_626 : BitVec 32 := 0#32
  let c7_i32_624 : BitVec 32 := 7#32
  let c1_i32_625 : BitVec 32 := 1#32
  let v950 : BitVec 32 := Scalar.muli c7_i32_624 c1_i32_625
  let v951 : BitVec 32 := Scalar.addi c0_i32_626 v950
  v951.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_69 : BitVec 32 := 8#32
  let v166 : BitVec 1 := Scalar.cmpi .ne v2 c8_i32_69
  let v167 : BitVec 32 := Scalar.extui v166
  let c0_i32_70 : BitVec 32 := 0#32
  let v168 : BitVec 1 := Scalar.cmpi .ne v167 c0_i32_70
  v168

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev41 : Nat :=
  let c0_i32_626 : BitVec 32 := 0#32
  let c8_i32_624 : BitVec 32 := 8#32
  let c1_i32_625 : BitVec 32 := 1#32
  let v950 : BitVec 32 := Scalar.muli c8_i32_624 c1_i32_625
  let v951 : BitVec 32 := Scalar.addi c0_i32_626 v950
  v951.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_71 : BitVec 32 := 9#32
  let v169 : BitVec 1 := Scalar.cmpi .ne v2 c9_i32_71
  let v170 : BitVec 32 := Scalar.extui v169
  let c0_i32_72 : BitVec 32 := 0#32
  let v171 : BitVec 1 := Scalar.cmpi .ne v170 c0_i32_72
  v171

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev42 : Nat :=
  let c0_i32_626 : BitVec 32 := 0#32
  let c9_i32_624 : BitVec 32 := 9#32
  let c1_i32_625 : BitVec 32 := 1#32
  let v950 : BitVec 32 := Scalar.muli c9_i32_624 c1_i32_625
  let v951 : BitVec 32 := Scalar.addi c0_i32_626 v950
  v951.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_73 : BitVec 32 := 10#32
  let v172 : BitVec 1 := Scalar.cmpi .ne v2 c10_i32_73
  let v173 : BitVec 32 := Scalar.extui v172
  let c0_i32_74 : BitVec 32 := 0#32
  let v174 : BitVec 1 := Scalar.cmpi .ne v173 c0_i32_74
  v174

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev43 : Nat :=
  let c0_i32_626 : BitVec 32 := 0#32
  let c10_i32_624 : BitVec 32 := 10#32
  let c1_i32_625 : BitVec 32 := 1#32
  let v950 : BitVec 32 := Scalar.muli c10_i32_624 c1_i32_625
  let v951 : BitVec 32 := Scalar.addi c0_i32_626 v950
  v951.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_75 : BitVec 32 := 11#32
  let v175 : BitVec 1 := Scalar.cmpi .ne v2 c11_i32_75
  let v176 : BitVec 32 := Scalar.extui v175
  let c0_i32_76 : BitVec 32 := 0#32
  let v177 : BitVec 1 := Scalar.cmpi .ne v176 c0_i32_76
  v177

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev44 : Nat :=
  let c0_i32_626 : BitVec 32 := 0#32
  let c11_i32_624 : BitVec 32 := 11#32
  let c1_i32_625 : BitVec 32 := 1#32
  let v950 : BitVec 32 := Scalar.muli c11_i32_624 c1_i32_625
  let v951 : BitVec 32 := Scalar.addi c0_i32_626 v950
  v951.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_77 : BitVec 32 := 12#32
  let v178 : BitVec 1 := Scalar.cmpi .ne v2 c12_i32_77
  let v179 : BitVec 32 := Scalar.extui v178
  let c0_i32_78 : BitVec 32 := 0#32
  let v180 : BitVec 1 := Scalar.cmpi .ne v179 c0_i32_78
  v180

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev45 : Nat :=
  let c0_i32_626 : BitVec 32 := 0#32
  let c12_i32_624 : BitVec 32 := 12#32
  let c1_i32_625 : BitVec 32 := 1#32
  let v950 : BitVec 32 := Scalar.muli c12_i32_624 c1_i32_625
  let v951 : BitVec 32 := Scalar.addi c0_i32_626 v950
  v951.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_79 : BitVec 32 := 13#32
  let v181 : BitVec 1 := Scalar.cmpi .ne v2 c13_i32_79
  let v182 : BitVec 32 := Scalar.extui v181
  let c0_i32_80 : BitVec 32 := 0#32
  let v183 : BitVec 1 := Scalar.cmpi .ne v182 c0_i32_80
  v183

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev46 : Nat :=
  let c0_i32_626 : BitVec 32 := 0#32
  let c13_i32_624 : BitVec 32 := 13#32
  let c1_i32_625 : BitVec 32 := 1#32
  let v950 : BitVec 32 := Scalar.muli c13_i32_624 c1_i32_625
  let v951 : BitVec 32 := Scalar.addi c0_i32_626 v950
  v951.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_81 : BitVec 32 := 14#32
  let v184 : BitVec 1 := Scalar.cmpi .ne v2 c14_i32_81
  let v185 : BitVec 32 := Scalar.extui v184
  let c0_i32_82 : BitVec 32 := 0#32
  let v186 : BitVec 1 := Scalar.cmpi .ne v185 c0_i32_82
  v186

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev47 : Nat :=
  let c0_i32_626 : BitVec 32 := 0#32
  let c14_i32_624 : BitVec 32 := 14#32
  let c1_i32_625 : BitVec 32 := 1#32
  let v950 : BitVec 32 := Scalar.muli c14_i32_624 c1_i32_625
  let v951 : BitVec 32 := Scalar.addi c0_i32_626 v950
  v951.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_83 : BitVec 32 := 15#32
  let v187 : BitVec 1 := Scalar.cmpi .ne v2 c15_i32_83
  let v188 : BitVec 32 := Scalar.extui v187
  let c0_i32_84 : BitVec 32 := 0#32
  let v189 : BitVec 1 := Scalar.cmpi .ne v188 c0_i32_84
  v189

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev48 : Nat :=
  let c0_i32_626 : BitVec 32 := 0#32
  let c15_i32_624 : BitVec 32 := 15#32
  let c1_i32_625 : BitVec 32 := 1#32
  let v950 : BitVec 32 := Scalar.muli c15_i32_624 c1_i32_625
  let v951 : BitVec 32 := Scalar.addi c0_i32_626 v950
  v951.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_85 : BitVec 32 := 16#32
  let v190 : BitVec 1 := Scalar.cmpi .ne v2 c16_i32_85
  let v191 : BitVec 32 := Scalar.extui v190
  let c0_i32_86 : BitVec 32 := 0#32
  let v192 : BitVec 1 := Scalar.cmpi .ne v191 c0_i32_86
  v192

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev49 : Nat :=
  let c0_i32_626 : BitVec 32 := 0#32
  let c16_i32_624 : BitVec 32 := 16#32
  let c1_i32_625 : BitVec 32 := 1#32
  let v950 : BitVec 32 := Scalar.muli c16_i32_624 c1_i32_625
  let v951 : BitVec 32 := Scalar.addi c0_i32_626 v950
  v951.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_87 : BitVec 32 := 17#32
  let v193 : BitVec 1 := Scalar.cmpi .ne v2 c17_i32_87
  let v194 : BitVec 32 := Scalar.extui v193
  let c0_i32_88 : BitVec 32 := 0#32
  let v195 : BitVec 1 := Scalar.cmpi .ne v194 c0_i32_88
  v195

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev50 : Nat :=
  let c0_i32_626 : BitVec 32 := 0#32
  let c17_i32_624 : BitVec 32 := 17#32
  let c1_i32_625 : BitVec 32 := 1#32
  let v950 : BitVec 32 := Scalar.muli c17_i32_624 c1_i32_625
  let v951 : BitVec 32 := Scalar.addi c0_i32_626 v950
  v951.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_89 : BitVec 32 := 18#32
  let v196 : BitVec 1 := Scalar.cmpi .ne v2 c18_i32_89
  let v197 : BitVec 32 := Scalar.extui v196
  let c0_i32_90 : BitVec 32 := 0#32
  let v198 : BitVec 1 := Scalar.cmpi .ne v197 c0_i32_90
  v198

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev51 : Nat :=
  let c0_i32_626 : BitVec 32 := 0#32
  let c18_i32_624 : BitVec 32 := 18#32
  let c1_i32_625 : BitVec 32 := 1#32
  let v950 : BitVec 32 := Scalar.muli c18_i32_624 c1_i32_625
  let v951 : BitVec 32 := Scalar.addi c0_i32_626 v950
  v951.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_91 : BitVec 32 := 19#32
  let v199 : BitVec 1 := Scalar.cmpi .ne v2 c19_i32_91
  let v200 : BitVec 32 := Scalar.extui v199
  let c0_i32_92 : BitVec 32 := 0#32
  let v201 : BitVec 1 := Scalar.cmpi .ne v200 c0_i32_92
  v201

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev52 : Nat :=
  let c0_i32_626 : BitVec 32 := 0#32
  let c19_i32_624 : BitVec 32 := 19#32
  let c1_i32_625 : BitVec 32 := 1#32
  let v950 : BitVec 32 := Scalar.muli c19_i32_624 c1_i32_625
  let v951 : BitVec 32 := Scalar.addi c0_i32_626 v950
  v951.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_93 : BitVec 32 := 20#32
  let v202 : BitVec 1 := Scalar.cmpi .ne v2 c20_i32_93
  let v203 : BitVec 32 := Scalar.extui v202
  let c0_i32_94 : BitVec 32 := 0#32
  let v204 : BitVec 1 := Scalar.cmpi .ne v203 c0_i32_94
  v204

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev53 : Nat :=
  let c0_i32_626 : BitVec 32 := 0#32
  let c20_i32_624 : BitVec 32 := 20#32
  let c1_i32_625 : BitVec 32 := 1#32
  let v950 : BitVec 32 := Scalar.muli c20_i32_624 c1_i32_625
  let v951 : BitVec 32 := Scalar.addi c0_i32_626 v950
  v951.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_95 : BitVec 32 := 21#32
  let v205 : BitVec 1 := Scalar.cmpi .ne v2 c21_i32_95
  let v206 : BitVec 32 := Scalar.extui v205
  let c0_i32_96 : BitVec 32 := 0#32
  let v207 : BitVec 1 := Scalar.cmpi .ne v206 c0_i32_96
  v207

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev54 : Nat :=
  let c0_i32_626 : BitVec 32 := 0#32
  let c21_i32_624 : BitVec 32 := 21#32
  let c1_i32_625 : BitVec 32 := 1#32
  let v950 : BitVec 32 := Scalar.muli c21_i32_624 c1_i32_625
  let v951 : BitVec 32 := Scalar.addi c0_i32_626 v950
  v951.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_97 : BitVec 32 := 22#32
  let v208 : BitVec 1 := Scalar.cmpi .ne v2 c22_i32_97
  let v209 : BitVec 32 := Scalar.extui v208
  let c0_i32_98 : BitVec 32 := 0#32
  let v210 : BitVec 1 := Scalar.cmpi .ne v209 c0_i32_98
  v210

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev55 : Nat :=
  let c0_i32_626 : BitVec 32 := 0#32
  let c22_i32_624 : BitVec 32 := 22#32
  let c1_i32_625 : BitVec 32 := 1#32
  let v950 : BitVec 32 := Scalar.muli c22_i32_624 c1_i32_625
  let v951 : BitVec 32 := Scalar.addi c0_i32_626 v950
  v951.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_99 : BitVec 32 := 23#32
  let v211 : BitVec 1 := Scalar.cmpi .ne v2 c23_i32_99
  let v212 : BitVec 32 := Scalar.extui v211
  let c0_i32_100 : BitVec 32 := 0#32
  let v213 : BitVec 1 := Scalar.cmpi .ne v212 c0_i32_100
  v213

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev56 : Nat :=
  let c0_i32_626 : BitVec 32 := 0#32
  let c23_i32_624 : BitVec 32 := 23#32
  let c1_i32_625 : BitVec 32 := 1#32
  let v950 : BitVec 32 := Scalar.muli c23_i32_624 c1_i32_625
  let v951 : BitVec 32 := Scalar.addi c0_i32_626 v950
  v951.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_101 : BitVec 32 := 24#32
  let v214 : BitVec 1 := Scalar.cmpi .ne v2 c24_i32_101
  let v215 : BitVec 32 := Scalar.extui v214
  let c0_i32_102 : BitVec 32 := 0#32
  let v216 : BitVec 1 := Scalar.cmpi .ne v215 c0_i32_102
  v216

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev57 : Nat :=
  let c0_i32_626 : BitVec 32 := 0#32
  let c24_i32_624 : BitVec 32 := 24#32
  let c1_i32_625 : BitVec 32 := 1#32
  let v950 : BitVec 32 := Scalar.muli c24_i32_624 c1_i32_625
  let v951 : BitVec 32 := Scalar.addi c0_i32_626 v950
  v951.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_103 : BitVec 32 := 25#32
  let v217 : BitVec 1 := Scalar.cmpi .ne v2 c25_i32_103
  let v218 : BitVec 32 := Scalar.extui v217
  let c0_i32_104 : BitVec 32 := 0#32
  let v219 : BitVec 1 := Scalar.cmpi .ne v218 c0_i32_104
  v219

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev58 : Nat :=
  let c0_i32_626 : BitVec 32 := 0#32
  let c25_i32_624 : BitVec 32 := 25#32
  let c1_i32_625 : BitVec 32 := 1#32
  let v950 : BitVec 32 := Scalar.muli c25_i32_624 c1_i32_625
  let v951 : BitVec 32 := Scalar.addi c0_i32_626 v950
  v951.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_105 : BitVec 32 := 26#32
  let v220 : BitVec 1 := Scalar.cmpi .ne v2 c26_i32_105
  let v221 : BitVec 32 := Scalar.extui v220
  let c0_i32_106 : BitVec 32 := 0#32
  let v222 : BitVec 1 := Scalar.cmpi .ne v221 c0_i32_106
  v222

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev59 : Nat :=
  let c0_i32_626 : BitVec 32 := 0#32
  let c26_i32_624 : BitVec 32 := 26#32
  let c1_i32_625 : BitVec 32 := 1#32
  let v950 : BitVec 32 := Scalar.muli c26_i32_624 c1_i32_625
  let v951 : BitVec 32 := Scalar.addi c0_i32_626 v950
  v951.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_107 : BitVec 32 := 27#32
  let v223 : BitVec 1 := Scalar.cmpi .ne v2 c27_i32_107
  let v224 : BitVec 32 := Scalar.extui v223
  let c0_i32_108 : BitVec 32 := 0#32
  let v225 : BitVec 1 := Scalar.cmpi .ne v224 c0_i32_108
  v225

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev60 : Nat :=
  let c0_i32_626 : BitVec 32 := 0#32
  let c27_i32_624 : BitVec 32 := 27#32
  let c1_i32_625 : BitVec 32 := 1#32
  let v950 : BitVec 32 := Scalar.muli c27_i32_624 c1_i32_625
  let v951 : BitVec 32 := Scalar.addi c0_i32_626 v950
  v951.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_109 : BitVec 32 := 28#32
  let v226 : BitVec 1 := Scalar.cmpi .ne v2 c28_i32_109
  let v227 : BitVec 32 := Scalar.extui v226
  let c0_i32_110 : BitVec 32 := 0#32
  let v228 : BitVec 1 := Scalar.cmpi .ne v227 c0_i32_110
  v228

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev61 : Nat :=
  let c0_i32_626 : BitVec 32 := 0#32
  let c28_i32_624 : BitVec 32 := 28#32
  let c1_i32_625 : BitVec 32 := 1#32
  let v950 : BitVec 32 := Scalar.muli c28_i32_624 c1_i32_625
  let v951 : BitVec 32 := Scalar.addi c0_i32_626 v950
  v951.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_111 : BitVec 32 := 29#32
  let v229 : BitVec 1 := Scalar.cmpi .ne v2 c29_i32_111
  let v230 : BitVec 32 := Scalar.extui v229
  let c0_i32_112 : BitVec 32 := 0#32
  let v231 : BitVec 1 := Scalar.cmpi .ne v230 c0_i32_112
  v231

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev62 : Nat :=
  let c0_i32_626 : BitVec 32 := 0#32
  let c29_i32_624 : BitVec 32 := 29#32
  let c1_i32_625 : BitVec 32 := 1#32
  let v950 : BitVec 32 := Scalar.muli c29_i32_624 c1_i32_625
  let v951 : BitVec 32 := Scalar.addi c0_i32_626 v950
  v951.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_113 : BitVec 32 := 30#32
  let v232 : BitVec 1 := Scalar.cmpi .ne v2 c30_i32_113
  let v233 : BitVec 32 := Scalar.extui v232
  let c0_i32_114 : BitVec 32 := 0#32
  let v234 : BitVec 1 := Scalar.cmpi .ne v233 c0_i32_114
  v234

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev63 : Nat :=
  let c0_i32_626 : BitVec 32 := 0#32
  let c30_i32_624 : BitVec 32 := 30#32
  let c1_i32_625 : BitVec 32 := 1#32
  let v950 : BitVec 32 := Scalar.muli c30_i32_624 c1_i32_625
  let v951 : BitVec 32 := Scalar.addi c0_i32_626 v950
  v951.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_115 : BitVec 32 := 31#32
  let v235 : BitVec 1 := Scalar.cmpi .ne v2 c31_i32_115
  let v236 : BitVec 32 := Scalar.extui v235
  let c0_i32_116 : BitVec 32 := 0#32
  let v237 : BitVec 1 := Scalar.cmpi .ne v236 c0_i32_116
  v237

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_dev64 : Nat :=
  let c0_i32_626 : BitVec 32 := 0#32
  let c31_i32_624 : BitVec 32 := 31#32
  let c1_i32_625 : BitVec 32 := 1#32
  let v950 : BitVec 32 := Scalar.muli c31_i32_624 c1_i32_625
  let v951 : BitVec 32 := Scalar.addi c0_i32_626 v950
  v951.toNat
def k0_off67 (d0 : Dev nD) (c0_i32_117 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v238 : BitVec 32 := Scalar.addi v19 c0_i32_117
  let c8_i32_118 : BitVec 32 := 8#32
  let c0_i32_119 : BitVec 32 := 0#32
  let v239 : BitVec 1 := Scalar.cmpi .eq c8_i32_118 c0_i32_119
  let c1_i32_120 : BitVec 32 := 1#32
  let v240 : BitVec 32 := Scalar.select v239 c1_i32_120 c8_i32_118
  let v241 : BitVec 32 := Scalar.remsi v238 v240
  let c0_i32_122 : BitVec 32 := 0#32
  let v243 : BitVec 1 := Scalar.cmpi .slt v241 c0_i32_122
  let c0_i32_123 : BitVec 32 := 0#32
  let v244 : BitVec 1 := Scalar.cmpi .slt v240 c0_i32_123
  let v245 : BitVec 1 := Scalar.xori v243 v244
  let c0_i32_121 : BitVec 32 := 0#32
  let v242 : BitVec 1 := Scalar.cmpi .ne v241 c0_i32_121
  let v246 : BitVec 1 := Scalar.andi v245 v242
  let v247 : BitVec 32 := Scalar.addi v241 v240
  let v248 : BitVec 32 := Scalar.select v246 v247 v241
  let c512_i32 : BitVec 32 := 512#32
  let v249 : BitVec 32 := Scalar.muli v248 c512_i32
  let c0_i32_128 : BitVec 32 := 0#32
  ![v249.toNat, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c4_i32_162 : BitVec 32 := 4#32
  let v300 : BitVec 32 := Scalar.muli v282 c4_i32_162
  let c0_i32_163 : BitVec 32 := 0#32
  let v301 : BitVec 32 := Scalar.addi v300 c0_i32_163
  let v302 : BitVec 1 := Scalar.cmpi .ne v301 v2
  let v303 : BitVec 32 := Scalar.extui v302
  let c0_i32_164 : BitVec 32 := 0#32
  let v304 : BitVec 1 := Scalar.cmpi .ne v303 c0_i32_164
  v304

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c4_i32_623 : BitVec 32 := 4#32
  let v950 : BitVec 32 := Scalar.muli v282 c4_i32_623
  let c0_i32_624 : BitVec 32 := 0#32
  let v951 : BitVec 32 := Scalar.addi v950 c0_i32_624
  ![v951.toNat]
def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c0_i32_629 : BitVec 32 := 0#32
  let c0_i32_630 : BitVec 32 := 0#32
  ![v282.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c4_i32_165 : BitVec 32 := 4#32
  let v305 : BitVec 32 := Scalar.muli v282 c4_i32_165
  let c1_i32_166 : BitVec 32 := 1#32
  let v306 : BitVec 32 := Scalar.addi v305 c1_i32_166
  let v307 : BitVec 1 := Scalar.cmpi .ne v306 v2
  let v308 : BitVec 32 := Scalar.extui v307
  let c0_i32_167 : BitVec 32 := 0#32
  let v309 : BitVec 1 := Scalar.cmpi .ne v308 c0_i32_167
  v309

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c4_i32_623 : BitVec 32 := 4#32
  let v950 : BitVec 32 := Scalar.muli v282 c4_i32_623
  let c1_i32_624 : BitVec 32 := 1#32
  let v951 : BitVec 32 := Scalar.addi v950 c1_i32_624
  ![v951.toNat]
def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c0_i32_629 : BitVec 32 := 0#32
  let c128_i32_630 : BitVec 32 := 128#32
  ![v282.toNat, 0, 128]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c4_i32_168 : BitVec 32 := 4#32
  let v310 : BitVec 32 := Scalar.muli v282 c4_i32_168
  let c2_i32_169 : BitVec 32 := 2#32
  let v311 : BitVec 32 := Scalar.addi v310 c2_i32_169
  let v312 : BitVec 1 := Scalar.cmpi .ne v311 v2
  let v313 : BitVec 32 := Scalar.extui v312
  let c0_i32_170 : BitVec 32 := 0#32
  let v314 : BitVec 1 := Scalar.cmpi .ne v313 c0_i32_170
  v314

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c4_i32_623 : BitVec 32 := 4#32
  let v950 : BitVec 32 := Scalar.muli v282 c4_i32_623
  let c2_i32_624 : BitVec 32 := 2#32
  let v951 : BitVec 32 := Scalar.addi v950 c2_i32_624
  ![v951.toNat]
def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c0_i32_629 : BitVec 32 := 0#32
  let c256_i32 : BitVec 32 := 256#32
  ![v282.toNat, 0, 256]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c4_i32_171 : BitVec 32 := 4#32
  let v315 : BitVec 32 := Scalar.muli v282 c4_i32_171
  let c3_i32_172 : BitVec 32 := 3#32
  let v316 : BitVec 32 := Scalar.addi v315 c3_i32_172
  let v317 : BitVec 1 := Scalar.cmpi .ne v316 v2
  let v318 : BitVec 32 := Scalar.extui v317
  let c0_i32_173 : BitVec 32 := 0#32
  let v319 : BitVec 1 := Scalar.cmpi .ne v318 c0_i32_173
  v319

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c4_i32_623 : BitVec 32 := 4#32
  let v950 : BitVec 32 := Scalar.muli v282 c4_i32_623
  let c3_i32_624 : BitVec 32 := 3#32
  let v951 : BitVec 32 := Scalar.addi v950 c3_i32_624
  ![v951.toNat]
def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_142 : BitVec 32 := 0#32
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let c0_i32_629 : BitVec 32 := 0#32
  let c384_i32 : BitVec 32 := 384#32
  ![v282.toNat, 0, 384]
def k0_off76 (d0 : Dev nD) (c0_i32_142 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v272 : BitVec 32 := Scalar.addi v19 c0_i32_142
  let c8_i32_143 : BitVec 32 := 8#32
  let c0_i32_144 : BitVec 32 := 0#32
  let v273 : BitVec 1 := Scalar.cmpi .eq c8_i32_143 c0_i32_144
  let c1_i32_145 : BitVec 32 := 1#32
  let v274 : BitVec 32 := Scalar.select v273 c1_i32_145 c8_i32_143
  let v275 : BitVec 32 := Scalar.remsi v272 v274
  let c0_i32_147 : BitVec 32 := 0#32
  let v277 : BitVec 1 := Scalar.cmpi .slt v275 c0_i32_147
  let c0_i32_148 : BitVec 32 := 0#32
  let v278 : BitVec 1 := Scalar.cmpi .slt v274 c0_i32_148
  let v279 : BitVec 1 := Scalar.xori v277 v278
  let c0_i32_146 : BitVec 32 := 0#32
  let v276 : BitVec 1 := Scalar.cmpi .ne v275 c0_i32_146
  let v280 : BitVec 1 := Scalar.andi v279 v276
  let v281 : BitVec 32 := Scalar.addi v275 v274
  let v282 : BitVec 32 := Scalar.select v280 v281 v275
  let v320 : Index := Scalar.indexCast v282
  let c0_174 : Index := 0#32
  let c0_175 : Index := 0#32
  ![v320.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c4_i32_214 : BitVec 32 := 4#32
  let v373 : BitVec 32 := Scalar.muli v355 c4_i32_214
  let c0_i32_215 : BitVec 32 := 0#32
  let v374 : BitVec 32 := Scalar.addi v373 c0_i32_215
  let v375 : BitVec 1 := Scalar.cmpi .ne v374 v2
  let v376 : BitVec 32 := Scalar.extui v375
  let c0_i32_216 : BitVec 32 := 0#32
  let v377 : BitVec 1 := Scalar.cmpi .ne v376 c0_i32_216
  v377

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c4_i32_623 : BitVec 32 := 4#32
  let v950 : BitVec 32 := Scalar.muli v355 c4_i32_623
  let c0_i32_624 : BitVec 32 := 0#32
  let v951 : BitVec 32 := Scalar.addi v950 c0_i32_624
  ![v951.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c0_i32_629 : BitVec 32 := 0#32
  let c0_i32_630 : BitVec 32 := 0#32
  ![v355.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c4_i32_217 : BitVec 32 := 4#32
  let v378 : BitVec 32 := Scalar.muli v355 c4_i32_217
  let c1_i32_218 : BitVec 32 := 1#32
  let v379 : BitVec 32 := Scalar.addi v378 c1_i32_218
  let v380 : BitVec 1 := Scalar.cmpi .ne v379 v2
  let v381 : BitVec 32 := Scalar.extui v380
  let c0_i32_219 : BitVec 32 := 0#32
  let v382 : BitVec 1 := Scalar.cmpi .ne v381 c0_i32_219
  v382

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c4_i32_623 : BitVec 32 := 4#32
  let v950 : BitVec 32 := Scalar.muli v355 c4_i32_623
  let c1_i32_624 : BitVec 32 := 1#32
  let v951 : BitVec 32 := Scalar.addi v950 c1_i32_624
  ![v951.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c0_i32_629 : BitVec 32 := 0#32
  let c128_i32_630 : BitVec 32 := 128#32
  ![v355.toNat, 0, 128]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c4_i32_220 : BitVec 32 := 4#32
  let v383 : BitVec 32 := Scalar.muli v355 c4_i32_220
  let c2_i32_221 : BitVec 32 := 2#32
  let v384 : BitVec 32 := Scalar.addi v383 c2_i32_221
  let v385 : BitVec 1 := Scalar.cmpi .ne v384 v2
  let v386 : BitVec 32 := Scalar.extui v385
  let c0_i32_222 : BitVec 32 := 0#32
  let v387 : BitVec 1 := Scalar.cmpi .ne v386 c0_i32_222
  v387

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c4_i32_623 : BitVec 32 := 4#32
  let v950 : BitVec 32 := Scalar.muli v355 c4_i32_623
  let c2_i32_624 : BitVec 32 := 2#32
  let v951 : BitVec 32 := Scalar.addi v950 c2_i32_624
  ![v951.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c0_i32_629 : BitVec 32 := 0#32
  let c256_i32 : BitVec 32 := 256#32
  ![v355.toNat, 0, 256]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c4_i32_223 : BitVec 32 := 4#32
  let v388 : BitVec 32 := Scalar.muli v355 c4_i32_223
  let c3_i32_224 : BitVec 32 := 3#32
  let v389 : BitVec 32 := Scalar.addi v388 c3_i32_224
  let v390 : BitVec 1 := Scalar.cmpi .ne v389 v2
  let v391 : BitVec 32 := Scalar.extui v390
  let c0_i32_225 : BitVec 32 := 0#32
  let v392 : BitVec 1 := Scalar.cmpi .ne v391 c0_i32_225
  v392

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c4_i32_623 : BitVec 32 := 4#32
  let v950 : BitVec 32 := Scalar.muli v355 c4_i32_623
  let c3_i32_624 : BitVec 32 := 3#32
  let v951 : BitVec 32 := Scalar.addi v950 c3_i32_624
  ![v951.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v345 : BitVec 32 := Scalar.addi v19 c1_i32_194
  let c8_i32_195 : BitVec 32 := 8#32
  let c0_i32_196 : BitVec 32 := 0#32
  let v346 : BitVec 1 := Scalar.cmpi .eq c8_i32_195 c0_i32_196
  let c1_i32_197 : BitVec 32 := 1#32
  let v347 : BitVec 32 := Scalar.select v346 c1_i32_197 c8_i32_195
  let v348 : BitVec 32 := Scalar.remsi v345 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c0_i32_629 : BitVec 32 := 0#32
  let c384_i32 : BitVec 32 := 384#32
  ![v355.toNat, 0, 384]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c4_i32_268 : BitVec 32 := 4#32
  let v449 : BitVec 32 := Scalar.muli v431 c4_i32_268
  let c0_i32_269 : BitVec 32 := 0#32
  let v450 : BitVec 32 := Scalar.addi v449 c0_i32_269
  let v451 : BitVec 1 := Scalar.cmpi .ne v450 v2
  let v452 : BitVec 32 := Scalar.extui v451
  let c0_i32_270 : BitVec 32 := 0#32
  let v453 : BitVec 1 := Scalar.cmpi .ne v452 c0_i32_270
  v453

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c4_i32_623 : BitVec 32 := 4#32
  let v950 : BitVec 32 := Scalar.muli v431 c4_i32_623
  let c0_i32_624 : BitVec 32 := 0#32
  let v951 : BitVec 32 := Scalar.addi v950 c0_i32_624
  ![v951.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c0_i32_629 : BitVec 32 := 0#32
  let c0_i32_630 : BitVec 32 := 0#32
  ![v431.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c4_i32_271 : BitVec 32 := 4#32
  let v454 : BitVec 32 := Scalar.muli v431 c4_i32_271
  let c1_i32_272 : BitVec 32 := 1#32
  let v455 : BitVec 32 := Scalar.addi v454 c1_i32_272
  let v456 : BitVec 1 := Scalar.cmpi .ne v455 v2
  let v457 : BitVec 32 := Scalar.extui v456
  let c0_i32_273 : BitVec 32 := 0#32
  let v458 : BitVec 1 := Scalar.cmpi .ne v457 c0_i32_273
  v458

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c4_i32_623 : BitVec 32 := 4#32
  let v950 : BitVec 32 := Scalar.muli v431 c4_i32_623
  let c1_i32_624 : BitVec 32 := 1#32
  let v951 : BitVec 32 := Scalar.addi v950 c1_i32_624
  ![v951.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c0_i32_629 : BitVec 32 := 0#32
  let c128_i32_630 : BitVec 32 := 128#32
  ![v431.toNat, 0, 128]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c4_i32_274 : BitVec 32 := 4#32
  let v459 : BitVec 32 := Scalar.muli v431 c4_i32_274
  let c2_i32_275 : BitVec 32 := 2#32
  let v460 : BitVec 32 := Scalar.addi v459 c2_i32_275
  let v461 : BitVec 1 := Scalar.cmpi .ne v460 v2
  let v462 : BitVec 32 := Scalar.extui v461
  let c0_i32_276 : BitVec 32 := 0#32
  let v463 : BitVec 1 := Scalar.cmpi .ne v462 c0_i32_276
  v463

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c4_i32_623 : BitVec 32 := 4#32
  let v950 : BitVec 32 := Scalar.muli v431 c4_i32_623
  let c2_i32_624 : BitVec 32 := 2#32
  let v951 : BitVec 32 := Scalar.addi v950 c2_i32_624
  ![v951.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c0_i32_629 : BitVec 32 := 0#32
  let c256_i32 : BitVec 32 := 256#32
  ![v431.toNat, 0, 256]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c4_i32_277 : BitVec 32 := 4#32
  let v464 : BitVec 32 := Scalar.muli v431 c4_i32_277
  let c3_i32_278 : BitVec 32 := 3#32
  let v465 : BitVec 32 := Scalar.addi v464 c3_i32_278
  let v466 : BitVec 1 := Scalar.cmpi .ne v465 v2
  let v467 : BitVec 32 := Scalar.extui v466
  let c0_i32_279 : BitVec 32 := 0#32
  let v468 : BitVec 1 := Scalar.cmpi .ne v467 c0_i32_279
  v468

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c4_i32_623 : BitVec 32 := 4#32
  let v950 : BitVec 32 := Scalar.muli v431 c4_i32_623
  let c3_i32_624 : BitVec 32 := 3#32
  let v951 : BitVec 32 := Scalar.addi v950 c3_i32_624
  ![v951.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_248 : BitVec 32 := 2#32
  let v421 : BitVec 32 := Scalar.addi v19 c2_i32_248
  let c8_i32_249 : BitVec 32 := 8#32
  let c0_i32_250 : BitVec 32 := 0#32
  let v422 : BitVec 1 := Scalar.cmpi .eq c8_i32_249 c0_i32_250
  let c1_i32_251 : BitVec 32 := 1#32
  let v423 : BitVec 32 := Scalar.select v422 c1_i32_251 c8_i32_249
  let v424 : BitVec 32 := Scalar.remsi v421 v423
  let c0_i32_253 : BitVec 32 := 0#32
  let v426 : BitVec 1 := Scalar.cmpi .slt v424 c0_i32_253
  let c0_i32_254 : BitVec 32 := 0#32
  let v427 : BitVec 1 := Scalar.cmpi .slt v423 c0_i32_254
  let v428 : BitVec 1 := Scalar.xori v426 v427
  let c0_i32_252 : BitVec 32 := 0#32
  let v425 : BitVec 1 := Scalar.cmpi .ne v424 c0_i32_252
  let v429 : BitVec 1 := Scalar.andi v428 v425
  let v430 : BitVec 32 := Scalar.addi v424 v423
  let v431 : BitVec 32 := Scalar.select v429 v430 v424
  let c0_i32_629 : BitVec 32 := 0#32
  let c384_i32 : BitVec 32 := 384#32
  ![v431.toNat, 0, 384]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c4_i32_323 : BitVec 32 := 4#32
  let v525 : BitVec 32 := Scalar.muli v507 c4_i32_323
  let c0_i32_324 : BitVec 32 := 0#32
  let v526 : BitVec 32 := Scalar.addi v525 c0_i32_324
  let v527 : BitVec 1 := Scalar.cmpi .ne v526 v2
  let v528 : BitVec 32 := Scalar.extui v527
  let c0_i32_325 : BitVec 32 := 0#32
  let v529 : BitVec 1 := Scalar.cmpi .ne v528 c0_i32_325
  v529

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c4_i32_623 : BitVec 32 := 4#32
  let v950 : BitVec 32 := Scalar.muli v507 c4_i32_623
  let c0_i32_624 : BitVec 32 := 0#32
  let v951 : BitVec 32 := Scalar.addi v950 c0_i32_624
  ![v951.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c0_i32_629 : BitVec 32 := 0#32
  let c0_i32_630 : BitVec 32 := 0#32
  ![v507.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c4_i32_326 : BitVec 32 := 4#32
  let v530 : BitVec 32 := Scalar.muli v507 c4_i32_326
  let c1_i32_327 : BitVec 32 := 1#32
  let v531 : BitVec 32 := Scalar.addi v530 c1_i32_327
  let v532 : BitVec 1 := Scalar.cmpi .ne v531 v2
  let v533 : BitVec 32 := Scalar.extui v532
  let c0_i32_328 : BitVec 32 := 0#32
  let v534 : BitVec 1 := Scalar.cmpi .ne v533 c0_i32_328
  v534

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c4_i32_623 : BitVec 32 := 4#32
  let v950 : BitVec 32 := Scalar.muli v507 c4_i32_623
  let c1_i32_624 : BitVec 32 := 1#32
  let v951 : BitVec 32 := Scalar.addi v950 c1_i32_624
  ![v951.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c0_i32_629 : BitVec 32 := 0#32
  let c128_i32_630 : BitVec 32 := 128#32
  ![v507.toNat, 0, 128]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c4_i32_329 : BitVec 32 := 4#32
  let v535 : BitVec 32 := Scalar.muli v507 c4_i32_329
  let c2_i32_330 : BitVec 32 := 2#32
  let v536 : BitVec 32 := Scalar.addi v535 c2_i32_330
  let v537 : BitVec 1 := Scalar.cmpi .ne v536 v2
  let v538 : BitVec 32 := Scalar.extui v537
  let c0_i32_331 : BitVec 32 := 0#32
  let v539 : BitVec 1 := Scalar.cmpi .ne v538 c0_i32_331
  v539

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c4_i32_623 : BitVec 32 := 4#32
  let v950 : BitVec 32 := Scalar.muli v507 c4_i32_623
  let c2_i32_624 : BitVec 32 := 2#32
  let v951 : BitVec 32 := Scalar.addi v950 c2_i32_624
  ![v951.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c0_i32_629 : BitVec 32 := 0#32
  let c256_i32 : BitVec 32 := 256#32
  ![v507.toNat, 0, 256]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c4_i32_332 : BitVec 32 := 4#32
  let v540 : BitVec 32 := Scalar.muli v507 c4_i32_332
  let c3_i32_333 : BitVec 32 := 3#32
  let v541 : BitVec 32 := Scalar.addi v540 c3_i32_333
  let v542 : BitVec 1 := Scalar.cmpi .ne v541 v2
  let v543 : BitVec 32 := Scalar.extui v542
  let c0_i32_334 : BitVec 32 := 0#32
  let v544 : BitVec 1 := Scalar.cmpi .ne v543 c0_i32_334
  v544

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c4_i32_623 : BitVec 32 := 4#32
  let v950 : BitVec 32 := Scalar.muli v507 c4_i32_623
  let c3_i32_624 : BitVec 32 := 3#32
  let v951 : BitVec 32 := Scalar.addi v950 c3_i32_624
  ![v951.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_303 : BitVec 32 := 3#32
  let v497 : BitVec 32 := Scalar.addi v19 c3_i32_303
  let c8_i32_304 : BitVec 32 := 8#32
  let c0_i32_305 : BitVec 32 := 0#32
  let v498 : BitVec 1 := Scalar.cmpi .eq c8_i32_304 c0_i32_305
  let c1_i32_306 : BitVec 32 := 1#32
  let v499 : BitVec 32 := Scalar.select v498 c1_i32_306 c8_i32_304
  let v500 : BitVec 32 := Scalar.remsi v497 v499
  let c0_i32_308 : BitVec 32 := 0#32
  let v502 : BitVec 1 := Scalar.cmpi .slt v500 c0_i32_308
  let c0_i32_309 : BitVec 32 := 0#32
  let v503 : BitVec 1 := Scalar.cmpi .slt v499 c0_i32_309
  let v504 : BitVec 1 := Scalar.xori v502 v503
  let c0_i32_307 : BitVec 32 := 0#32
  let v501 : BitVec 1 := Scalar.cmpi .ne v500 c0_i32_307
  let v505 : BitVec 1 := Scalar.andi v504 v501
  let v506 : BitVec 32 := Scalar.addi v500 v499
  let v507 : BitVec 32 := Scalar.select v505 v506 v500
  let c0_i32_629 : BitVec 32 := 0#32
  let c384_i32 : BitVec 32 := 384#32
  ![v507.toNat, 0, 384]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c4_i32_378 : BitVec 32 := 4#32
  let v601 : BitVec 32 := Scalar.muli v583 c4_i32_378
  let c0_i32_379 : BitVec 32 := 0#32
  let v602 : BitVec 32 := Scalar.addi v601 c0_i32_379
  let v603 : BitVec 1 := Scalar.cmpi .ne v602 v2
  let v604 : BitVec 32 := Scalar.extui v603
  let c0_i32_380 : BitVec 32 := 0#32
  let v605 : BitVec 1 := Scalar.cmpi .ne v604 c0_i32_380
  v605

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c4_i32_623 : BitVec 32 := 4#32
  let v950 : BitVec 32 := Scalar.muli v583 c4_i32_623
  let c0_i32_624 : BitVec 32 := 0#32
  let v951 : BitVec 32 := Scalar.addi v950 c0_i32_624
  ![v951.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c0_i32_629 : BitVec 32 := 0#32
  let c0_i32_630 : BitVec 32 := 0#32
  ![v583.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c4_i32_381 : BitVec 32 := 4#32
  let v606 : BitVec 32 := Scalar.muli v583 c4_i32_381
  let c1_i32_382 : BitVec 32 := 1#32
  let v607 : BitVec 32 := Scalar.addi v606 c1_i32_382
  let v608 : BitVec 1 := Scalar.cmpi .ne v607 v2
  let v609 : BitVec 32 := Scalar.extui v608
  let c0_i32_383 : BitVec 32 := 0#32
  let v610 : BitVec 1 := Scalar.cmpi .ne v609 c0_i32_383
  v610

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c4_i32_623 : BitVec 32 := 4#32
  let v950 : BitVec 32 := Scalar.muli v583 c4_i32_623
  let c1_i32_624 : BitVec 32 := 1#32
  let v951 : BitVec 32 := Scalar.addi v950 c1_i32_624
  ![v951.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c0_i32_629 : BitVec 32 := 0#32
  let c128_i32_630 : BitVec 32 := 128#32
  ![v583.toNat, 0, 128]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c4_i32_384 : BitVec 32 := 4#32
  let v611 : BitVec 32 := Scalar.muli v583 c4_i32_384
  let c2_i32_385 : BitVec 32 := 2#32
  let v612 : BitVec 32 := Scalar.addi v611 c2_i32_385
  let v613 : BitVec 1 := Scalar.cmpi .ne v612 v2
  let v614 : BitVec 32 := Scalar.extui v613
  let c0_i32_386 : BitVec 32 := 0#32
  let v615 : BitVec 1 := Scalar.cmpi .ne v614 c0_i32_386
  v615

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c4_i32_623 : BitVec 32 := 4#32
  let v950 : BitVec 32 := Scalar.muli v583 c4_i32_623
  let c2_i32_624 : BitVec 32 := 2#32
  let v951 : BitVec 32 := Scalar.addi v950 c2_i32_624
  ![v951.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c0_i32_629 : BitVec 32 := 0#32
  let c256_i32 : BitVec 32 := 256#32
  ![v583.toNat, 0, 256]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c4_i32_387 : BitVec 32 := 4#32
  let v616 : BitVec 32 := Scalar.muli v583 c4_i32_387
  let c3_i32_388 : BitVec 32 := 3#32
  let v617 : BitVec 32 := Scalar.addi v616 c3_i32_388
  let v618 : BitVec 1 := Scalar.cmpi .ne v617 v2
  let v619 : BitVec 32 := Scalar.extui v618
  let c0_i32_389 : BitVec 32 := 0#32
  let v620 : BitVec 1 := Scalar.cmpi .ne v619 c0_i32_389
  v620

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c4_i32_623 : BitVec 32 := 4#32
  let v950 : BitVec 32 := Scalar.muli v583 c4_i32_623
  let c3_i32_624 : BitVec 32 := 3#32
  let v951 : BitVec 32 := Scalar.addi v950 c3_i32_624
  ![v951.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_358 : BitVec 32 := 4#32
  let v573 : BitVec 32 := Scalar.addi v19 c4_i32_358
  let c8_i32_359 : BitVec 32 := 8#32
  let c0_i32_360 : BitVec 32 := 0#32
  let v574 : BitVec 1 := Scalar.cmpi .eq c8_i32_359 c0_i32_360
  let c1_i32_361 : BitVec 32 := 1#32
  let v575 : BitVec 32 := Scalar.select v574 c1_i32_361 c8_i32_359
  let v576 : BitVec 32 := Scalar.remsi v573 v575
  let c0_i32_363 : BitVec 32 := 0#32
  let v578 : BitVec 1 := Scalar.cmpi .slt v576 c0_i32_363
  let c0_i32_364 : BitVec 32 := 0#32
  let v579 : BitVec 1 := Scalar.cmpi .slt v575 c0_i32_364
  let v580 : BitVec 1 := Scalar.xori v578 v579
  let c0_i32_362 : BitVec 32 := 0#32
  let v577 : BitVec 1 := Scalar.cmpi .ne v576 c0_i32_362
  let v581 : BitVec 1 := Scalar.andi v580 v577
  let v582 : BitVec 32 := Scalar.addi v576 v575
  let v583 : BitVec 32 := Scalar.select v581 v582 v576
  let c0_i32_629 : BitVec 32 := 0#32
  let c384_i32 : BitVec 32 := 384#32
  ![v583.toNat, 0, 384]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c4_i32_433 : BitVec 32 := 4#32
  let v677 : BitVec 32 := Scalar.muli v659 c4_i32_433
  let c0_i32_434 : BitVec 32 := 0#32
  let v678 : BitVec 32 := Scalar.addi v677 c0_i32_434
  let v679 : BitVec 1 := Scalar.cmpi .ne v678 v2
  let v680 : BitVec 32 := Scalar.extui v679
  let c0_i32_435 : BitVec 32 := 0#32
  let v681 : BitVec 1 := Scalar.cmpi .ne v680 c0_i32_435
  v681

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c4_i32_623 : BitVec 32 := 4#32
  let v950 : BitVec 32 := Scalar.muli v659 c4_i32_623
  let c0_i32_624 : BitVec 32 := 0#32
  let v951 : BitVec 32 := Scalar.addi v950 c0_i32_624
  ![v951.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c0_i32_629 : BitVec 32 := 0#32
  let c0_i32_630 : BitVec 32 := 0#32
  ![v659.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c4_i32_436 : BitVec 32 := 4#32
  let v682 : BitVec 32 := Scalar.muli v659 c4_i32_436
  let c1_i32_437 : BitVec 32 := 1#32
  let v683 : BitVec 32 := Scalar.addi v682 c1_i32_437
  let v684 : BitVec 1 := Scalar.cmpi .ne v683 v2
  let v685 : BitVec 32 := Scalar.extui v684
  let c0_i32_438 : BitVec 32 := 0#32
  let v686 : BitVec 1 := Scalar.cmpi .ne v685 c0_i32_438
  v686

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c4_i32_623 : BitVec 32 := 4#32
  let v950 : BitVec 32 := Scalar.muli v659 c4_i32_623
  let c1_i32_624 : BitVec 32 := 1#32
  let v951 : BitVec 32 := Scalar.addi v950 c1_i32_624
  ![v951.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c0_i32_629 : BitVec 32 := 0#32
  let c128_i32_630 : BitVec 32 := 128#32
  ![v659.toNat, 0, 128]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c4_i32_439 : BitVec 32 := 4#32
  let v687 : BitVec 32 := Scalar.muli v659 c4_i32_439
  let c2_i32_440 : BitVec 32 := 2#32
  let v688 : BitVec 32 := Scalar.addi v687 c2_i32_440
  let v689 : BitVec 1 := Scalar.cmpi .ne v688 v2
  let v690 : BitVec 32 := Scalar.extui v689
  let c0_i32_441 : BitVec 32 := 0#32
  let v691 : BitVec 1 := Scalar.cmpi .ne v690 c0_i32_441
  v691

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c4_i32_623 : BitVec 32 := 4#32
  let v950 : BitVec 32 := Scalar.muli v659 c4_i32_623
  let c2_i32_624 : BitVec 32 := 2#32
  let v951 : BitVec 32 := Scalar.addi v950 c2_i32_624
  ![v951.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c0_i32_629 : BitVec 32 := 0#32
  let c256_i32 : BitVec 32 := 256#32
  ![v659.toNat, 0, 256]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c4_i32_442 : BitVec 32 := 4#32
  let v692 : BitVec 32 := Scalar.muli v659 c4_i32_442
  let c3_i32_443 : BitVec 32 := 3#32
  let v693 : BitVec 32 := Scalar.addi v692 c3_i32_443
  let v694 : BitVec 1 := Scalar.cmpi .ne v693 v2
  let v695 : BitVec 32 := Scalar.extui v694
  let c0_i32_444 : BitVec 32 := 0#32
  let v696 : BitVec 1 := Scalar.cmpi .ne v695 c0_i32_444
  v696

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c4_i32_623 : BitVec 32 := 4#32
  let v950 : BitVec 32 := Scalar.muli v659 c4_i32_623
  let c3_i32_624 : BitVec 32 := 3#32
  let v951 : BitVec 32 := Scalar.addi v950 c3_i32_624
  ![v951.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_413 : BitVec 32 := 5#32
  let v649 : BitVec 32 := Scalar.addi v19 c5_i32_413
  let c8_i32_414 : BitVec 32 := 8#32
  let c0_i32_415 : BitVec 32 := 0#32
  let v650 : BitVec 1 := Scalar.cmpi .eq c8_i32_414 c0_i32_415
  let c1_i32_416 : BitVec 32 := 1#32
  let v651 : BitVec 32 := Scalar.select v650 c1_i32_416 c8_i32_414
  let v652 : BitVec 32 := Scalar.remsi v649 v651
  let c0_i32_418 : BitVec 32 := 0#32
  let v654 : BitVec 1 := Scalar.cmpi .slt v652 c0_i32_418
  let c0_i32_419 : BitVec 32 := 0#32
  let v655 : BitVec 1 := Scalar.cmpi .slt v651 c0_i32_419
  let v656 : BitVec 1 := Scalar.xori v654 v655
  let c0_i32_417 : BitVec 32 := 0#32
  let v653 : BitVec 1 := Scalar.cmpi .ne v652 c0_i32_417
  let v657 : BitVec 1 := Scalar.andi v656 v653
  let v658 : BitVec 32 := Scalar.addi v652 v651
  let v659 : BitVec 32 := Scalar.select v657 v658 v652
  let c0_i32_629 : BitVec 32 := 0#32
  let c384_i32 : BitVec 32 := 384#32
  ![v659.toNat, 0, 384]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c4_i32_488 : BitVec 32 := 4#32
  let v753 : BitVec 32 := Scalar.muli v735 c4_i32_488
  let c0_i32_489 : BitVec 32 := 0#32
  let v754 : BitVec 32 := Scalar.addi v753 c0_i32_489
  let v755 : BitVec 1 := Scalar.cmpi .ne v754 v2
  let v756 : BitVec 32 := Scalar.extui v755
  let c0_i32_490 : BitVec 32 := 0#32
  let v757 : BitVec 1 := Scalar.cmpi .ne v756 c0_i32_490
  v757

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c4_i32_623 : BitVec 32 := 4#32
  let v950 : BitVec 32 := Scalar.muli v735 c4_i32_623
  let c0_i32_624 : BitVec 32 := 0#32
  let v951 : BitVec 32 := Scalar.addi v950 c0_i32_624
  ![v951.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c0_i32_629 : BitVec 32 := 0#32
  let c0_i32_630 : BitVec 32 := 0#32
  ![v735.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c4_i32_491 : BitVec 32 := 4#32
  let v758 : BitVec 32 := Scalar.muli v735 c4_i32_491
  let c1_i32_492 : BitVec 32 := 1#32
  let v759 : BitVec 32 := Scalar.addi v758 c1_i32_492
  let v760 : BitVec 1 := Scalar.cmpi .ne v759 v2
  let v761 : BitVec 32 := Scalar.extui v760
  let c0_i32_493 : BitVec 32 := 0#32
  let v762 : BitVec 1 := Scalar.cmpi .ne v761 c0_i32_493
  v762

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c4_i32_623 : BitVec 32 := 4#32
  let v950 : BitVec 32 := Scalar.muli v735 c4_i32_623
  let c1_i32_624 : BitVec 32 := 1#32
  let v951 : BitVec 32 := Scalar.addi v950 c1_i32_624
  ![v951.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c0_i32_629 : BitVec 32 := 0#32
  let c128_i32_630 : BitVec 32 := 128#32
  ![v735.toNat, 0, 128]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c4_i32_494 : BitVec 32 := 4#32
  let v763 : BitVec 32 := Scalar.muli v735 c4_i32_494
  let c2_i32_495 : BitVec 32 := 2#32
  let v764 : BitVec 32 := Scalar.addi v763 c2_i32_495
  let v765 : BitVec 1 := Scalar.cmpi .ne v764 v2
  let v766 : BitVec 32 := Scalar.extui v765
  let c0_i32_496 : BitVec 32 := 0#32
  let v767 : BitVec 1 := Scalar.cmpi .ne v766 c0_i32_496
  v767

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c4_i32_623 : BitVec 32 := 4#32
  let v950 : BitVec 32 := Scalar.muli v735 c4_i32_623
  let c2_i32_624 : BitVec 32 := 2#32
  let v951 : BitVec 32 := Scalar.addi v950 c2_i32_624
  ![v951.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c0_i32_629 : BitVec 32 := 0#32
  let c256_i32 : BitVec 32 := 256#32
  ![v735.toNat, 0, 256]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c4_i32_497 : BitVec 32 := 4#32
  let v768 : BitVec 32 := Scalar.muli v735 c4_i32_497
  let c3_i32_498 : BitVec 32 := 3#32
  let v769 : BitVec 32 := Scalar.addi v768 c3_i32_498
  let v770 : BitVec 1 := Scalar.cmpi .ne v769 v2
  let v771 : BitVec 32 := Scalar.extui v770
  let c0_i32_499 : BitVec 32 := 0#32
  let v772 : BitVec 1 := Scalar.cmpi .ne v771 c0_i32_499
  v772

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c4_i32_623 : BitVec 32 := 4#32
  let v950 : BitVec 32 := Scalar.muli v735 c4_i32_623
  let c3_i32_624 : BitVec 32 := 3#32
  let v951 : BitVec 32 := Scalar.addi v950 c3_i32_624
  ![v951.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_468 : BitVec 32 := 6#32
  let v725 : BitVec 32 := Scalar.addi v19 c6_i32_468
  let c8_i32_469 : BitVec 32 := 8#32
  let c0_i32_470 : BitVec 32 := 0#32
  let v726 : BitVec 1 := Scalar.cmpi .eq c8_i32_469 c0_i32_470
  let c1_i32_471 : BitVec 32 := 1#32
  let v727 : BitVec 32 := Scalar.select v726 c1_i32_471 c8_i32_469
  let v728 : BitVec 32 := Scalar.remsi v725 v727
  let c0_i32_473 : BitVec 32 := 0#32
  let v730 : BitVec 1 := Scalar.cmpi .slt v728 c0_i32_473
  let c0_i32_474 : BitVec 32 := 0#32
  let v731 : BitVec 1 := Scalar.cmpi .slt v727 c0_i32_474
  let v732 : BitVec 1 := Scalar.xori v730 v731
  let c0_i32_472 : BitVec 32 := 0#32
  let v729 : BitVec 1 := Scalar.cmpi .ne v728 c0_i32_472
  let v733 : BitVec 1 := Scalar.andi v732 v729
  let v734 : BitVec 32 := Scalar.addi v728 v727
  let v735 : BitVec 32 := Scalar.select v733 v734 v728
  let c0_i32_629 : BitVec 32 := 0#32
  let c384_i32 : BitVec 32 := 384#32
  ![v735.toNat, 0, 384]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c4_i32_530 : BitVec 32 := 4#32
  let v812 : BitVec 32 := Scalar.muli v794 c4_i32_530
  let c0_i32_531 : BitVec 32 := 0#32
  let v813 : BitVec 32 := Scalar.addi v812 c0_i32_531
  let v814 : BitVec 1 := Scalar.cmpi .ne v813 v2
  let v815 : BitVec 32 := Scalar.extui v814
  let c0_i32_532 : BitVec 32 := 0#32
  let v816 : BitVec 1 := Scalar.cmpi .ne v815 c0_i32_532
  v816

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c4_i32_623 : BitVec 32 := 4#32
  let v950 : BitVec 32 := Scalar.muli v794 c4_i32_623
  let c0_i32_624 : BitVec 32 := 0#32
  let v951 : BitVec 32 := Scalar.addi v950 c0_i32_624
  ![v951.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c0_i32_629 : BitVec 32 := 0#32
  let c0_i32_630 : BitVec 32 := 0#32
  ![v794.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c4_i32_533 : BitVec 32 := 4#32
  let v817 : BitVec 32 := Scalar.muli v794 c4_i32_533
  let c1_i32_534 : BitVec 32 := 1#32
  let v818 : BitVec 32 := Scalar.addi v817 c1_i32_534
  let v819 : BitVec 1 := Scalar.cmpi .ne v818 v2
  let v820 : BitVec 32 := Scalar.extui v819
  let c0_i32_535 : BitVec 32 := 0#32
  let v821 : BitVec 1 := Scalar.cmpi .ne v820 c0_i32_535
  v821

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c4_i32_623 : BitVec 32 := 4#32
  let v950 : BitVec 32 := Scalar.muli v794 c4_i32_623
  let c1_i32_624 : BitVec 32 := 1#32
  let v951 : BitVec 32 := Scalar.addi v950 c1_i32_624
  ![v951.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c0_i32_629 : BitVec 32 := 0#32
  let c128_i32_630 : BitVec 32 := 128#32
  ![v794.toNat, 0, 128]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c4_i32_536 : BitVec 32 := 4#32
  let v822 : BitVec 32 := Scalar.muli v794 c4_i32_536
  let c2_i32_537 : BitVec 32 := 2#32
  let v823 : BitVec 32 := Scalar.addi v822 c2_i32_537
  let v824 : BitVec 1 := Scalar.cmpi .ne v823 v2
  let v825 : BitVec 32 := Scalar.extui v824
  let c0_i32_538 : BitVec 32 := 0#32
  let v826 : BitVec 1 := Scalar.cmpi .ne v825 c0_i32_538
  v826

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c4_i32_623 : BitVec 32 := 4#32
  let v950 : BitVec 32 := Scalar.muli v794 c4_i32_623
  let c2_i32_624 : BitVec 32 := 2#32
  let v951 : BitVec 32 := Scalar.addi v950 c2_i32_624
  ![v951.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c0_i32_629 : BitVec 32 := 0#32
  let c256_i32 : BitVec 32 := 256#32
  ![v794.toNat, 0, 256]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c4_i32_539 : BitVec 32 := 4#32
  let v827 : BitVec 32 := Scalar.muli v794 c4_i32_539
  let c3_i32_540 : BitVec 32 := 3#32
  let v828 : BitVec 32 := Scalar.addi v827 c3_i32_540
  let v829 : BitVec 1 := Scalar.cmpi .ne v828 v2
  let v830 : BitVec 32 := Scalar.extui v829
  let c0_i32_541 : BitVec 32 := 0#32
  let v831 : BitVec 1 := Scalar.cmpi .ne v830 c0_i32_541
  v831

def k0_off131 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c4_i32_623 : BitVec 32 := 4#32
  let v950 : BitVec 32 := Scalar.muli v794 c4_i32_623
  let c3_i32_624 : BitVec 32 := 3#32
  let v951 : BitVec 32 := Scalar.addi v950 c3_i32_624
  ![v951.toNat]
def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_510 : BitVec 32 := 7#32
  let v784 : BitVec 32 := Scalar.addi v19 c7_i32_510
  let c8_i32_511 : BitVec 32 := 8#32
  let c0_i32_512 : BitVec 32 := 0#32
  let v785 : BitVec 1 := Scalar.cmpi .eq c8_i32_511 c0_i32_512
  let c1_i32_513 : BitVec 32 := 1#32
  let v786 : BitVec 32 := Scalar.select v785 c1_i32_513 c8_i32_511
  let v787 : BitVec 32 := Scalar.remsi v784 v786
  let c0_i32_515 : BitVec 32 := 0#32
  let v789 : BitVec 1 := Scalar.cmpi .slt v787 c0_i32_515
  let c0_i32_516 : BitVec 32 := 0#32
  let v790 : BitVec 1 := Scalar.cmpi .slt v786 c0_i32_516
  let v791 : BitVec 1 := Scalar.xori v789 v790
  let c0_i32_514 : BitVec 32 := 0#32
  let v788 : BitVec 1 := Scalar.cmpi .ne v787 c0_i32_514
  let v792 : BitVec 1 := Scalar.andi v791 v788
  let v793 : BitVec 32 := Scalar.addi v787 v786
  let v794 : BitVec 32 := Scalar.select v792 v793 v787
  let c0_i32_629 : BitVec 32 := 0#32
  let c384_i32 : BitVec 32 := 384#32
  ![v794.toNat, 0, 384]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_552 : BitVec 32 := 0#32
  let v843 : BitVec 1 := Scalar.cmpi .ne v2 c0_i32_552
  let v844 : BitVec 32 := Scalar.extui v843
  let c0_i32_553 : BitVec 32 := 0#32
  let v845 : BitVec 1 := Scalar.cmpi .ne v844 c0_i32_553
  v845

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_628 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v846 : BitVec 1 := Scalar.cmpi .ne v2 c1_i32_554
  let v847 : BitVec 32 := Scalar.extui v846
  let c0_i32_555 : BitVec 32 := 0#32
  let v848 : BitVec 1 := Scalar.cmpi .ne v847 c0_i32_555
  v848

def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_628 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_556 : BitVec 32 := 2#32
  let v849 : BitVec 1 := Scalar.cmpi .ne v2 c2_i32_556
  let v850 : BitVec 32 := Scalar.extui v849
  let c0_i32_557 : BitVec 32 := 0#32
  let v851 : BitVec 1 := Scalar.cmpi .ne v850 c0_i32_557
  v851

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_558 : BitVec 32 := 3#32
  let v852 : BitVec 1 := Scalar.cmpi .ne v2 c3_i32_558
  let v853 : BitVec 32 := Scalar.extui v852
  let c0_i32_559 : BitVec 32 := 0#32
  let v854 : BitVec 1 := Scalar.cmpi .ne v853 c0_i32_559
  v854

def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_560 : BitVec 32 := 4#32
  let v855 : BitVec 1 := Scalar.cmpi .ne v2 c4_i32_560
  let v856 : BitVec 32 := Scalar.extui v855
  let c0_i32_561 : BitVec 32 := 0#32
  let v857 : BitVec 1 := Scalar.cmpi .ne v856 c0_i32_561
  v857

def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_628 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_562 : BitVec 32 := 5#32
  let v858 : BitVec 1 := Scalar.cmpi .ne v2 c5_i32_562
  let v859 : BitVec 32 := Scalar.extui v858
  let c0_i32_563 : BitVec 32 := 0#32
  let v860 : BitVec 1 := Scalar.cmpi .ne v859 c0_i32_563
  v860

def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_564 : BitVec 32 := 6#32
  let v861 : BitVec 1 := Scalar.cmpi .ne v2 c6_i32_564
  let v862 : BitVec 32 := Scalar.extui v861
  let c0_i32_565 : BitVec 32 := 0#32
  let v863 : BitVec 1 := Scalar.cmpi .ne v862 c0_i32_565
  v863

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_566 : BitVec 32 := 7#32
  let v864 : BitVec 1 := Scalar.cmpi .ne v2 c7_i32_566
  let v865 : BitVec 32 := Scalar.extui v864
  let c0_i32_567 : BitVec 32 := 0#32
  let v866 : BitVec 1 := Scalar.cmpi .ne v865 c0_i32_567
  v866

def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_568 : BitVec 32 := 8#32
  let v867 : BitVec 1 := Scalar.cmpi .ne v2 c8_i32_568
  let v868 : BitVec 32 := Scalar.extui v867
  let c0_i32_569 : BitVec 32 := 0#32
  let v869 : BitVec 1 := Scalar.cmpi .ne v868 c0_i32_569
  v869

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_570 : BitVec 32 := 9#32
  let v870 : BitVec 1 := Scalar.cmpi .ne v2 c9_i32_570
  let v871 : BitVec 32 := Scalar.extui v870
  let c0_i32_571 : BitVec 32 := 0#32
  let v872 : BitVec 1 := Scalar.cmpi .ne v871 c0_i32_571
  v872

def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_572 : BitVec 32 := 10#32
  let v873 : BitVec 1 := Scalar.cmpi .ne v2 c10_i32_572
  let v874 : BitVec 32 := Scalar.extui v873
  let c0_i32_573 : BitVec 32 := 0#32
  let v875 : BitVec 1 := Scalar.cmpi .ne v874 c0_i32_573
  v875

def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_574 : BitVec 32 := 11#32
  let v876 : BitVec 1 := Scalar.cmpi .ne v2 c11_i32_574
  let v877 : BitVec 32 := Scalar.extui v876
  let c0_i32_575 : BitVec 32 := 0#32
  let v878 : BitVec 1 := Scalar.cmpi .ne v877 c0_i32_575
  v878

def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_576 : BitVec 32 := 12#32
  let v879 : BitVec 1 := Scalar.cmpi .ne v2 c12_i32_576
  let v880 : BitVec 32 := Scalar.extui v879
  let c0_i32_577 : BitVec 32 := 0#32
  let v881 : BitVec 1 := Scalar.cmpi .ne v880 c0_i32_577
  v881

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_578 : BitVec 32 := 13#32
  let v882 : BitVec 1 := Scalar.cmpi .ne v2 c13_i32_578
  let v883 : BitVec 32 := Scalar.extui v882
  let c0_i32_579 : BitVec 32 := 0#32
  let v884 : BitVec 1 := Scalar.cmpi .ne v883 c0_i32_579
  v884

def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_580 : BitVec 32 := 14#32
  let v885 : BitVec 1 := Scalar.cmpi .ne v2 c14_i32_580
  let v886 : BitVec 32 := Scalar.extui v885
  let c0_i32_581 : BitVec 32 := 0#32
  let v887 : BitVec 1 := Scalar.cmpi .ne v886 c0_i32_581
  v887

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_582 : BitVec 32 := 15#32
  let v888 : BitVec 1 := Scalar.cmpi .ne v2 c15_i32_582
  let v889 : BitVec 32 := Scalar.extui v888
  let c0_i32_583 : BitVec 32 := 0#32
  let v890 : BitVec 1 := Scalar.cmpi .ne v889 c0_i32_583
  v890

def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_584 : BitVec 32 := 16#32
  let v891 : BitVec 1 := Scalar.cmpi .ne v2 c16_i32_584
  let v892 : BitVec 32 := Scalar.extui v891
  let c0_i32_585 : BitVec 32 := 0#32
  let v893 : BitVec 1 := Scalar.cmpi .ne v892 c0_i32_585
  v893

def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_586 : BitVec 32 := 17#32
  let v894 : BitVec 1 := Scalar.cmpi .ne v2 c17_i32_586
  let v895 : BitVec 32 := Scalar.extui v894
  let c0_i32_587 : BitVec 32 := 0#32
  let v896 : BitVec 1 := Scalar.cmpi .ne v895 c0_i32_587
  v896

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_588 : BitVec 32 := 18#32
  let v897 : BitVec 1 := Scalar.cmpi .ne v2 c18_i32_588
  let v898 : BitVec 32 := Scalar.extui v897
  let c0_i32_589 : BitVec 32 := 0#32
  let v899 : BitVec 1 := Scalar.cmpi .ne v898 c0_i32_589
  v899

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_590 : BitVec 32 := 19#32
  let v900 : BitVec 1 := Scalar.cmpi .ne v2 c19_i32_590
  let v901 : BitVec 32 := Scalar.extui v900
  let c0_i32_591 : BitVec 32 := 0#32
  let v902 : BitVec 1 := Scalar.cmpi .ne v901 c0_i32_591
  v902

def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_592 : BitVec 32 := 20#32
  let v903 : BitVec 1 := Scalar.cmpi .ne v2 c20_i32_592
  let v904 : BitVec 32 := Scalar.extui v903
  let c0_i32_593 : BitVec 32 := 0#32
  let v905 : BitVec 1 := Scalar.cmpi .ne v904 c0_i32_593
  v905

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_594 : BitVec 32 := 21#32
  let v906 : BitVec 1 := Scalar.cmpi .ne v2 c21_i32_594
  let v907 : BitVec 32 := Scalar.extui v906
  let c0_i32_595 : BitVec 32 := 0#32
  let v908 : BitVec 1 := Scalar.cmpi .ne v907 c0_i32_595
  v908

def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_596 : BitVec 32 := 22#32
  let v909 : BitVec 1 := Scalar.cmpi .ne v2 c22_i32_596
  let v910 : BitVec 32 := Scalar.extui v909
  let c0_i32_597 : BitVec 32 := 0#32
  let v911 : BitVec 1 := Scalar.cmpi .ne v910 c0_i32_597
  v911

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_598 : BitVec 32 := 23#32
  let v912 : BitVec 1 := Scalar.cmpi .ne v2 c23_i32_598
  let v913 : BitVec 32 := Scalar.extui v912
  let c0_i32_599 : BitVec 32 := 0#32
  let v914 : BitVec 1 := Scalar.cmpi .ne v913 c0_i32_599
  v914

def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_600 : BitVec 32 := 24#32
  let v915 : BitVec 1 := Scalar.cmpi .ne v2 c24_i32_600
  let v916 : BitVec 32 := Scalar.extui v915
  let c0_i32_601 : BitVec 32 := 0#32
  let v917 : BitVec 1 := Scalar.cmpi .ne v916 c0_i32_601
  v917

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_602 : BitVec 32 := 25#32
  let v918 : BitVec 1 := Scalar.cmpi .ne v2 c25_i32_602
  let v919 : BitVec 32 := Scalar.extui v918
  let c0_i32_603 : BitVec 32 := 0#32
  let v920 : BitVec 1 := Scalar.cmpi .ne v919 c0_i32_603
  v920

def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_604 : BitVec 32 := 26#32
  let v921 : BitVec 1 := Scalar.cmpi .ne v2 c26_i32_604
  let v922 : BitVec 32 := Scalar.extui v921
  let c0_i32_605 : BitVec 32 := 0#32
  let v923 : BitVec 1 := Scalar.cmpi .ne v922 c0_i32_605
  v923

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_606 : BitVec 32 := 27#32
  let v924 : BitVec 1 := Scalar.cmpi .ne v2 c27_i32_606
  let v925 : BitVec 32 := Scalar.extui v924
  let c0_i32_607 : BitVec 32 := 0#32
  let v926 : BitVec 1 := Scalar.cmpi .ne v925 c0_i32_607
  v926

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_608 : BitVec 32 := 28#32
  let v927 : BitVec 1 := Scalar.cmpi .ne v2 c28_i32_608
  let v928 : BitVec 32 := Scalar.extui v927
  let c0_i32_609 : BitVec 32 := 0#32
  let v929 : BitVec 1 := Scalar.cmpi .ne v928 c0_i32_609
  v929

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_610 : BitVec 32 := 29#32
  let v930 : BitVec 1 := Scalar.cmpi .ne v2 c29_i32_610
  let v931 : BitVec 32 := Scalar.extui v930
  let c0_i32_611 : BitVec 32 := 0#32
  let v932 : BitVec 1 := Scalar.cmpi .ne v931 c0_i32_611
  v932

def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_612 : BitVec 32 := 30#32
  let v933 : BitVec 1 := Scalar.cmpi .ne v2 c30_i32_612
  let v934 : BitVec 32 := Scalar.extui v933
  let c0_i32_613 : BitVec 32 := 0#32
  let v935 : BitVec 1 := Scalar.cmpi .ne v934 c0_i32_613
  v935

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_614 : BitVec 32 := 31#32
  let v936 : BitVec 1 := Scalar.cmpi .ne v2 c31_i32_614
  let v937 : BitVec 32 := Scalar.extui v936
  let c0_i32_615 : BitVec 32 := 0#32
  let v938 : BitVec 1 := Scalar.cmpi .ne v937 c0_i32_615
  v938

def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_627 : BitVec 32 := 0#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  ![v19.toNat, 0, v30.toNat]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Places.lean ====
/-
# The places the exchange moves data between

The kernel's buffers and semaphores under short names; the element sets a transfer reads or fills — a slot of the
landing buffer, a block of rows of the cast `x`, one of the two `w` slots, a block of rows of `w` —, each as the
elements satisfying a condition on their coordinates; and the two facts every transfer needs of the view it goes
through: which elements it covers, and which element each of its coordinates is.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Exec.Geometry
public import Idealize.ShloMosaic.Lib.ValueLayout
public import Idealize.ShloMosaic.Lib.Tactic

@[expose] public section

noncomputable section

namespace Cert.Exchange

open Cert.KernelIdeal Cert.KernelIdeal.Gen
open Idealize.ShloMosaic
open Idealize.ShloMosaic.TcCoe
open Idealize.ShloMosaic.ValueIdx

/-! ## The buffers -/

/-- The staged block of `x` (4096 rows, this device's 128 columns). -/
abbrev xM : Memref sig .tc .vmem S4096x128 .f32 := Memref.whole cc0_stg0_0
/-- `w`, whole, in place. -/
abbrev wM : Memref sig .tc .hbm S4096x8192 .f32 := Memref.whole main_arg1
/-- The staged block of the result, which is also the accumulator. -/
abbrev oM : Memref sig .tc .vmem S128x8192 .f32 := Memref.whole cc0_stg1_0
/-- `x` cast to bf16: what is sent. -/
abbrev bM : Memref sig .tc .vmem S4096x128 .bf16 := Memref.whole cc0_scratch0
/-- The landing buffer: 8 groups of four slots side by side. -/
abbrev lM : Memref sig .tc .vmem S8x128x512 .bf16 := Memref.whole cc0_scratch1
/-- Two chunks of `w`. -/
abbrev vM : Memref sig .tc .vmem S2x512x8192 .f32 := Memref.whole cc0_scratch2

/-! ## The semaphores -/

/-- The runtime's barrier semaphore. -/
abbrev barS : Sem sig := (SemArray.scalar (sig.barrier 0 rfl) : Sems sig S_).sem
/-- The semaphore of `w` slot `s`. -/
def wcS (s : Fin 2) : DmaSem sig := ⟨2 + s.val, by have := s.isLt; show 2 + s.val < 68; omega⟩
/-- The semaphore of the block sent to device `t`. -/
def sndS (t : Dev nD) : DmaSem sig := ⟨4 + t.val, by have : t.val < 32 := t.isLt; show 4 + t.val < 68; omega⟩
/-- The semaphore of the block that device `s` sends here. -/
def rcvS (s : Dev nD) : DmaSem sig := ⟨36 + s.val, by have : s.val < 32 := s.isLt; show 36 + s.val < 68; omega⟩

/-- One element of an array of semaphores laid from `base` on the pool, picked by its index. -/
theorem sem_at {n : ℕ} (len base : ℕ) (hb : base + (⟨1, ![len]⟩ : Shape).numel ≤ n) {off : Fin 1 → ℕ} {k : ℕ} (hoff : off = ![k])
    (inb : ∀ i, off i + S1.size i ≤ (⟨1, ![len]⟩ : Shape).size i) :
    ((((SemArray.consecutive base ⟨1, ![len]⟩ hb : SemArray (Fin n) _).slice (Rect.unit (s := ⟨1, ![len]⟩) off S1.size inb)).squeeze S_ squeezes_S1_S_).sem).val = base + k := by
  subst hoff
  show base + ((⟨1, ![len]⟩ : Shape).rowMajor ((Rect.unit (s := ⟨1, ![len]⟩) ![k] S1.size inb).emb (Shape.reshapeEquiv squeezes_S1_S_.numel_eq (fun i => i.elim0)))).val = _
  rw [Shape.rowMajor_val_one]
  show base + (k + 1 * ((Shape.reshapeEquiv squeezes_S1_S_.numel_eq (fun i => i.elim0) : S1.Idx) 0).val) = _
  have h1 : ((Shape.reshapeEquiv squeezes_S1_S_.numel_eq (fun i => i.elim0) : S1.Idx) 0).val = 0 :=
    Nat.lt_one_iff.mp ((Shape.reshapeEquiv squeezes_S1_S_.numel_eq (fun i => i.elim0) : S1.Idx) 0).isLt
  rw [h1]; omega

theorem wc_sem (s : Fin 2) {off : Fin 1 → ℕ} (hoff : off = ![s.val]) (inb : ∀ i, off i + S1.size i ≤ S2.size i) :
    (((cc0_scratch3 : DmaSems sig S2).slice (Rect.unit (s := S2) off S1.size inb)).squeeze S_ squeezes_S1_S_).sem = wcS s :=
  Fin.ext (sem_at 2 2 _ hoff inb)
theorem snd_sem (t : Dev nD) {off : Fin 1 → ℕ} (hoff : off = ![t.val]) (inb : ∀ i, off i + S1.size i ≤ S32.size i) :
    (((cc0_scratch4 : DmaSems sig S32).slice (Rect.unit (s := S32) off S1.size inb)).squeeze S_ squeezes_S1_S_).sem = sndS t :=
  Fin.ext (sem_at 32 4 _ hoff inb)
theorem rcv_sem (s : Dev nD) {off : Fin 1 → ℕ} (hoff : off = ![s.val]) (inb : ∀ i, off i + S1.size i ≤ S32.size i) :
    (((cc0_scratch5 : DmaSems sig S32).slice (Rect.unit (s := S32) off S1.size inb)).squeeze S_ squeezes_S1_S_).sem = rcvS s :=
  Fin.ext (sem_at 32 36 _ hoff inb)

/-! ## The element sets -/

/-- Which device's block an element of the landing buffer belongs to. -/
def srcOf (i : S8x128x512.Idx) : ℕ := 4 * (i 0).val + (i 2).val / 128
/-- The slot of the landing buffer that holds device `s`'s block. -/
def slot (s : ℕ) : Finset S8x128x512.Idx := Finset.univ.filter fun i => srcOf i = s
/-- The rows of `x` (cast) that go to device `t`. -/
def rows (t : ℕ) : Finset S4096x128.Idx := Finset.univ.filter fun i => (i 0).val / 128 = t
/-- Slot `k` of the two `w` slots. -/
def wslot (k : ℕ) : Finset S2x512x8192.Idx := Finset.univ.filter fun i => (i 0).val = k
/-- The rows of `w` in chunk `q` (512 rows). -/
def wrows (q : ℕ) : Finset S4096x8192.Idx := Finset.univ.filter fun i => (i 0).val / 512 = q

theorem mem_slot {s : ℕ} {i : S8x128x512.Idx} : i ∈ slot s ↔ srcOf i = s := by unfold slot; simp
theorem mem_rows {t : ℕ} {i : S4096x128.Idx} : i ∈ rows t ↔ (i 0).val / 128 = t := by unfold rows; simp
theorem mem_wslot {k : ℕ} {i : S2x512x8192.Idx} : i ∈ wslot k ↔ (i 0).val = k := by unfold wslot; simp
theorem mem_wrows {q : ℕ} {i : S4096x8192.Idx} : i ∈ wrows q ↔ (i 0).val / 512 = q := by unfold wrows; simp

theorem srcOf_lt (i : S8x128x512.Idx) : srcOf i < 32 := by
  have h0 : (i 0).val < 8 := (i 0).isLt
  have h2 : (i 2).val < 512 := (i 2).isLt
  unfold srcOf; omega

/-- The offsets of slot `s` in the landing buffer. -/
abbrev slotOff (s : ℕ) : Fin 3 → ℕ := ![s / 4, 0, s % 4 * 128]

/-! ## The views' element sets -/

/-- A rectangle of one slot of the landing buffer. -/
theorem rect_slot {s : ℕ} {off : Fin 3 → ℕ} (hoff : off = slotOff s) (inb : ∀ i, off i + S1x128x128.size i ≤ S8x128x512.size i) :
    (Rect.unit (s := S8x128x512) off S1x128x128.size inb).set = slot s := by
  subst hoff; ext i
  rw [Rect.mem_set_unit, mem_slot]
  have h1 : (i 1).val < 128 := (i 1).isLt
  have h2 : (i 2).val < 512 := (i 2).isLt
  unfold srcOf
  constructor
  · intro h
    have a0 : s / 4 ≤ (i 0).val ∧ (i 0).val < s / 4 + 1 := h 0
    have a2 : s % 4 * 128 ≤ (i 2).val ∧ (i 2).val < s % 4 * 128 + 128 := h 2
    omega
  · intro h a
    fin_cases a
    · show s / 4 ≤ (i 0).val ∧ (i 0).val < s / 4 + 1; omega
    · show 0 ≤ (i 1).val ∧ (i 1).val < 0 + 128; omega
    · show s % 4 * 128 ≤ (i 2).val ∧ (i 2).val < s % 4 * 128 + 128; omega

theorem rect_rows {t : ℕ} {off : Fin 2 → ℕ} (hoff : off = ![128 * t, 0]) (inb : ∀ i, off i + S128x128.size i ≤ S4096x128.size i) :
    (Rect.unit (s := S4096x128) off S128x128.size inb).set = rows t := by
  subst hoff; ext i
  rw [Rect.mem_set_unit, mem_rows]
  have h1 : (i 1).val < 128 := (i 1).isLt
  constructor
  · intro h
    have a0 : 128 * t ≤ (i 0).val ∧ (i 0).val < 128 * t + 128 := h 0
    omega
  · intro h a
    fin_cases a
    · show 128 * t ≤ (i 0).val ∧ (i 0).val < 128 * t + 128; omega
    · show 0 ≤ (i 1).val ∧ (i 1).val < 0 + 128; omega

theorem rect_wslot {k : ℕ} {off : Fin 3 → ℕ} (hoff : off = ![k, 0, 0]) (inb : ∀ i, off i + S1x512x8192.size i ≤ S2x512x8192.size i) :
    (Rect.unit (s := S2x512x8192) off S1x512x8192.size inb).set = wslot k := by
  subst hoff; ext i
  rw [Rect.mem_set_unit, mem_wslot]
  have h1 : (i 1).val < 512 := (i 1).isLt
  have h2 : (i 2).val < 8192 := (i 2).isLt
  constructor
  · intro h
    have a0 : k ≤ (i 0).val ∧ (i 0).val < k + 1 := h 0
    omega
  · intro h a
    fin_cases a
    · show k ≤ (i 0).val ∧ (i 0).val < k + 1; omega
    · show 0 ≤ (i 1).val ∧ (i 1).val < 0 + 512; omega
    · show 0 ≤ (i 2).val ∧ (i 2).val < 0 + 8192; omega

theorem rect_wrows {q : ℕ} {off : Fin 2 → ℕ} (hoff : off = ![512 * q, 0]) (inb : ∀ i, off i + S512x8192.size i ≤ S4096x8192.size i) :
    (Rect.unit (s := S4096x8192) off S512x8192.size inb).set = wrows q := by
  subst hoff; ext i
  rw [Rect.mem_set_unit, mem_wrows]
  have h1 : (i 1).val < 8192 := (i 1).isLt
  constructor
  · intro h
    have a0 : 512 * q ≤ (i 0).val ∧ (i 0).val < 512 * q + 512 := h 0
    omega
  · intro h a
    fin_cases a
    · show 512 * q ≤ (i 0).val ∧ (i 0).val < 512 * q + 512; omega
    · show 0 ≤ (i 1).val ∧ (i 1).val < 0 + 8192; omega

/-- A slot of the landing buffer as a transfer names it. -/
abbrev slotM (off : Fin 3 → ℕ) (inb : ∀ i, off i + S1x128x128.size i ≤ S8x128x512.size i) : Memref sig .tc .vmem S128x128 .bf16 :=
  (lM.slice (Rect.unit (s := S8x128x512) off S1x128x128.size inb) (fun _ => rfl)).squeeze S128x128 squeezes_S1x128x128_S128x128
/-- A block of rows of the cast `x` as a transfer names it. -/
abbrev rowsM (off : Fin 2 → ℕ) (inb : ∀ i, off i + S128x128.size i ≤ S4096x128.size i) : Memref sig .tc .vmem S128x128 .bf16 :=
  bM.slice (Rect.unit (s := S4096x128) off S128x128.size inb) (fun _ => rfl)
/-- A `w` slot as a transfer names it. -/
abbrev wslotM (off : Fin 3 → ℕ) (inb : ∀ i, off i + S1x512x8192.size i ≤ S2x512x8192.size i) : Memref sig .tc .vmem S512x8192 .f32 :=
  (vM.slice (Rect.unit (s := S2x512x8192) off S1x512x8192.size inb) (fun _ => rfl)).squeeze S512x8192 squeezes_S1x512x8192_S512x8192
/-- A chunk of `w` as a transfer names it. -/
abbrev wrowsM (off : Fin 2 → ℕ) (inb : ∀ i, off i + S512x8192.size i ≤ S4096x8192.size i) : Memref sig .tc .hbm S512x8192 .f32 :=
  wM.slice (Rect.unit (s := S4096x8192) off S512x8192.size inb) (fun _ => rfl)

theorem slotM_set {s : ℕ} {off : Fin 3 → ℕ} (hoff : off = slotOff s) (inb) : (slotM off inb).view.set = slot s :=
  (Memref.set_view_squeeze _ _).trans ((View.set_slice_whole _ _).trans (rect_slot hoff inb))
theorem rowsM_set {t : ℕ} {off : Fin 2 → ℕ} (hoff : off = ![128 * t, 0]) (inb) : (rowsM off inb).view.set = rows t :=
  (View.set_slice_whole _ _).trans (rect_rows hoff inb)
theorem wslotM_set {k : ℕ} {off : Fin 3 → ℕ} (hoff : off = ![k, 0, 0]) (inb) : (wslotM off inb).view.set = wslot k :=
  (Memref.set_view_squeeze _ _).trans ((View.set_slice_whole _ _).trans (rect_wslot hoff inb))
theorem wrowsM_set {q : ℕ} {off : Fin 2 → ℕ} (hoff : off = ![512 * q, 0]) (inb) : (wrowsM off inb).view.set = wrows q :=
  (View.set_slice_whole _ _).trans (rect_wrows hoff inb)

/-! ## Which element a view's coordinates are -/

theorem slotM_emb {s : ℕ} {off : Fin 3 → ℕ} (hoff : off = slotOff s) (inb) (a b : Fin 128) :
    ((((slotM off inb).view.emb (ix2 a b) : S8x128x512.Idx) 0).val = s / 4) ∧ ((((slotM off inb).view.emb (ix2 a b) : S8x128x512.Idx) 1).val = a.val)
      ∧ ((((slotM off inb).view.emb (ix2 a b) : S8x128x512.Idx) 2).val = s % 4 * 128 + b.val) := by
  subst hoff
  have e : ((slotM (slotOff s) inb).view.emb (ix2 a b) : S8x128x512.Idx)
      = (Rect.unit (s := S8x128x512) (slotOff s) S1x128x128.size inb).emb (ix3 (⟨0, Nat.one_pos⟩ : Fin 1) a b) :=
    congrArg (Rect.unit (s := S8x128x512) (slotOff s) S1x128x128.size inb).emb (reshapeEquiv_ix2_1ab _ a b)
  rw [e]
  refine ⟨?_, ?_, ?_⟩
  · show s / 4 + 1 * 0 = _; omega
  · show 0 + 1 * a.val = _; omega
  · show s % 4 * 128 + 1 * b.val = _; omega

theorem rowsM_emb {t : ℕ} {off : Fin 2 → ℕ} (hoff : off = ![128 * t, 0]) (inb) (a b : Fin 128) :
    ((((rowsM off inb).view.emb (ix2 a b) : S4096x128.Idx) 0).val = 128 * t + a.val) ∧ ((((rowsM off inb).view.emb (ix2 a b) : S4096x128.Idx) 1).val = b.val) := by
  subst hoff
  refine ⟨?_, ?_⟩
  · show 128 * t + 1 * a.val = _; omega
  · show 0 + 1 * b.val = _; omega

theorem wslotM_emb {k : ℕ} {off : Fin 3 → ℕ} (hoff : off = ![k, 0, 0]) (inb) (a : Fin 512) (b : Fin 8192) :
    ((((wslotM off inb).view.emb (ix2 a b) : S2x512x8192.Idx) 0).val = k) ∧ ((((wslotM off inb).view.emb (ix2 a b) : S2x512x8192.Idx) 1).val = a.val)
      ∧ ((((wslotM off inb).view.emb (ix2 a b) : S2x512x8192.Idx) 2).val = b.val) := by
  subst hoff
  have e : ((wslotM ![k, 0, 0] inb).view.emb (ix2 a b) : S2x512x8192.Idx)
      = (Rect.unit (s := S2x512x8192) ![k, 0, 0] S1x512x8192.size inb).emb (ix3 (⟨0, Nat.one_pos⟩ : Fin 1) a b) :=
    congrArg (Rect.unit (s := S2x512x8192) ![k, 0, 0] S1x512x8192.size inb).emb (reshapeEquiv_ix2_1ab _ a b)
  rw [e]
  refine ⟨?_, ?_, ?_⟩
  · show k + 1 * 0 = _; omega
  · show 0 + 1 * a.val = _; omega
  · show 0 + 1 * b.val = _; omega

theorem wrowsM_emb {q : ℕ} {off : Fin 2 → ℕ} (hoff : off = ![512 * q, 0]) (inb) (a : Fin 512) (b : Fin 8192) :
    ((((wrowsM off inb).view.emb (ix2 a b) : S4096x8192.Idx) 0).val = 512 * q + a.val) ∧ ((((wrowsM off inb).view.emb (ix2 a b) : S4096x8192.Idx) 1).val = b.val) := by
  subst hoff
  refine ⟨?_, ?_⟩
  · show 512 * q + 1 * a.val = _; omega
  · show 0 + 1 * b.val = _; omega

end Cert.Exchange

end
-- ==== Proof.Protocol.lean ====
/-
# The protocol of the exchange

Every device owns a slot of its landing buffer per device. It lends slot `t` to device `t` with the signal it raises
on `t`'s barrier semaphore; when its own barrier has counted the 31 signals it holds its slot on every other device,
and sends each its rows of `x`. A received block comes back with the receive semaphore, the sent rows with the send
semaphore; a chunk of `w` is copied into one of two slots and comes back with that slot's semaphore, four times for
each slot. This module states who owes which semaphore what (a schedule of the rounds library), what the buffers hold
at each point, and the order in which waits are allowed (levels).
-/
module

public import proofs.«01_k».proof.Proof.Places

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The protocol's own ghost state: rounds whose duties are named by the device that pays them. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ)

/-! ## Cells -/

abbrev barCell (c : Dev nD) : GSem nD τ sig := ((c : Thread nD τ), .reg barS)
abbrev wcCell (c : Dev nD) (s : Fin 2) : GSem nD τ sig := ((c : Thread nD τ), .dma (wcS s))
/-- Device `c`'s cell for its block sent to `t`; -/
abbrev sndCell (c t : Dev nD) : GSem nD τ sig := ((c : Thread nD τ), .dma (sndS t))
/-- device `c`'s cell for the block it gets from `s`. -/
abbrev rcvCell (c s : Dev nD) : GSem nD τ sig := ((c : Thread nD τ), .dma (rcvS s))

/-- What a semaphore of a device is for. -/
inductive Use where
  | bar | wc (s : Fin 2) | snd (t : Dev nD) | rcv (s : Dev nD) | other

def useOf : SemLoc sig → Use
  | .reg s => if s = barS then .bar else .other
  | .dma q => if h : q.val < 2 then .other
      else if h2 : q.val < 4 then .wc ⟨q.val - 2, by omega⟩
      else if h3 : q.val < 36 then .snd ⟨q.val - 4, by show q.val - 4 < 32; omega⟩
      else .rcv ⟨q.val - 36, by have : q.val < 68 := q.isLt; show q.val - 36 < 32; omega⟩

theorem useOf_bar : useOf (.reg barS) = .bar := by unfold useOf; exact if_pos rfl
theorem useOf_wc (s : Fin 2) : useOf (.dma (wcS s)) = .wc s := by
  have := s.isLt
  show (if h : 2 + s.val < 2 then _ else if h2 : 2 + s.val < 4 then Use.wc ⟨2 + s.val - 2, _⟩ else _) = _
  rw [dif_neg (by omega), dif_pos (by omega)]; exact congrArg Use.wc (Fin.ext (by show 2 + s.val - 2 = _; omega))
theorem useOf_snd (t : Dev nD) : useOf (.dma (sndS t)) = .snd t := by
  have : t.val < 32 := t.isLt
  show (if h : 4 + t.val < 2 then _ else if h2 : 4 + t.val < 4 then _ else if h3 : 4 + t.val < 36 then Use.snd ⟨4 + t.val - 4, _⟩ else _) = _
  rw [dif_neg (by omega), dif_neg (by omega), dif_pos (by omega)]; exact congrArg Use.snd (Fin.ext (by show 4 + t.val - 4 = _; omega))
theorem useOf_rcv (s : Dev nD) : useOf (.dma (rcvS s)) = .rcv s := by
  have : s.val < 32 := s.isLt
  show (if h : 36 + s.val < 2 then _ else if h2 : 36 + s.val < 4 then _ else if h3 : 36 + s.val < 36 then _ else Use.rcv ⟨36 + s.val - 36, _⟩) = _
  rw [dif_neg (by omega), dif_neg (by omega), dif_neg (by omega)]; exact congrArg Use.rcv (Fin.ext (by show 36 + s.val - 36 = _; omega))

/-- The bytes one block of the exchange credits, and one chunk of `w`. -/
def NL : ℕ := (slotM (slotOff 0) (by decide)).view.dmaCredit
def NW : ℕ := (wslotM ![0, 0, 0] inb_S2x512x8192_S1x512x8192_0_0_0).view.dmaCredit
theorem NL_pos : 0 < NL := View.dmaCredit_pos _ (by decide)
theorem NW_pos : 0 < NW := View.dmaCredit_pos _ (by decide)

/-! ## Contents -/

/-- The staged `x` of device `c`. -/
def xstg (c : Dev nD) : (cc0_stg0_0 : Ref sig .tc).ty.Contents (Elt F) :=
  (win0_0.blk (0 : Fin 1)).view.read (Elt F) (m ((c : Thread nD τ).loc main_arg0))
/-- It, cast. -/
def xb (c : Dev nD) : (cc0_scratch0 : Ref sig .tc).ty.Contents (Elt F) := k0_pay2 (xstg m c)

/-- The landing buffer of device `c`, full: slot `s` holds rows `128 c …` of device `s`'s cast `x`. -/
def landed (c : Dev nD) : (cc0_scratch1 : Ref sig .tc).ty.Contents (Elt F) := fun i : S8x128x512.Idx =>
  xb m ⟨srcOf i, srcOf_lt i⟩ (ix2 (⟨128 * c.val + (i 1).val, by have h : c.val < 32 := c.isLt; have h1 : (i 1).val < 128 := (i 1).isLt; omega⟩ : Fin 4096)
    (⟨(i 2).val % 128, Nat.mod_lt _ (by decide)⟩ : Fin 128))

/-- The chunk of `w` device `c` uses in turn `q`. -/
def chunk (c : Dev nD) (q : ℕ) : ℕ := (c.val / 4 + q) % 8
theorem chunk_lt (c : Dev nD) (q : ℕ) : chunk c q < 8 := Nat.mod_lt _ (by decide)

/-- A `w` slot holding the chunk of turn `q`. -/
def wch (c : Dev nD) (q : ℕ) : (cc0_scratch2 : Ref sig .tc).ty.Contents (Elt F) := fun i : S2x512x8192.Idx =>
  (m ((c : Thread nD τ).loc main_arg1) : S4096x8192.Idx → Elt F .f32)
    (ix2 (⟨512 * chunk c q + (i 1).val, by have h := chunk_lt c q; have h1 : (i 1).val < 512 := (i 1).isLt; omega⟩ : Fin 4096) (⟨(i 2).val, (i 2).isLt⟩ : Fin 8192))

/-! ## Pieces of the buffers -/

def slotPts (c : Dev nD) (s : Dev nD) (f : Buf (Elt F) ((c : Thread nD τ).loc cc0_scratch1)) : sProp 𝕄 :=
  ((c : Thread nD τ).loc cc0_scratch1) ↦[slot s.val]{fullShare} f
def rowsPts (c t : Dev nD) : sProp 𝕄 :=
  ((c : Thread nD τ).loc cc0_scratch0) ↦[rows t.val]{fullShare} xb m c
def wslotPts (c : Dev nD) (s : ℕ) (f : Buf (Elt F) ((c : Thread nD τ).loc cc0_scratch2)) : sProp 𝕄 :=
  ((c : Thread nD τ).loc cc0_scratch2) ↦[wslot s]{fullShare} f
def wrowsPts (c : Dev nD) (q : ℕ) : sProp 𝕄 :=
  ((c : Thread nD τ).loc main_arg1) ↦[wrows (chunk c q)]{fullShare} m ((c : Thread nD τ).loc main_arg1)

omit [FloatOps F] in
instance slotPts_storable (c s : Dev nD) (f) : BI.Storable (upEmb : UEmb _ 𝕄) (slotPts (F := F) c s f) := by unfold slotPts; infer_instance
instance rowsPts_storable (c t : Dev nD) : BI.Storable (upEmb : UEmb _ 𝕄) (rowsPts (F := F) m c t) := by unfold rowsPts; infer_instance
omit [FloatOps F] in
instance wslotPts_storable (c : Dev nD) (s : ℕ) (f) : BI.Storable (upEmb : UEmb _ 𝕄) (wslotPts (F := F) c s f) := by unfold wslotPts; infer_instance
omit [FloatOps F] in
instance wrowsPts_storable (c : Dev nD) (q : ℕ) : BI.Storable (upEmb : UEmb _ 𝕄) (wrowsPts (F := F) m c q) := by unfold wrowsPts; infer_instance

/-! ## The schedule -/

/-- What device `d` hands device `c` with its signal: its slot for `c`, and that its receive cell for `c` has begun. -/
def lend (d c : Dev nD) : sProp 𝕄 := iprop((∃ f, slotPts d c f) ∗ reached ER (rcvCell d c) 0)

/-- A barrier cell: one unit from every other device. A `w` slot's cell: four copies, one after the other. A send or
    receive cell: one block, except a device's cell for itself, which is not used. -/
def Rd : Rounds.Schedule (GSem nD τ sig) (Dev nD) 𝕄 where
  duties g r := match useOf g.2 with
    | .bar => if r = 0 then Finset.univ.erase g.1.1 else ∅
    | .wc _ => if r < 4 then {0} else ∅
    | .snd t => if r = 0 ∧ t ≠ g.1.1 then {0} else ∅
    | .rcv s => if r = 0 ∧ s ≠ g.1.1 then {0} else ∅
    | .other => ∅
  unitless _ := False
  amount g _ _ := match useOf g.2 with
    | .bar => 1
    | .wc _ => NW
    | _ => NL
  payload g r d := match useOf g.2 with
    | .bar => lend d g.1.1
    | .wc s => iprop(wslotPts g.1.1 s.val (wch m g.1.1 (2 * r + s.val)) ∗ wrowsPts m g.1.1 (2 * r + s.val))
    | .snd t => rowsPts m g.1.1 t
    | .rcv s => slotPts g.1.1 s (landed m g.1.1)
    | .other => iprop(emp)
  amount_pos g _ _ _ := by
    cases useOf g.2
    exacts [Nat.one_pos, NW_pos, NL_pos, NL_pos, NL_pos]

instance Rd_payload_storable (g : GSem nD τ sig) (r : ℕ) (d : Dev nD) : BI.Storable (upEmb : UEmb _ 𝕄) ((Rd (F := F) m).payload g r d) := by
  show BI.Storable upEmb (match useOf g.2 with
    | .bar => lend d g.1.1
    | .wc s => iprop(wslotPts g.1.1 s.val (wch m g.1.1 (2 * r + s.val)) ∗ wrowsPts m g.1.1 (2 * r + s.val))
    | .snd t => rowsPts m g.1.1 t
    | .rcv s => slotPts g.1.1 s (landed m g.1.1)
    | .other => iprop(emp))
  unfold lend
  cases useOf g.2 <;> infer_instance

section Table
variable (c : Dev nD)

theorem duties_bar : (Rd (F := F) m).duties (barCell c) 0 = Finset.univ.erase c := by dsimp only [Rd]; rw [useOf_bar]; rfl
theorem duties_wc (s : Fin 2) {r : ℕ} (hr : r < 4) : (Rd (F := F) m).duties (wcCell c s) r = {0} := by dsimp only [Rd]; rw [useOf_wc]; exact if_pos hr
theorem duties_snd {t : Dev nD} (h : t ≠ c) : (Rd (F := F) m).duties (sndCell c t) 0 = {0} := by dsimp only [Rd]; rw [useOf_snd]; exact if_pos ⟨rfl, h⟩
theorem duties_rcv {s : Dev nD} (h : s ≠ c) : (Rd (F := F) m).duties (rcvCell c s) 0 = {0} := by dsimp only [Rd]; rw [useOf_rcv]; exact if_pos ⟨rfl, h⟩

theorem over_bar : ∀ r, 1 ≤ r → (Rd (F := F) m).duties (barCell c) r = ∅ := fun r h => by dsimp only [Rd]; rw [useOf_bar]; exact if_neg (by omega)
theorem over_wc (s : Fin 2) : ∀ r, 4 ≤ r → (Rd (F := F) m).duties (wcCell c s) r = ∅ := fun r h => by dsimp only [Rd]; rw [useOf_wc]; exact if_neg (by omega)
theorem over_snd (t : Dev nD) : ∀ r, (if t = c then 0 else 1) ≤ r → (Rd (F := F) m).duties (sndCell c t) r = ∅ := fun r h => by
  dsimp only [Rd]; rw [useOf_snd]; refine if_neg fun h' => ?_; rw [if_neg h'.2] at h; omega
theorem over_rcv (s : Dev nD) : ∀ r, (if s = c then 0 else 1) ≤ r → (Rd (F := F) m).duties (rcvCell c s) r = ∅ := fun r h => by
  dsimp only [Rd]; rw [useOf_rcv]; refine if_neg fun h' => ?_; rw [if_neg h'.2] at h; omega

theorem amount_bar (r : ℕ) (d : Dev nD) : (Rd (F := F) m).amount (barCell c) r d = 1 := by dsimp only [Rd]; rw [useOf_bar]
theorem amount_wc (s : Fin 2) (r : ℕ) (d : Dev nD) : (Rd (F := F) m).amount (wcCell c s) r d = NW := by dsimp only [Rd]; rw [useOf_wc]
theorem amount_snd (t : Dev nD) (r : ℕ) (d : Dev nD) : (Rd (F := F) m).amount (sndCell c t) r d = NL := by dsimp only [Rd]; rw [useOf_snd]
theorem amount_rcv (s : Dev nD) (r : ℕ) (d : Dev nD) : (Rd (F := F) m).amount (rcvCell c s) r d = NL := by dsimp only [Rd]; rw [useOf_rcv]

theorem expect_bar : (Rd (F := F) m).expect (barCell c) 0 = 31 := by
  unfold Schedule.expect Schedule.amountOf
  rw [duties_bar, Finset.sum_congr rfl fun d _ => amount_bar m c 0 d, Finset.sum_const, Finset.card_erase_of_mem (Finset.mem_univ _), Finset.card_univ, Fintype.card_fin]
  rfl
theorem expect_wc (s : Fin 2) {r : ℕ} (hr : r < 4) : (Rd (F := F) m).expect (wcCell c s) r = NW := by
  unfold Schedule.expect Schedule.amountOf; rw [duties_wc m c s hr, Finset.sum_singleton, amount_wc]
theorem expect_snd {t : Dev nD} (h : t ≠ c) : (Rd (F := F) m).expect (sndCell c t) 0 = NL := by
  unfold Schedule.expect Schedule.amountOf; rw [duties_snd m c h, Finset.sum_singleton, amount_snd]
theorem expect_rcv {s : Dev nD} (h : s ≠ c) : (Rd (F := F) m).expect (rcvCell c s) 0 = NL := by
  unfold Schedule.expect Schedule.amountOf; rw [duties_rcv m c h, Finset.sum_singleton, amount_rcv]

theorem payload_bar (r : ℕ) (d : Dev nD) : (Rd (F := F) m).payload (barCell c) r d = lend d c := by dsimp only [Rd]; rw [useOf_bar]
theorem payload_wc (s : Fin 2) (r : ℕ) (d : Dev nD) : (Rd (F := F) m).payload (wcCell c s) r d
    = iprop(wslotPts c s.val (wch m c (2 * r + s.val)) ∗ wrowsPts m c (2 * r + s.val)) := by dsimp only [Rd]; rw [useOf_wc]
theorem payload_snd (t : Dev nD) (r : ℕ) (d : Dev nD) : (Rd (F := F) m).payload (sndCell c t) r d = rowsPts m c t := by dsimp only [Rd]; rw [useOf_snd]
theorem payload_rcv (s : Dev nD) (r : ℕ) (d : Dev nD) : (Rd (F := F) m).payload (rcvCell c s) r d = slotPts c s (landed m c) := by dsimp only [Rd]; rw [useOf_rcv]

theorem rest_bar : bigSep ((Rd (F := F) m).duties (barCell c) 0 \ ∅) (fun d => (Rd (F := F) m).payload (barCell c) 0 d) = bigSep (Finset.univ.erase c) fun d => lend d c := by
  rw [Finset.sdiff_empty, duties_bar]; exact bigSep_congr fun d _ => payload_bar m c 0 d
theorem rest_wc (s : Fin 2) {r : ℕ} (hr : r < 4) : bigSep ((Rd (F := F) m).duties (wcCell c s) r \ ∅) (fun d => (Rd (F := F) m).payload (wcCell c s) r d)
    = iprop(wslotPts c s.val (wch m c (2 * r + s.val)) ∗ wrowsPts m c (2 * r + s.val)) := by
  rw [Finset.sdiff_empty, duties_wc m c s hr, bigSep_singleton, payload_wc]
theorem rest_snd {t : Dev nD} (h : t ≠ c) : bigSep ((Rd (F := F) m).duties (sndCell c t) 0 \ ∅) (fun d => (Rd (F := F) m).payload (sndCell c t) 0 d) = rowsPts m c t := by
  rw [Finset.sdiff_empty, duties_snd m c h, bigSep_singleton, payload_snd]
theorem rest_rcv {s : Dev nD} (h : s ≠ c) : bigSep ((Rd (F := F) m).duties (rcvCell c s) 0 \ ∅) (fun d => (Rd (F := F) m).payload (rcvCell c s) 0 d) = slotPts c s (landed m c) := by
  rw [Finset.sdiff_empty, duties_rcv m c h, bigSep_singleton, payload_rcv]

end Table

/-! ## Sums from an index on -/

/-- The sum of the terms of devices `k` and above. -/
def sumFrom (f : Dev nD → CellTallies nD τ sig Unit) (k : ℕ) : CellTallies nD τ sig Unit := ∑ t : Dev nD, if k ≤ t.val then f t else 0

theorem sumFrom_step (f : Dev nD → CellTallies nD τ sig Unit) (t : Dev nD) : sumFrom f t.val = sumFrom f (t.val + 1) + f t := by
  unfold sumFrom
  rw [← Finset.add_sum_erase _ _ (Finset.mem_univ t), ← Finset.add_sum_erase (Finset.univ : Finset (Dev nD)) (fun s : Dev nD => if t.val + 1 ≤ s.val then f s else 0) (Finset.mem_univ t),
    if_pos le_rfl, if_neg (by omega), zero_add, add_comm]
  refine congrArg (· + f t) (Finset.sum_congr rfl fun s hs => ?_)
  have hne : s.val ≠ t.val := fun h => (Finset.mem_erase.mp hs).1 (Fin.ext h)
  by_cases h : t.val ≤ s.val
  · rw [if_pos h, if_pos (by omega)]
  · rw [if_neg h, if_neg (by omega)]

theorem sumFrom_end (f : Dev nD → CellTallies nD τ sig Unit) : sumFrom f 32 = 0 :=
  Finset.sum_eq_zero fun t _ => if_neg (by have : t.val < 32 := t.isLt; omega)

/-- What device `c` owes device `t`'s barrier cell: a unit; -/
def owedBar (c t : Dev nD) : CellTallies nD τ sig Unit := if t = c then 0 else tallyAt (barCell t) () 1
/-- and `t`'s receive cell for `c`: a block. -/
def owedRcv (c t : Dev nD) : CellTallies nD τ sig Unit := if t = c then 0 else tallyAt (rcvCell t c) () NL

def O₀ (c : Dev nD) : CellTallies nD τ sig Unit := sumFrom (owedRcv c) 0 + sumFrom (owedBar c) 0

/-! ## Levels -/

def L (g : GSem nD τ sig) : Finset Unit := if g.1.2 = .tc then {()} else ∅
/-- Receive cells above barrier cells, these above the rest. -/
def lv (g : GSem nD τ sig) (_ : Unit) : ℕ := match useOf g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [useOf_bar]
theorem lv_rcv (c s : Dev nD) (u : Unit) : lv (rcvCell c s) u = 2 := by unfold lv; rw [useOf_rcv]

theorem sumFrom_pos {f : Dev nD → CellTallies nD τ sig Unit} {k : ℕ} {g : GSem nD τ sig} {u : Unit} (h : 0 < sumFrom f k g u) : ∃ t, 0 < f t g u := by
  unfold sumFrom at h
  rw [Finset.sum_apply, Finsupp.finset_sum_apply] at h
  obtain ⟨t, -, ht⟩ := Finset.exists_ne_zero_of_sum_ne_zero (Nat.pos_iff_ne_zero.mp h)
  refine ⟨t, Nat.pos_of_ne_zero ?_⟩
  by_cases hk : k ≤ t.val
  · rwa [if_pos hk] at ht
  · rw [if_neg hk] at ht; exact absurd rfl ht

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h; exact Nat.lt_irrefl 0 h

theorem owedRcv_pos {c : Dev nD} {k : ℕ} {g : GSem nD τ sig} {u : Unit} (h : 0 < sumFrom (owedRcv c) k g u) : ∃ t : Dev nD, g = rcvCell t c := by
  obtain ⟨t, ht⟩ := sumFrom_pos h
  unfold owedRcv at ht
  split at ht
  · exact absurd ht (Nat.lt_irrefl 0)
  · exact ⟨t, tally_pos ht⟩
theorem owedBar_pos {c : Dev nD} {k : ℕ} {g : GSem nD τ sig} {u : Unit} (h : 0 < sumFrom (owedBar c) k g u) : ∃ t : Dev nD, g = barCell t := by
  obtain ⟨t, ht⟩ := sumFrom_pos h
  unfold owedBar at ht
  split at ht
  · exact absurd ht (Nat.lt_irrefl 0)
  · exact ⟨t, tally_pos ht⟩

theorem O₀_pos {c : Dev nD} {g : GSem nD τ sig} {u : Unit} (h : 0 < O₀ c g u) : (∃ t : Dev nD, g = rcvCell t c) ∨ ∃ t : Dev nD, g = barCell t := by
  unfold O₀ at h
  rw [Pi.add_apply, Finsupp.add_apply] at h
  rcases Nat.eq_zero_or_pos (sumFrom (owedRcv c) 0 g u) with h0 | h0
  · rw [h0, Nat.zero_add] at h; exact Or.inr (owedBar_pos h)
  · exact Or.inl (owedRcv_pos h0)

/-- At its barrier wait a device owes receive cells only. -/
theorem mayWait_bar (c : Dev nD) : (levAts L lv : sProp 𝕄) ⊢ MayWait (c : Thread nD τ) (.reg barS) () (sumFrom (owedRcv c) 0) :=
  MayOwe.of_cut (L := L) (lev := lv) 1 (fun p hp => by rw [Finset.mem_singleton.mp hp, L_tc]; exact Finset.mem_singleton_self _)
    (fun g u hg => by obtain ⟨t, rfl⟩ := owedRcv_pos hg; rw [L_tc]; exact Finset.mem_singleton_self _)
    (fun p hp => by rw [Finset.mem_singleton.mp hp]; exact (lv_bar c ()).le)
    (fun g u hg => by obtain ⟨t, rfl⟩ := owedRcv_pos hg; rw [lv_rcv]; decide)

/-- A wait on a staging semaphore, at launch. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨t, rfl⟩ <;> rw [L_tc] <;> exact Finset.mem_singleton_self _)
      (fun p hp => by
        rw [Finset.mem_singleton.mp hp]
        show (match useOf (.dma q) with | .bar => 1 | .rcv _ => 2 | _ => 0) ≤ 0
        rw [show useOf (.dma q) = .other from dif_pos hq])
      (fun g u hg => by
        rcases O₀_pos hg with ⟨t, rfl⟩ | ⟨t, rfl⟩
        · rw [lv_rcv]; decide
        · rw [lv_bar]; decide)
  · rw [MayWait_zero]; iintro -; iempintro

/-! ## The shared records -/

/-- Every device's semaphores: the barrier's, then the two `w` slots', the 32 send and the 32 receive semaphores. -/
def csem (k : Fin 67) : SemLoc sig := if h : k.val = 0 then .reg barS else .dma ⟨k.val + 1, by have := k.isLt; show k.val + 1 < 68; omega⟩
abbrev kcell (ck : Dev nD × Fin 67) : GSem nD τ sig := ((ck.1 : Thread nD τ), csem ck.2)

def kBar : Fin 67 := 0
def kWc (s : Fin 2) : Fin 67 := ⟨1 + s.val, by have := s.isLt; omega⟩
def kSnd (t : Dev nD) : Fin 67 := ⟨3 + t.val, by have : t.val < 32 := t.isLt; omega⟩
def kRcv (s : Dev nD) : Fin 67 := ⟨35 + s.val, by have : s.val < 32 := s.isLt; omega⟩

theorem csem_bar : csem kBar = .reg barS := dif_pos rfl
theorem csem_wc (s : Fin 2) : csem (kWc s) = .dma (wcS s) :=
  (dif_neg (show ¬ 1 + s.val = 0 by omega)).trans (congrArg SemLoc.dma (Fin.ext (show 1 + s.val + 1 = 2 + s.val by omega)))
theorem csem_snd (t : Dev nD) : csem (kSnd t) = .dma (sndS t) :=
  (dif_neg (show ¬ 3 + t.val = 0 by omega)).trans (congrArg SemLoc.dma (Fin.ext (show 3 + t.val + 1 = 4 + t.val by omega)))
theorem csem_rcv (s : Dev nD) : csem (kRcv s) = .dma (rcvS s) :=
  (dif_neg (show ¬ 35 + s.val = 0 by omega)).trans (congrArg SemLoc.dma (Fin.ext (show 35 + s.val + 1 = 36 + s.val by omega)))

/-- What every device may use at any time: the cells' invariants under the names `K`, that every cell has begun, the levels. -/
def records (K : Dev nD × Fin 67 → ℕ) : sProp 𝕄 :=
  iprop((bigSep Finset.univ fun ck : Dev nD × Fin 67 => cellInv ER (Rd m) (K ck) (kcell ck))
    ∗ (bigSep Finset.univ fun ck : Dev nD × Fin 67 => reached ER (kcell ck) 0) ∗ levAts L lv)

instance records_persistent (K : Dev nD × Fin 67 → ℕ) : BI.Persistent (records m K) := by unfold records; infer_instance

variable (K : Dev nD × Fin 67 → ℕ)

theorem rec_inv (c : Dev nD) (k : Fin 67) {sm : SemLoc sig} (h : csem k = sm) : records m K ⊢ cellInv ER (Rd m) (K (c, k)) ((c : Thread nD τ), sm) := by
  subst h; unfold records
  iintro ⟨H, -, -⟩
  have e : (bigSep Finset.univ fun ck : Dev nD × Fin 67 => (cellInv ER (Rd m) (K ck) (kcell ck) : sProp 𝕄)) ⊢ cellInv ER (Rd m) (K (c, k)) (kcell (c, k)) :=
    bigSep_elim (Finset.mem_univ (c, k))
  iapply e; iexact H
theorem rec_reached (c : Dev nD) (k : Fin 67) {sm : SemLoc sig} (h : csem k = sm) : records m K ⊢ reached ER ((c : Thread nD τ), sm) 0 := by
  subst h; unfold records
  iintro ⟨-, H, -⟩
  have e : (bigSep Finset.univ fun ck : Dev nD × Fin 67 => (reached ER (kcell ck) 0 : sProp 𝕄)) ⊢ reached ER (kcell (c, k)) 0 :=
    bigSep_elim (Finset.mem_univ (c, k))
  iapply e; iexact H
theorem rec_lev : records m K ⊢ levAts L lv := by unfold records; iintro ⟨-, -, H⟩; iexact H
theorem rec_mayWait (c : Dev nD) : records m K ⊢ MayWait (c : Thread nD τ) (.reg barS) () (sumFrom (owedRcv c) 0) := by
  have h := mayWait_bar (F := F) c
  unfold records; iintro ⟨-, -, H⟩; iapply h; iexact H

/-- One member of a conjunction taken out, to be put back changed: the other members are the same in both. -/
theorem focus {I : Type} [Fintype I] [DecidableEq I] {Φ Ψ : I → sProp 𝕄} (q : I) (h : ∀ s, s ≠ q → Φ s = Ψ s) :
    bigSep Finset.univ Φ ⊢ iprop(Φ q ∗ (Ψ q -∗ bigSep Finset.univ Ψ)) := by
  rw [bigSep_univ_at Φ q, bigSep_univ_at Ψ q, bigSep_congr fun s hs => h s (Finset.mem_erase.mp hs).1]
  iintro ⟨H1, H2⟩
  isplitl [H1]; · iexact H1
  iintro H
  isplitl [H] <;> iassumption

end Cert.Exchange

end
-- ==== Proof.Steps.lean ====
/-
# One step of each kind

The kernel repeats six kinds of step for every device or every chunk: raise another device's barrier, send it its
block, wait for its block, wait for a block sent, start a copy of a chunk of `w`, wait for one. Each kind is one rule
here, for any device or chunk, over a state that counts how many of them are done. A step written for one device runs
only on the others (`if` in the kernel); its rule covers both cases, so no proof looks at which device it runs on.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-- A program's specification on device `c`. -/
def run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What the device owes, whatever it has waited for. -/
def owe (O : CellTallies nD τ sig Unit) : sProp 𝕄 := iprop(∃ W, owes (c : Thread nD τ) O W)

variable {α : Type} {R : Prog (TpuEff nD τ sig (Elt F) Λ₀ .tc) α} {cond : BitVec 1}
  {Q : α → sProp (MT nD τ sig Unit (Elt F) ℕ UU ℕ)} {Fr : sProp (MT nD τ sig Unit (Elt F) ℕ UU ℕ)}

/-! ## Raising a barrier -/

/-- What the signal to `t` hands over. -/
def sigTok (t : Dev nD) : sProp 𝕄 := if t = c then iprop(emp) else iprop(dutyTok ER (barCell t) 0 c ∗ ∃ f, slotPts c t f)
/-- The signals to devices below `k` are done. -/
def Sig (k : ℕ) : sProp 𝕄 :=
  iprop(owe c (sumFrom (owedRcv c) 0 + sumFrom (owedBar c) k) ∗ bigSep Finset.univ fun t : Dev nD => if t.val < k then iprop(emp) else sigTok c t)

theorem sig_step (t : Dev nD) (hc : cond = 1#1 ↔ t ≠ c) {n : ℕ} {hn : cond = 1#1 → n < nD} (hnt : n = t.val)
    (hR : iprop(records m K ∗ Sig c (t.val + 1) ∗ Fr) ⊢ run c R Q) :
    iprop(records m K ∗ Sig c t.val ∗ Fr)
      ⊢ run c (if h : cond = 1#1 then (semSignalWord (⟨n, hn h⟩ : Dev nD) barS 1#32 >>= fun _ => R) else R) Q := by
  subst hnt
  have hoff : ∀ s : Dev nD, s ≠ t → (if s.val < t.val then iprop(emp) else sigTok (F := F) c s) = (if s.val < t.val + 1 then iprop(emp) else sigTok c s) := fun s hs => by
    have : s.val ≠ t.val := fun h => hs (Fin.ext h)
    by_cases h : s.val < t.val
    · rw [if_pos h, if_pos (by omega)]
    · rw [if_neg h, if_neg (by omega)]
  have hat : (if t.val < t.val then iprop(emp) else sigTok (F := F) c t) = sigTok c t := if_neg (lt_irrefl _)
  have hat' : (if t.val < t.val + 1 then iprop(emp) else sigTok (F := F) c t) = iprop(emp) := if_pos (Nat.lt_succ_self _)
  have hf := focus (F := F) t hoff
  rw [hat, hat'] at hf
  by_cases htc : t = c
  · rw [dif_neg (fun h => hc.mp h htc)]
    refine Entails.trans (PROP := sProp 𝕄) ?_ hR
    unfold Sig
    have ho : sumFrom (owedBar c) t.val = sumFrom (owedBar c) (t.val + 1) := by rw [sumFrom_step, owedBar, if_pos htc, add_zero]
    rw [ho]
    iintro ⟨H1, ⟨H2, H3⟩, H4⟩
    ihave H := hf $$ H3
    icases H with ⟨-, Hb⟩
    isplitl [H1]; · iexact H1
    isplitr [H4]
    · isplitl [H2]; · iexact H2
      iapply Hb; iempintro
    iexact H4
  · rw [dif_pos (hc.mpr htc)]
    unfold run at hR ⊢
    simp only [semSignalWord, Prog.bind_op, Prog.bind_ret]
    unfold Sig at hR ⊢
    unfold owe at hR ⊢
    have ho : sumFrom (owedRcv c) 0 + sumFrom (owedBar c) t.val = sumFrom (owedRcv c) 0 + sumFrom (owedBar c) (t.val + 1) + tallyAt (barCell t) () 1 := by
      rw [sumFrom_step, owedBar, if_neg htc, add_assoc]
    rw [sigTok, if_neg htc] at hf
    iintro ⟨#HR, ⟨⟨%W, HO⟩, H3⟩, H4⟩
    ihave H := hf $$ H3
    icases H with ⟨⟨Ht, Hs⟩, Hb⟩
    iapply (Rounds.wp_signal 𝒱₀ ER (Rd m) (c : Thread nD τ) none (dst := (t : Thread nD τ)) (κ := K (t, kBar)) (d := c)
      (by rw [duties_bar]; exact Finset.mem_erase.mpr ⟨Ne.symm htc, Finset.mem_univ _⟩) ((amount_bar m t 0 c).trans (by decide)) () _ ho) $$ [HO Ht Hs]
    · isplitr; · iapply (rec_inv m K t kBar csem_bar); iexact HR
      isplitl [HO]; · iexact HO
      isplitl [Ht]; · iexact Ht
      isplitl [Hs]
      · rw [payload_bar]; unfold lend
        isplitl [Hs]; · iexact Hs
        iapply (rec_reached m K c (kRcv t) (csem_rcv t)); iexact HR
      iapply (rec_reached m K t kBar csem_bar); iexact HR
    iintro HO
    iapply hR
    isplitr; · iexact HR
    isplitr [H4]
    · isplitl [HO]; · iexists W; iexact HO
      iapply Hb; iempintro
    iexact H4

/-! ## What a block and a chunk hold where they land -/

omit [FloatOps F] in
theorem slotPts_eq (d s : Dev nD) {off : Fin 3 → ℕ} (hoff : off = slotOff s.val) (inb) (f : Buf (Elt F) ((d : Thread nD τ).loc cc0_scratch1)) :
    ((slotM off inb).view.loc (d : Thread nD τ) ↦[(slotM off inb).view.set]{fullShare} f : sProp 𝕄) = slotPts d s f := by
  unfold slotPts; rw [slotM_set hoff]
theorem rowsPts_eq (t : Dev nD) {off : Fin 2 → ℕ} (hoff : off = ![128 * t.val, 0]) (inb) :
    ((rowsM off inb).view.loc (c : Thread nD τ) ↦[(rowsM off inb).view.set]{fullShare} xb m c : sProp 𝕄) = rowsPts m c t := by
  unfold rowsPts; rw [rowsM_set hoff]
omit [FloatOps F] in
theorem wslotPts_eq (k : ℕ) {off : Fin 3 → ℕ} (hoff : off = ![k, 0, 0]) (inb) (f : Buf (Elt F) ((c : Thread nD τ).loc cc0_scratch2)) :
    ((wslotM off inb).view.loc (c : Thread nD τ) ↦[(wslotM off inb).view.set]{fullShare} f : sProp 𝕄) = wslotPts c k f := by
  unfold wslotPts; rw [wslotM_set hoff]
omit [FloatOps F] in
theorem wrowsPts_eq (q : ℕ) {off : Fin 2 → ℕ} (hoff : off = ![512 * chunk c q, 0]) (inb) :
    ((wrowsM off inb).view.loc (c : Thread nD τ) ↦[(wrowsM off inb).view.set]{fullShare} m ((c : Thread nD τ).loc main_arg1) : sProp 𝕄) = wrowsPts m c q := by
  unfold wrowsPts; rw [wrowsM_set hoff]

/-- Device `c`'s rows for `t`, written to slot `c` of `t`, are what `t`'s full landing buffer holds there. -/
theorem block_lands (t : Dev nD) {off : Fin 3 → ℕ} (hoff : off = slotOff c.val) (inb) {off' : Fin 2 → ℕ} (hoff' : off' = ![128 * t.val, 0]) (inb')
    (f : Buf (Elt F) ((t : Thread nD τ).loc cc0_scratch1)) :
    ((slotM off inb).view.loc (t : Thread nD τ) ↦[(slotM off inb).view.set]{fullShare}
        ((slotM off inb).view.write (Elt F) f ((rowsM off' inb').view.read (Elt F) (xb m c)) Finset.univ) : sProp 𝕄) = slotPts t c (landed m t) := by
  rw [← slotPts_eq t c hoff inb]
  refine pointsTo_congr fun i hi => ?_
  obtain ⟨y, hy⟩ := View.exists_emb_of_mem_set _ hi
  subst hy
  rw [View.write_emb_of_mem _ _ (Finset.mem_univ y), View.read_apply, cast_cast, cast_eq]
  rw [eq_ix2 y]
  have hc : c.val < 32 := c.isLt
  have ht : t.val < 32 := t.isLt
  obtain ⟨e0, e1, e2⟩ := slotM_emb hoff inb (y 0) (y 1)
  obtain ⟨g0, g1⟩ := rowsM_emb hoff' inb' (y 0) (y 1)
  have hy1 : (y 1).val < 128 := (y 1).isLt
  have hs : srcOf ((slotM off inb).view.emb (ix2 (y 0) (y 1))) = c.val := by unfold srcOf; rw [e0, e2]; omega
  show xb m c _ = landed m t _
  unfold landed
  refine (congrArg (xb m c) ?_).trans (congrArg (fun d : Dev nD => xb m d _) (Fin.ext hs.symm : c = ⟨srcOf _, srcOf_lt _⟩))
  refine (eq_ix2 _).trans ?_
  refine congrArg₂ ix2 (Fin.ext ?_) (Fin.ext ?_)
  · exact g0.trans (congrArg (128 * t.val + ·) e1).symm
  · exact g1.trans ((congrArg (· % 128) e2).trans (by omega)).symm

/-- A chunk of `w`, written to a `w` slot. -/
theorem chunk_lands (q k : ℕ) {off : Fin 3 → ℕ} (hoff : off = ![k, 0, 0]) (inb) {off' : Fin 2 → ℕ} (hoff' : off' = ![512 * chunk c q, 0]) (inb')
    (f : Buf (Elt F) ((c : Thread nD τ).loc cc0_scratch2)) :
    ((wslotM off inb).view.loc (c : Thread nD τ) ↦[(wslotM off inb).view.set]{fullShare}
        ((wslotM off inb).view.write (Elt F) f ((wrowsM off' inb').view.read (Elt F) (m ((c : Thread nD τ).loc main_arg1))) Finset.univ) : sProp 𝕄)
      = wslotPts c k (wch m c q) := by
  rw [← wslotPts_eq c k hoff inb]
  refine pointsTo_congr fun i hi => ?_
  obtain ⟨y, hy⟩ := View.exists_emb_of_mem_set _ hi
  subst hy
  rw [View.write_emb_of_mem _ _ (Finset.mem_univ y), View.read_apply, cast_cast, cast_eq]
  rw [eq_ix2 y]
  obtain ⟨e0, e1, e2⟩ := wslotM_emb hoff inb (y 0) (y 1)
  obtain ⟨g0, g1⟩ := wrowsM_emb hoff' inb' (y 0) (y 1)
  show (m ((c : Thread nD τ).loc main_arg1) : S4096x8192.Idx → Elt F .f32) _ = wch m c q _
  unfold wch
  refine congrArg (m ((c : Thread nD τ).loc main_arg1) : S4096x8192.Idx → Elt F .f32) ((eq_ix2 _).trans ?_)
  refine congrArg₂ ix2 (Fin.ext ?_) (Fin.ext ?_)
  · exact g0.trans (congrArg (512 * chunk c q + ·) e1).symm
  · exact g1.trans e2.symm

/-! ## The barrier wait -/

/-- The wait for all 31: every device's slot for this one comes with it. -/
theorem bar_wait (hR : iprop(records m K ∗ (owe c (sumFrom (owedRcv c) 0) ∗ atPos ER (barCell c) 1 ∅ 0 ∗ bigSep (Finset.univ.erase c) fun t => lend t c) ∗ Fr) ⊢ run c R Q) :
    iprop(records m K ∗ (Sig c 32 ∗ cred (tallyAt (barCell c) () 31) ∗ atPos ER (barCell c) 0 ∅ 0) ∗ Fr)
      ⊢ run c (semWaitWord barS 31#32 >>= fun _ => R) Q := by
  unfold run at hR ⊢
  simp only [semWaitWord, Prog.bind_op, Prog.bind_ret]
  unfold Sig
  rw [sumFrom_end, add_zero]
  unfold owe at hR ⊢
  iintro ⟨#HR, ⟨⟨⟨%W, HO⟩, -⟩, Hc, Ha⟩, HF⟩
  iapply (Rounds.wp_wait_rest_token 𝒱₀ ER (Rd m) (c : Thread nD τ) none (κ := K (c, kBar))
      (wpE_semWait_eq 𝒱₀ (c : Thread nD τ) none Set.univ) (Set.mem_univ _) () (O := sumFrom (owedRcv c) 0) (W := W) (R := 0) (m := 0) (T := ∅)
      (by rw [expect_bar]; rfl)) $$ [HO Hc Ha]
  · isplitr; · iapply (rec_inv m K c kBar csem_bar); iexact HR
    isplitl [Hc]; · iexact Hc
    isplitl [HO]; · iexact HO
    isplitr; · iapply (rec_mayWait m K c); iexact HR
    iexact Ha
  iintro ⟨HO, Ha, -, Hp⟩
  ihave Hp := (Entails.of_eq (rest_bar m c)) $$ Hp
  iapply hR
  isplitr; · iexact HR
  isplitr [HF]
  · isplitl [HO]; · iexists _; iexact HO
    isplitl [Ha] <;> iassumption
  iexact HF

/-! ## Sending a block -/

/-- What the transfer to `t` needs; -/
def sndTok (t : Dev nD) : sProp 𝕄 :=
  if t = c then rowsPts m c c else iprop(dutyTok ER (sndCell c t) 0 0 ∗ dutyTok ER (rcvCell t c) 0 0 ∗ lend t c ∗ rowsPts m c t)
/-- what is left of it: the right to wait for it. -/
def sent (t : Dev nD) : sProp 𝕄 := if t = c then rowsPts m c c else cred (tallyAt (sndCell c t) () NL)
def Snd (k : ℕ) : sProp 𝕄 :=
  iprop(owe c (sumFrom (owedRcv c) k) ∗ bigSep Finset.univ fun t : Dev nD => if t.val < k then sent m c t else sndTok m c t)

/-- A family that switches from `Φ` to `Ψ` at `k`, focused on the member that switches. -/
theorem focus_at {Φ Ψ : Dev nD → sProp 𝕄} (t : Dev nD) :
    (bigSep Finset.univ fun s : Dev nD => if s.val < t.val then Ψ s else Φ s)
      ⊢ iprop(Φ t ∗ (Ψ t -∗ bigSep Finset.univ fun s : Dev nD => if s.val < t.val + 1 then Ψ s else Φ s)) := by
  have h := focus (F := F) (Φ := fun s : Dev nD => if s.val < t.val then Ψ s else Φ s) (Ψ := fun s : Dev nD => if s.val < t.val + 1 then Ψ s else Φ s) t fun s hs => by
    have : s.val ≠ t.val := fun h => hs (Fin.ext h)
    by_cases h : s.val < t.val
    · rw [if_pos h, if_pos (by omega)]
    · rw [if_neg h, if_neg (by omega)]
  rwa [if_neg (lt_irrefl _), if_pos (Nat.lt_succ_self _)] at h

theorem snd_op (t : Dev nD) (htc : t ≠ c) {n : ℕ} {hn : n < nD} (hnt : n = t.val)
    {offR : Fin 2 → ℕ} (hoffR : offR = ![128 * t.val, 0]) {inbR} {offL : Fin 3 → ℕ} (hoffL : offL = slotOff c.val) {inbL : ∀ i, offL i + S1x128x128.size i ≤ S8x128x512.size i}
    {sS sV : DmaSem sig} (hS : sS = sndS t) (hV : sV = rcvS c)
    {hsc : (slotM offL inbL).view.ref.isScScratch = false} {hsrc : (rowsM offR inbR).view.WordExact} {hdst : (slotM offL inbL).view.WordExact}
    {hty : DmaTarget.Typed .vmem (.dma sV) (.remote (Dev.tc (⟨n, hn⟩ : Dev nD)) (slotM offL inbL) (.dma sS) hsc)}
    (hR : iprop(records m K ∗ Snd m c (t.val + 1) ∗ Fr) ⊢ run c R Q) :
    iprop(records m K ∗ Snd m c t.val ∗ Fr)
      ⊢ run c (Prog.lift (.enqueueDma (rowsM offR inbR) (.remote (Dev.tc (⟨n, hn⟩ : Dev nD)) (slotM offL inbL) (.dma sS) hsc) (.dma sV) hsrc hdst hty) >>= fun _ => R) Q := by
  subst hnt hS hV
  have hf := focus_at (F := F) (Φ := sndTok m c) (Ψ := sent m c) t
  unfold run at hR ⊢
  simp only [Prog.lift, Prog.bind_op, Prog.bind_ret]
  unfold Snd at hR ⊢
  unfold owe at hR ⊢
  have ho : sumFrom (owedRcv c) t.val = sumFrom (owedRcv c) (t.val + 1) + tallyAt (rcvCell t c) () NL := by
    rw [sumFrom_step, owedRcv, if_neg htc]
  rw [sndTok, if_neg htc, sent, if_neg htc, lend] at hf
  iintro ⟨#HR, ⟨⟨%W, HO⟩, H3⟩, H4⟩
  ihave H := hf $$ H3
  icases H with ⟨⟨Ht1, Ht2, ⟨⟨%f, Hl⟩, #Hrc⟩, Hr⟩, Hb⟩
  have hN : (slotM offL inbL).view.amount (.dma (rcvS c)) = NL := rfl
  ihave Hl := (Entails.of_eq (slotPts_eq t c hoffL inbL f).symm) $$ Hl
  ihave Hr := (Entails.of_eq (rowsPts_eq m c t hoffR inbR).symm) $$ Hr
  iapply (Rounds.wp_send_pointsTo 𝒱₀ ER (Rd m) (c : Thread nD τ) none (c' := (t : Thread nD τ)) (κ₁ := K (c, kSnd t)) (κ₂ := K (t, kRcv c))
    (src := rowsM offR inbR) (dst := slotM offL inbL) (sS := .dma (sndS t)) (sem := .dma (rcvS c)) (hsc := hsc) (hsrc := hsrc) (hdst := hdst) (hsem := hty) (k := fun _ => R)
    (r₁ := 0) (r₂ := 0) (d₁ := 0) (d₂ := 0) (fs := xb m c) (fd := f)
    (by rw [duties_snd m c htc]; exact Finset.mem_singleton_self _) (by rw [duties_rcv m t (Ne.symm htc)]; exact Finset.mem_singleton_self _)
    () () NL hN (amount_snd m c t 0 0) (amount_rcv m t c 0 0) (sumFrom (owedRcv c) (t.val + 1)) ho (W := W)
    (by rw [payload_snd, rowsPts_eq m c t hoffR])
    (by rw [payload_rcv, block_lands m c t hoffL _ hoffR])) $$ [HO Ht1 Ht2 Hl Hr]
  · isplitr; · iapply (rec_inv m K c (kSnd t) (csem_snd t)); iexact HR
    isplitr; · iapply (rec_inv m K t (kRcv c) (csem_rcv c)); iexact HR
    isplitl [Hr]; · iexact Hr
    isplitl [Hl]; · iexact Hl
    isplitl [HO]; · iexact HO
    isplitl [Ht1]; · iexact Ht1
    isplitr; · iapply (rec_reached m K c (kSnd t) (csem_snd t)); iexact HR
    isplitl [Ht2]; · iexact Ht2
    iexact Hrc
  iintro ⟨Hc, HO⟩
  iapply hR
  isplitr; · iexact HR
  isplitr [H4]
  · isplitl [HO]; · iexists W; iexact HO
    iapply Hb; iexact Hc
  iexact H4

theorem snd_step (t : Dev nD) (hc : cond = 1#1 ↔ t ≠ c) {n : ℕ} {hn : cond = 1#1 → n < nD} (hnt : n = t.val)
    {offR : Fin 2 → ℕ} (hoffR : offR = ![128 * t.val, 0]) {inbR} {offL : Fin 3 → ℕ} (hoffL : offL = slotOff c.val) {inbL : cond = 1#1 → ∀ i, offL i + S1x128x128.size i ≤ S8x128x512.size i}
    {sS : DmaSem sig} (hS : sS = sndS t) {sV : cond = 1#1 → DmaSem sig} (hV : ∀ h, sV h = rcvS c)
    {hsc : ∀ h : cond = 1#1, (slotM offL (inbL h)).view.ref.isScScratch = false}
    {hsrc : (rowsM offR inbR).view.WordExact} {hdst : ∀ h : cond = 1#1, (slotM offL (inbL h)).view.WordExact}
    {hty : ∀ h : cond = 1#1, DmaTarget.Typed .vmem (.dma (sV h)) (.remote (Dev.tc (⟨n, hn h⟩ : Dev nD)) (slotM offL (inbL h)) (.dma sS) (hsc h))}
    (hR : iprop(records m K ∗ Snd m c (t.val + 1) ∗ Fr) ⊢ run c R Q) :
    iprop(records m K ∗ Snd m c t.val ∗ Fr)
      ⊢ run c (if h : cond = 1#1 then (Prog.lift (.enqueueDma (rowsM offR inbR) (.remote (Dev.tc (⟨n, hn h⟩ : Dev nD)) (slotM offL (inbL h)) (.dma sS) (hsc h))
          (.dma (sV h)) hsrc (hdst h) (hty h)) >>= fun _ => R) else R) Q := by
  by_cases htc : t = c
  · rw [dif_neg (fun h => hc.mp h htc)]
    refine Entails.trans (PROP := sProp 𝕄) ?_ hR
    have hf := focus_at (F := F) (Φ := sndTok m c) (Ψ := sent m c) t
    rw [sndTok, if_pos htc, sent, if_pos htc] at hf
    have ho : sumFrom (owedRcv c) t.val = sumFrom (owedRcv c) (t.val + 1) := by rw [sumFrom_step, owedRcv, if_pos htc, add_zero]
    unfold Snd
    rw [ho]
    iintro ⟨H1, ⟨H2, H3⟩, H4⟩
    ihave H := hf $$ H3
    icases H with ⟨Hr, Hb⟩
    isplitl [H1]; · iexact H1
    isplitr [H4]
    · isplitl [H2]; · iexact H2
      iapply Hb; iexact Hr
    iexact H4
  · rw [dif_pos (hc.mpr htc)]
    exact snd_op m K c t htc hnt hoffR hoffL hS (hV _) hR

/-! ## Waiting for a block sent -/

/-- Before the wait: the right to it; -/
def undrained (t : Dev nD) : sProp 𝕄 := iprop(sent m c t ∗ atPos ER (sndCell c t) 0 ∅ 0)
/-- after it: the rows are back. -/
def drained (t : Dev nD) : sProp 𝕄 := iprop(rowsPts m c t ∗ atPos ER (sndCell c t) (if t = c then 0 else 1) ∅ 0)
def Drn (k : ℕ) : sProp 𝕄 :=
  iprop(owe c 0 ∗ bigSep Finset.univ fun t : Dev nD => if t.val < k then drained m c t else undrained m c t)

theorem drn_op (t : Dev nD) (htc : t ≠ c)
    {offR : Fin 2 → ℕ} {inbR} {offL : Fin 3 → ℕ} {inbL : ∀ i, offL i + S1x128x128.size i ≤ S8x128x512.size i}
    {sS : DmaSem sig} (hS : sS = sndS t) {hsrc : (slotM offL inbL).view.WordExact} {hdst : (rowsM offR inbR).view.WordExact}
    (hR : iprop(records m K ∗ Drn m c (t.val + 1) ∗ Fr) ⊢ run c R Q) :
    iprop(records m K ∗ Drn m c t.val ∗ Fr)
      ⊢ run c (Prog.lift (.waitDma2 sS (slotM offL inbL) (rowsM offR inbR) hsrc hdst) >>= fun _ => R) Q := by
  subst hS
  have hf := focus_at (F := F) (Φ := undrained m c) (Ψ := drained m c) t
  unfold run at hR ⊢
  simp only [Prog.lift, Prog.bind_op, Prog.bind_ret]
  unfold Drn at hR ⊢
  unfold owe at hR ⊢
  rw [undrained, sent, if_neg htc, drained, if_neg htc] at hf
  have hw : ∀ G : PUnit → sProp 𝕄, wpE (defs₀ (F := F)) 𝒱₀ (c : Thread nD τ) none Set.univ (.waitDma2 (sndS t) (slotM offL inbL) (rowsM offR inbR) hsrc hdst) G
      = waitSpec (c : Thread nD τ) Set.univ (.dma (sndS t)) NL G := fun G => rfl
  iintro ⟨#HR, ⟨⟨%W, HO⟩, H3⟩, H4⟩
  ihave H := hf $$ H3
  icases H with ⟨⟨Hc, Ha⟩, Hb⟩
  iapply (Rounds.wp_wait_rest_token 𝒱₀ ER (Rd m) (c : Thread nD τ) none (κ := K (c, kSnd t)) hw (Set.mem_univ _) () (O := 0) (W := W) (R := 0) (m := 0) (T := ∅)
      (by rw [expect_snd m c htc, Nat.zero_add])) $$ [HO Hc Ha]
  · isplitr; · iapply (rec_inv m K c (kSnd t) (csem_snd t)); iexact HR
    isplitl [Hc]; · iexact Hc
    isplitl [HO]; · iexact HO
    isplitr; · rw [MayWait_zero]; iempintro
    iexact Ha
  iintro ⟨HO, Ha, -, Hp⟩
  ihave Hp := (Entails.of_eq (rest_snd m c htc)) $$ Hp
  iapply hR
  isplitr; · iexact HR
  isplitr [H4]
  · isplitl [HO]; · iexists _; iexact HO
    iapply Hb
    isplitl [Hp]; · iexact Hp
    iexact Ha
  iexact H4

theorem drn_step (t : Dev nD) (hc : cond = 1#1 ↔ t ≠ c)
    {offR : Fin 2 → ℕ} {inbR} {offL : Fin 3 → ℕ} {inbL : cond = 1#1 → ∀ i, offL i + S1x128x128.size i ≤ S8x128x512.size i}
    {sS : DmaSem sig} (hS : sS = sndS t) {hsrc : ∀ h : cond = 1#1, (slotM offL (inbL h)).view.WordExact} {hdst : (rowsM offR inbR).view.WordExact}
    (hR : iprop(records m K ∗ Drn m c (t.val + 1) ∗ Fr) ⊢ run c R Q) :
    iprop(records m K ∗ Drn m c t.val ∗ Fr)
      ⊢ run c (if h : cond = 1#1 then (Prog.lift (.waitDma2 sS (slotM offL (inbL h)) (rowsM offR inbR) (hsrc h) hdst) >>= fun _ => R) else R) Q := by
  by_cases htc : t = c
  · rw [dif_neg (fun h => hc.mp h htc)]
    refine Entails.trans (PROP := sProp 𝕄) ?_ hR
    have hf := focus_at (F := F) (Φ := undrained m c) (Ψ := drained m c) t
    rw [undrained, sent, if_pos htc, drained, if_pos htc] at hf
    unfold Drn
    iintro ⟨H1, ⟨H2, H3⟩, H4⟩
    ihave H := hf $$ H3
    icases H with ⟨⟨Hr, Ha⟩, Hb⟩
    isplitl [H1]; · iexact H1
    isplitr [H4]
    · isplitl [H2]; · iexact H2
      iapply Hb
      isplitl [Hr]
      · subst htc; iexact Hr
      iexact Ha
    iexact H4
  · rw [dif_pos (hc.mpr htc)]
    exact drn_op m K c t htc hS hR

end Cert.Exchange

end
-- ==== Proof.Turns.lean ====
/-
# The eight turns

After the sends a device goes through eight turns. In turn `q` it waits for the chunk of `w` it copied two turns
before, waits for the four blocks of `x` of the same 512 columns, multiplies and accumulates, and starts the copy of the
chunk of turn `q + 2`. One state describes the device anywhere in the turns (`Mid`): how many blocks it has waited for,
how many chunk copies it has started and waited for, what it holds of the two `w` slots, and the accumulator.
-/
module

public import proofs.«01_k».proof.Proof.Steps

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## The blocks that have arrived -/

/-- The place of device `s`'s block in the order in which device `c` waits: its own group of four first. -/
def ordc (c s : ℕ) : ℕ := 4 * ((s / 4 + 8 - c / 4) % 8) + s % 4

theorem ordc_inj {c s s' : ℕ} (hc : c < 32) (hs : s < 32) (hs' : s' < 32) (h : ordc c s = ordc c s') : s = s' := by unfold ordc at h; omega
theorem ordc_lt (c s : ℕ) : ordc c s < 32 := by unfold ordc; omega
theorem ordc_turn (q u : ℕ) (hq : q < 8) (hu : u < 4) : ordc c.val (4 * chunk c q + u) = 4 * q + u := by
  have : c.val < 32 := c.isLt
  unfold ordc chunk; omega

/-- The elements of the landing buffer whose blocks are among the first `n`. -/
def got (n : ℕ) : Finset S8x128x512.Idx := Finset.univ.filter fun i => ordc c.val (srcOf i) < n
theorem mem_got {n : ℕ} {i : S8x128x512.Idx} : i ∈ got c n ↔ ordc c.val (srcOf i) < n := by unfold got; simp

def gotPts (n : ℕ) : sProp 𝕄 := ((c : Thread nD τ).loc cc0_scratch1) ↦[got c n]{fullShare} landed m c

theorem got_succ (s : Dev nD) {n : ℕ} (hs : ordc c.val s.val = n) : got c (n + 1) = got c n ∪ slot s.val := by
  ext i
  rw [Finset.mem_union, mem_got, mem_got, mem_slot]
  constructor
  · intro h
    by_cases h' : ordc c.val (srcOf i) < n
    · exact Or.inl h'
    · exact Or.inr (ordc_inj c.isLt (srcOf_lt i) s.isLt (by omega))
  · rintro (h | h)
    · omega
    · rw [h, hs]; omega

theorem got_merge (s : Dev nD) {n : ℕ} (hs : ordc c.val s.val = n) : iprop(gotPts m c n ∗ slotPts c s (landed m c)) ⊢ gotPts m c (n + 1) := by
  unfold gotPts slotPts
  rw [got_succ c s hs]
  refine (pointsTo_union ?_).2
  rw [Finset.disjoint_left]
  intro i h1 h2
  rw [mem_got] at h1; rw [mem_slot] at h2; rw [h2, hs] at h1; omega

theorem got_zero : (emp : sProp 𝕄) ⊢ gotPts m c 0 := by
  unfold gotPts
  rw [show got c 0 = ∅ from Finset.filter_eq_empty_iff.mpr fun i _ => Nat.not_lt_zero _, pointsTo_empty]

theorem got_all : got c 32 = Finset.univ := Finset.filter_eq_self.mpr fun i _ => ordc_lt _ _

/-- Before the wait for device `s`'s block: the right to it (a device has its own already); -/
def rcvW (s : Dev nD) : sProp 𝕄 :=
  iprop((if s = c then slotPts c c (landed m c) else cred (tallyAt (rcvCell c s) () NL)) ∗ atPos ER (rcvCell c s) 0 ∅ 0)
/-- after it. -/
def rcvD (s : Dev nD) : sProp 𝕄 := atPos ER (rcvCell c s) (if s = c then 0 else 1) ∅ 0

/-- The first `n` blocks are there. -/
def Rcv (n : ℕ) : sProp 𝕄 :=
  iprop(gotPts m c n ∗ bigSep Finset.univ fun s : Dev nD => if ordc c.val s.val < n then rcvD c s else rcvW m c s)

theorem rcv_focus (s : Dev nD) {n : ℕ} (hs : ordc c.val s.val = n) :
    Rcv m c n ⊢ iprop(rcvW m c s ∗ (slotPts c s (landed m c) ∗ rcvD c s -∗ Rcv m c (n + 1))) := by
  have h := focus (F := F) (Φ := fun s : Dev nD => if ordc c.val s.val < n then rcvD c s else rcvW m c s)
    (Ψ := fun s : Dev nD => if ordc c.val s.val < n + 1 then rcvD c s else rcvW m c s) s fun s' hne => by
      have : ordc c.val s'.val ≠ n := fun h => hne (Fin.ext (ordc_inj c.isLt s'.isLt s.isLt (h.trans hs.symm)))
      by_cases h : ordc c.val s'.val < n
      · rw [if_pos h, if_pos (by omega)]
      · rw [if_neg h, if_neg (by omega)]
  rw [if_neg (by omega), if_pos (by omega)] at h
  unfold Rcv
  iintro ⟨Hg, H⟩
  ihave H := h $$ H
  icases H with ⟨H1, H2⟩
  isplitl [H1]; · iexact H1
  iintro ⟨Hs, Hd⟩
  isplitl [Hg Hs]
  · iapply (got_merge m c s hs)
    isplitl [Hg] <;> iassumption
  iapply H2; iexact Hd

/-! ## The chunks of `w` -/

/-- Which of the two slots turn `q` uses. -/
def par (q : ℕ) : Fin 2 := ⟨q % 2, Nat.mod_lt _ (by decide)⟩

def wready (q : ℕ) : sProp 𝕄 := iprop(wrowsPts m c q ∗ dutyTok ER (wcCell c (par q)) (q / 2) 0)
def wflight (q : ℕ) : sProp 𝕄 := cred (tallyAt (wcCell c (par q)) () NW)
/-- Chunk `q` when `a` copies have been started and `b` waited for. -/
def wst (a b q : ℕ) : sProp 𝕄 := if q < b then wrowsPts m c q else if q < a then wflight c q else wready m c q
/-- The next round of a slot. -/
def wpos (s : Fin 2) (r : ℕ) : sProp 𝕄 := iprop(atPos ER (wcCell c s) r ∅ 0 ∗ reached ER (wcCell c s) r)
def Wst (a b : ℕ) : sProp 𝕄 :=
  iprop((bigSep Finset.univ fun q : Fin 8 => wst m c a b q.val) ∗ bigSep Finset.univ fun s : Fin 2 => wpos c s ((b + 1 - s.val) / 2))

/-! ## The state -/

def outPts (o : (cc0_stg1_0 : Ref sig .tc).ty.Contents (Elt F)) : sProp 𝕄 := ((c : Thread nD τ).loc cc0_stg1_0) ↦{fullShare} o

/-- `n` blocks waited for, `a` chunk copies started and `b` waited for, `H` held of the `w` slots, the accumulator at `o`. -/
def Mid (n a b : ℕ) (H : sProp 𝕄) (o : (cc0_stg1_0 : Ref sig .tc).ty.Contents (Elt F)) (Fr : sProp 𝕄) : sProp 𝕄 :=
  iprop(records m K ∗ owe c 0 ∗ Rcv m c n ∗ Wst m c a b ∗ H ∗ outPts c o ∗ Fr)

variable {α : Type} {R : Prog (TpuEff nD τ sig (Elt F) Λ₀ .tc) α} {cond : BitVec 1}
  {Q : α → sProp (MT nD τ sig Unit (Elt F) ℕ UU ℕ)} {Fr H : sProp (MT nD τ sig Unit (Elt F) ℕ UU ℕ)}
  {n a b : ℕ} {o : (cc0_stg1_0 : Ref sig .tc).ty.Contents (Elt F)}

/-! ## Waiting for a block -/

theorem rcv_op (s : Dev nD) (hs : ordc c.val s.val = n) (hsc : s ≠ c)
    {offL : Fin 3 → ℕ} {inbL inbL' : ∀ i, offL i + S1x128x128.size i ≤ S8x128x512.size i}
    {sV : DmaSem sig} (hV : sV = rcvS s) {hsrc : (slotM offL inbL).view.WordExact} {hdst : (slotM offL inbL').view.WordExact}
    (hR : Mid m K c (n + 1) a b H o Fr ⊢ run c R Q) :
    Mid m K c n a b H o Fr ⊢ run c (Prog.lift (.waitDma2 sV (slotM offL inbL) (slotM offL inbL') hsrc hdst) >>= fun _ => R) Q := by
  subst hV
  have hf := rcv_focus m c s hs
  unfold run at hR ⊢
  simp only [Prog.lift, Prog.bind_op, Prog.bind_ret]
  unfold Mid at hR ⊢
  unfold owe at hR ⊢
  rw [rcvW, if_neg hsc, rcvD, if_neg hsc] at hf
  have hw : ∀ G : PUnit → sProp 𝕄, wpE (defs₀ (F := F)) 𝒱₀ (c : Thread nD τ) none Set.univ (.waitDma2 (rcvS s) (slotM offL inbL) (slotM offL inbL') hsrc hdst) G
      = waitSpec (c : Thread nD τ) Set.univ (.dma (rcvS s)) NL G := fun G => rfl
  iintro ⟨#HR, ⟨%W, HO⟩, H3, H4⟩
  ihave H := hf $$ H3
  icases H with ⟨⟨Hc, Ha⟩, Hb⟩
  iapply (Rounds.wp_wait_rest_token 𝒱₀ ER (Rd m) (c : Thread nD τ) none (κ := K (c, kRcv s)) hw (Set.mem_univ _) () (O := 0) (W := W) (R := 0) (m := 0) (T := ∅)
      (by rw [expect_rcv m c hsc, Nat.zero_add])) $$ [HO Hc Ha]
  · isplitr; · iapply (rec_inv m K c (kRcv s) (csem_rcv s)); iexact HR
    isplitl [Hc]; · iexact Hc
    isplitl [HO]; · iexact HO
    isplitr; · rw [MayWait_zero]; iempintro
    iexact Ha
  iintro ⟨HO, Ha, -, Hp⟩
  ihave Hp := (Entails.of_eq (rest_rcv m c hsc)) $$ Hp
  iapply hR
  isplitr; · iexact HR
  isplitl [HO]; · iexists _; iexact HO
  isplitr [H4]
  · iapply Hb
    isplitl [Hp]; · iexact Hp
    iexact Ha
  iexact H4

theorem rcv_step (s : Dev nD) (hs : ordc c.val s.val = n) (hc : cond = 1#1 ↔ s ≠ c)
    {offL : Fin 3 → ℕ} {inbL inbL' : cond = 1#1 → ∀ i, offL i + S1x128x128.size i ≤ S8x128x512.size i}
    {sV : cond = 1#1 → DmaSem sig} (hV : ∀ h, sV h = rcvS s) {hsrc : ∀ h : cond = 1#1, (slotM offL (inbL h)).view.WordExact}
    {hdst : ∀ h : cond = 1#1, (slotM offL (inbL' h)).view.WordExact}
    (hR : Mid m K c (n + 1) a b H o Fr ⊢ run c R Q) :
    Mid m K c n a b H o Fr
      ⊢ run c (if h : cond = 1#1 then (Prog.lift (.waitDma2 (sV h) (slotM offL (inbL h)) (slotM offL (inbL' h)) (hsrc h) (hdst h)) >>= fun _ => R) else R) Q := by
  by_cases hsc : s = c
  · rw [dif_neg (fun h => hc.mp h hsc)]
    refine Entails.trans (PROP := sProp 𝕄) ?_ hR
    have hf := rcv_focus m c s hs
    rw [rcvW, if_pos hsc, rcvD, if_pos hsc] at hf
    unfold Mid
    iintro ⟨H1, H2, H3, H4⟩
    ihave H := hf $$ H3
    icases H with ⟨⟨Hr, Ha⟩, Hb⟩
    isplitl [H1]; · iexact H1
    isplitl [H2]; · iexact H2
    isplitr [H4]
    · iapply Hb
      isplitl [Hr]
      · subst hsc; iexact Hr
      iexact Ha
    iexact H4
  · rw [dif_pos (hc.mpr hsc)]
    exact rcv_op m K c s hs hsc (hV _) hR

/-! ## Copying a chunk of `w` and waiting for it -/

theorem copy_focus (ha : a < 8) (hba : b ≤ a) (hab : a < b + 2) :
    Wst m c a b ⊢ iprop((wrowsPts m c a ∗ dutyTok ER (wcCell c (par a)) (a / 2) 0 ∗ reached ER (wcCell c (par a)) (a / 2)) ∗ (wflight c a -∗ Wst m c (a + 1) b)) := by
  have h := focus (F := F) (Φ := fun q : Fin 8 => wst m c a b q.val) (Ψ := fun q : Fin 8 => wst m c (a + 1) b q.val) ⟨a, ha⟩ fun q hq => by
    have : q.val ≠ a := fun h => hq (Fin.ext h)
    unfold wst
    by_cases h1 : q.val < b
    · rw [if_pos h1, if_pos h1]
    · rw [if_neg h1, if_neg h1]
      by_cases h2 : q.val < a
      · rw [if_pos h2, if_pos (by omega)]
      · rw [if_neg h2, if_neg (by omega)]
  dsimp only at h
  rw [wst, if_neg (by omega), if_neg (by omega), wst, if_neg (by omega), if_pos (by omega), wready] at h
  have hp := focus (F := F) (Φ := fun s : Fin 2 => wpos (F := F) c s ((b + 1 - s.val) / 2)) (Ψ := fun s : Fin 2 => wpos (F := F) c s ((b + 1 - s.val) / 2)) (par a) fun _ _ => rfl
  have hr : (b + 1 - (par a).val) / 2 = a / 2 := by show (b + 1 - a % 2) / 2 = a / 2; omega
  rw [hr, wpos] at hp
  unfold Wst
  iintro ⟨H1, H2⟩
  ihave H := h $$ H1
  icases H with ⟨⟨Hr, Ht⟩, Hb⟩
  ihave H := hp $$ H2
  icases H with ⟨⟨Ha, #Hre⟩, Hb2⟩
  isplitl [Hr Ht]
  · isplitl [Hr]; · iexact Hr
    isplitl [Ht]; · iexact Ht
    iexact Hre
  iintro Hf
  isplitl [Hb Hf]
  · iapply Hb; iexact Hf
  iapply Hb2
  isplitl [Ha]; · iexact Ha
  iexact Hre

theorem copy_step (f : Buf (Elt F) ((c : Thread nD τ).loc cc0_scratch2)) (ha : a < 8) (hba : b ≤ a) (hab : a < b + 2)
    {off : Fin 3 → ℕ} (hoff : off = ![a % 2, 0, 0]) {inb} {off' : Fin 2 → ℕ} (hoff' : off' = ![512 * chunk c a, 0]) {inb'}
    {sW : DmaSem sig} (hW : sW = wcS (par a))
    {hsrc : (wrowsM off' inb').view.WordExact} {hdst : (wslotM off inb).view.WordExact} {hty : DmaTarget.Typed (nD := nD) .hbm (.dma sW) (DmaTarget.here (p := Proc.tc) (wslotM off inb))}
    (hR : Mid m K c n (a + 1) b iprop(emp) o Fr ⊢ run c R Q) :
    Mid m K c n a b (wslotPts c (a % 2) f) o Fr
      ⊢ run c (Prog.lift (.enqueueDma (wrowsM off' inb') (.here (wslotM off inb)) (.dma sW) hsrc hdst hty) >>= fun _ => R) Q := by
  subst hW
  have hf := copy_focus m c ha hba hab
  unfold run at hR ⊢
  simp only [Prog.lift, Prog.bind_op, Prog.bind_ret]
  unfold Mid at hR ⊢
  have hN : (wslotM off inb).view.amount (.dma (wcS (par a))) = NW := rfl
  iintro ⟨#HR, HO, H3, H4, Hs, H5⟩
  ihave H := hf $$ H4
  icases H with ⟨⟨Hr, Ht, #Hre⟩, Hb⟩
  ihave Hs := (Entails.of_eq (wslotPts_eq c (a % 2) hoff inb f).symm) $$ Hs
  ihave Hr := (Entails.of_eq (wrowsPts_eq m c a hoff' inb').symm) $$ Hr
  iapply (Rounds.wp_copy_pointsTo 𝒱₀ ER (Rd m) (c : Thread nD τ) none (κ := K (c, kWc (par a)))
    (src := wrowsM off' inb') (dst := wslotM off inb) (sem := .dma (wcS (par a))) (hsrc := hsrc) (hdst := hdst) (hsem := hty) (k := fun _ => R)
    (r := a / 2) (d := 0) (fs := m ((c : Thread nD τ).loc main_arg1)) (fd := f)
    (by rw [duties_wc m c _ (by omega)]; exact Finset.mem_singleton_self _) () NW hN (amount_wc m c _ _ _)
    (by
      rw [payload_wc, wrowsPts_eq m c a hoff', chunk_lands m c a _ hoff _ hoff']
      have : 2 * (a / 2) + (par a).val = a := by show 2 * (a / 2) + a % 2 = a; omega
      rw [this]; exact .rfl)) $$ [Hs Hr Ht]
  · isplitr; · iapply (rec_inv m K c (kWc (par a)) (csem_wc _)); iexact HR
    isplitl [Hr]; · iexact Hr
    isplitl [Hs]; · iexact Hs
    isplitl [Ht]; · iexact Ht
    iexact Hre
  iintro Hc
  iapply hR
  isplitr; · iexact HR
  isplitl [HO]; · iexact HO
  isplitl [H3]; · iexact H3
  isplitl [Hb Hc]; · iapply Hb; unfold wflight; iexact Hc
  isplitr; · iempintro
  iexact H5

theorem cwait_focus (hb : b < 8) (hba : b < a) :
    Wst m c a b ⊢ iprop((wflight c b ∗ atPos ER (wcCell c (par b)) (b / 2) ∅ 0)
      ∗ (wrowsPts m c b ∗ atPos ER (wcCell c (par b)) (b / 2 + 1) ∅ 0 ∗ reached ER (wcCell c (par b)) (b / 2 + 1) -∗ Wst m c a (b + 1))) := by
  have h := focus (F := F) (Φ := fun q : Fin 8 => wst m c a b q.val) (Ψ := fun q : Fin 8 => wst m c a (b + 1) q.val) ⟨b, hb⟩ fun q hq => by
    have : q.val ≠ b := fun h => hq (Fin.ext h)
    unfold wst
    by_cases h1 : q.val < b
    · rw [if_pos h1, if_pos (by omega)]
    · rw [if_neg h1, if_neg (show ¬ q.val < b + 1 by omega)]
  dsimp only at h
  rw [wst, if_neg (by omega), if_pos (by omega), wst, if_pos (by omega)] at h
  have hp := focus (F := F) (Φ := fun s : Fin 2 => wpos (F := F) c s ((b + 1 - s.val) / 2)) (Ψ := fun s : Fin 2 => wpos (F := F) c s ((b + 1 + 1 - s.val) / 2)) (par b) fun s hs => by
    have h1 : s.val ≠ b % 2 := fun h => hs (Fin.ext h)
    have h2 := s.isLt
    rw [show (b + 1 - s.val) / 2 = (b + 1 + 1 - s.val) / 2 by omega]
  have hr : (b + 1 - (par b).val) / 2 = b / 2 := by show (b + 1 - b % 2) / 2 = b / 2; omega
  have hr' : (b + 1 + 1 - (par b).val) / 2 = b / 2 + 1 := by show (b + 1 + 1 - b % 2) / 2 = b / 2 + 1; omega
  rw [hr, hr', wpos, wpos] at hp
  unfold Wst
  iintro ⟨H1, H2⟩
  ihave H := h $$ H1
  icases H with ⟨Hf, Hb⟩
  ihave H := hp $$ H2
  icases H with ⟨⟨Ha, -⟩, Hb2⟩
  isplitl [Hf Ha]
  · isplitl [Hf] <;> iassumption
  iintro ⟨Hr, Ha⟩
  isplitl [Hb Hr]
  · iapply Hb; iexact Hr
  iapply Hb2; iexact Ha

theorem cwait_step (hb : b < 8) (hba : b < a)
    {off : Fin 3 → ℕ} {inb} {off' : Fin 2 → ℕ} {inb'} {sW : DmaSem sig} (hW : sW = wcS (par b))
    {hsrc : (wrowsM off' inb').view.WordExact} {hdst : (wslotM off inb).view.WordExact}
    (hR : Mid m K c n a (b + 1) (wslotPts c (b % 2) (wch m c b)) o Fr ⊢ run c R Q) :
    Mid m K c n a b iprop(emp) o Fr
      ⊢ run c (Prog.lift (.waitDma2 sW (wrowsM off' inb') (wslotM off inb) hsrc hdst) >>= fun _ => R) Q := by
  subst hW
  have hf := cwait_focus m c hb hba
  unfold run at hR ⊢
  simp only [Prog.lift, Prog.bind_op, Prog.bind_ret]
  unfold Mid at hR ⊢
  unfold owe at hR ⊢
  have hw : ∀ G : PUnit → sProp 𝕄, wpE (defs₀ (F := F)) 𝒱₀ (c : Thread nD τ) none Set.univ (.waitDma2 (wcS (par b)) (wrowsM off' inb') (wslotM off inb) hsrc hdst) G
      = waitSpec (c : Thread nD τ) Set.univ (.dma (wcS (par b))) NW G := fun G => rfl
  have hr : b / 2 < 4 := by omega
  have hv : 2 * (b / 2) + (par b).val = b := by show 2 * (b / 2) + b % 2 = b; omega
  have hrest := rest_wc m c (par b) hr
  rw [hv] at hrest
  unfold wflight at hf
  iintro ⟨#HR, ⟨%W, HO⟩, H3, H4, -, H5⟩
  ihave H := hf $$ H4
  icases H with ⟨⟨Hc, Ha⟩, Hb⟩
  iapply (Rounds.wp_wait_rest_token 𝒱₀ ER (Rd m) (c : Thread nD τ) none (κ := K (c, kWc (par b))) hw (Set.mem_univ _) () (O := 0) (W := W) (R := b / 2) (m := 0) (T := ∅)
      (by rw [expect_wc m c _ hr, Nat.zero_add])) $$ [HO Hc Ha]
  · isplitr; · iapply (rec_inv m K c (kWc (par b)) (csem_wc _)); iexact HR
    isplitl [Hc]; · iexact Hc
    isplitl [HO]; · iexact HO
    isplitr; · rw [MayWait_zero]; iempintro
    iexact Ha
  iintro ⟨HO, Ha, Hre, Hp⟩
  ihave Hp := (Entails.of_eq hrest) $$ Hp
  icases Hp with ⟨Hs, Hr⟩
  iapply hR
  isplitr; · iexact HR
  isplitl [HO]; · iexists _; iexact HO
  isplitl [H3]; · iexact H3
  isplitl [Hb Hr Ha Hre]
  · iapply Hb
    isplitl [Hr]; · iexact Hr
    isplitl [Ha] <;> iassumption
  isplitl [Hs]; · iexact Hs
  iexact H5

/-- A slot that no further copy uses is put aside. -/
theorem park (H' : sProp 𝕄) (hR : Mid m K c n a b iprop(emp) o iprop(H' ∗ Fr) ⊢ run c R Q) : Mid m K c n a b H' o Fr ⊢ run c R Q := by
  refine Entails.trans (PROP := sProp 𝕄) ?_ hR
  unfold Mid
  iintro ⟨H1, H2, H3, H4, H5, H6, H7⟩
  isplitl [H1]; · iexact H1
  isplitl [H2]; · iexact H2
  isplitl [H3]; · iexact H3
  isplitl [H4]; · iexact H4
  isplitr; · iempintro
  isplitl [H6]; · iexact H6
  isplitl [H5] <;> iassumption

/-! ## Reading and accumulating -/

/-- The four blocks of turn `q`, as loaded; -/
def lpiece (q : ℕ) : S1x128x512.Idx → Elt F .bf16 := fun i => landed m c (ix3 (⟨chunk c q, chunk_lt c q⟩ : Fin 8) (i 1) (i 2) : S8x128x512.Idx)
/-- its chunk of `w`, as loaded. -/
def wpiece (q : ℕ) : S1x512x8192.Idx → Elt F .f32 := fun i => wch m c q (ix3 (par q) (i 1) (i 2) : S2x512x8192.Idx)

theorem load_l (q : ℕ) (hq : q < 8) (hn : 4 * q + 4 ≤ n) {off : Fin 3 → ℕ} (hoff : off = ![chunk c q, 0, 0]) {inb}
    {hl : lM.view.LoadsAt (Rect.unit (s := S8x128x512) off S1x128x512.size inb).toLoadRect}
    {Rv : (S1x128x512.Idx → Elt F .bf16) → Prog (TpuEff nD τ sig (Elt F) Λ₀ .tc) α}
    (hR : Mid m K c n a b H o Fr ⊢ run c (Rv (lpiece m c q)) Q) :
    Mid m K c n a b H o Fr ⊢ run c (Prog.lift (.load lM (Rect.unit (s := S8x128x512) off S1x128x512.size inb).toLoadRect hl) >>= Rv) Q := by
  have hv : (lM.access (Rect.unit (s := S8x128x512) off S1x128x512.size inb) : View sig .tc _ _ _).read (Elt F) (landed m c) = lpiece m c q := by
    subst hoff
    funext i
    unfold lpiece
    refine congrArg (landed m c) ((eq_ix3 _).trans ?_)
    refine congr (congrArg₂ ix3 (Fin.ext ?_) (Fin.ext ?_)) (Fin.ext ?_)
    · show chunk c q + 1 * (i 0).val = chunk c q; have : (i 0).val < 1 := (i 0).isLt; omega
    · show 0 + 1 * (i 1).val = (i 1).val; omega
    · show 0 + 1 * (i 2).val = (i 2).val; omega
  have hsub : (lM.access (Rect.unit (s := S8x128x512) off S1x128x512.size inb) : View sig .tc _ _ _).set ⊆ got c n := by
    subst hoff
    intro i hi
    have h : i ∈ (Rect.unit (s := S8x128x512) ![chunk c q, 0, 0] S1x128x512.size inb).set := by rwa [← View.set_slice_whole cc0_scratch1]
    rw [Rect.mem_set_unit] at h
    have h0 : chunk c q ≤ (i 0).val ∧ (i 0).val < chunk c q + 1 := h 0
    have h2 : (i 2).val < 512 := (i 2).isLt
    have e : srcOf i = 4 * chunk c q + (i 2).val / 128 := by unfold srcOf; omega
    rw [mem_got, e, ordc_turn c q _ hq (by omega)]; omega
  unfold run at hR ⊢
  simp only [Prog.lift, Prog.bind_op, Prog.bind_ret]
  unfold Mid at hR ⊢
  unfold Rcv gotPts at hR ⊢
  iintro ⟨H1, H2, ⟨H3, H3'⟩, H4⟩
  iapply (wp_load_rect 𝒱₀ (c : Thread nD τ) none Set.univ (m := lM) hsub) $$ H3; iintro H3
  rw [hv]
  iapply hR
  isplitl [H1]; · iexact H1
  isplitl [H2]; · iexact H2
  isplitl [H3 H3']
  · isplitl [H3] <;> iassumption
  iexact H4

theorem load_w (q : ℕ) {off : Fin 3 → ℕ} (hoff : off = ![q % 2, 0, 0]) {inb}
    {hl : vM.view.LoadsAt (Rect.unit (s := S2x512x8192) off S1x512x8192.size inb).toLoadRect}
    {Rv : (S1x512x8192.Idx → Elt F .f32) → Prog (TpuEff nD τ sig (Elt F) Λ₀ .tc) α}
    (hR : Mid m K c n a b (wslotPts c (q % 2) (wch m c q)) o Fr ⊢ run c (Rv (wpiece m c q)) Q) :
    Mid m K c n a b (wslotPts c (q % 2) (wch m c q)) o Fr
      ⊢ run c (Prog.lift (.load vM (Rect.unit (s := S2x512x8192) off S1x512x8192.size inb).toLoadRect hl) >>= Rv) Q := by
  have hv : (vM.access (Rect.unit (s := S2x512x8192) off S1x512x8192.size inb) : View sig .tc _ _ _).read (Elt F) (wch m c q) = wpiece m c q := by
    subst hoff
    funext i
    unfold wpiece
    refine congrArg (wch m c q) ((eq_ix3 _).trans ?_)
    refine congr (congrArg₂ ix3 (Fin.ext ?_) (Fin.ext ?_)) (Fin.ext ?_)
    · show q % 2 + 1 * (i 0).val = q % 2; have : (i 0).val < 1 := (i 0).isLt; omega
    · show 0 + 1 * (i 1).val = (i 1).val; omega
    · show 0 + 1 * (i 2).val = (i 2).val; omega
  have hsub : (vM.access (Rect.unit (s := S2x512x8192) off S1x512x8192.size inb) : View sig .tc _ _ _).set ⊆ wslot (q % 2) :=
    ((View.set_slice_whole cc0_scratch2 _).trans (rect_wslot hoff inb)).subset
  unfold run at hR ⊢
  simp only [Prog.lift, Prog.bind_op, Prog.bind_ret]
  unfold Mid at hR ⊢
  unfold wslotPts at hR ⊢
  iintro ⟨H1, H2, H3, H4, H5, H6⟩
  iapply (wp_load_rect 𝒱₀ (c : Thread nD τ) none Set.univ (m := vM) hsub) $$ H5; iintro H5
  rw [hv]
  iapply hR
  isplitl [H1]; · iexact H1
  isplitl [H2]; · iexact H2
  isplitl [H3]; · iexact H3
  isplitl [H4]; · iexact H4
  isplitl [H5] <;> iassumption

theorem hz : (![0, 0] : Fin 2 → ℕ) = fun _ => 0 := funext fun a => by fin_cases a <;> rfl

theorem load_o {inb : ∀ i, (![0, 0] : Fin 2 → ℕ) i + S128x8192.size i ≤ S128x8192.size i}
    {hl : oM.view.LoadsAt (Rect.unit (s := S128x8192) ![0, 0] S128x8192.size inb).toLoadRect}
    {Rv : (S128x8192.Idx → Elt F .f32) → Prog (TpuEff nD τ sig (Elt F) Λ₀ .tc) α}
    (hR : iprop(outPts c o ∗ Fr) ⊢ run c (Rv o) Q) :
    iprop(outPts c o ∗ Fr) ⊢ run c (Prog.lift (.load oM (Rect.unit (s := S128x8192) ![0, 0] S128x8192.size inb).toLoadRect hl) >>= Rv) Q := by
  unfold run at hR ⊢
  simp only [Prog.lift, Prog.bind_op, Prog.bind_ret]
  unfold outPts at hR ⊢
  iintro ⟨H1, H2⟩
  iapply (wp_load 𝒱₀ (c : Thread nD τ) none Set.univ (m := oM) (Finset.subset_univ _)) $$ H1; iintro H1
  rw [show oM.view.readAt (Elt F) (Rect.unit (s := S128x8192) ![0, 0] S128x8192.size inb).toLoadRect o = o from Memref.readAt_unit_zero (Elt F) cc0_stg1_0 hz _ o]
  iapply hR
  isplitl [H1] <;> iassumption

theorem store_o {inb : ∀ i, (![0, 0] : Fin 2 → ℕ) i + S128x8192.size i ≤ S128x8192.size i} (o' : (cc0_stg1_0 : Ref sig .tc).ty.Contents (Elt F))
    {hx : (oM.access (Rect.unit (s := S128x8192) ![0, 0] S128x8192.size inb) : View sig .tc _ _ _).Stores Finset.univ} {hm}
    (hR : iprop(outPts c o' ∗ Fr) ⊢ run c R Q) :
    iprop(outPts c o ∗ Fr) ⊢ run c (Prog.lift (.store oM (Rect.unit (s := S128x8192) ![0, 0] S128x8192.size inb) o' Finset.univ hx hm) >>= fun _ => R) Q := by
  unfold run at hR ⊢
  simp only [Prog.lift, Prog.bind_op, Prog.bind_ret]
  unfold outPts at hR ⊢
  iintro ⟨H1, H2⟩
  iapply (wp_store 𝒱₀ (c : Thread nD τ) none Set.univ (m := oM) (r := Rect.unit (s := S128x8192) ![0, 0] S128x8192.size inb) (w := o') (Mk := Finset.univ) (hx := hx) (hm := hm) (Finset.subset_univ _)) $$ H1; iintro H1
  rw [show (oM.access (Rect.unit (s := S128x8192) ![0, 0] S128x8192.size inb) : View sig .tc _ _ _).write (Elt F) o o' Finset.univ = o' from
    Memref.write_access_unit_zero_univ (Elt F) cc0_stg1_0 hz _ o o']
  iapply hR
  isplitl [H1] <;> iassumption

theorem mid_out : Mid m K c n a b H o Fr ⊣⊢ iprop(outPts c o ∗ (records m K ∗ owe c 0 ∗ Rcv m c n ∗ Wst m c a b ∗ H ∗ Fr)) := by
  unfold Mid
  constructor
  · iintro ⟨H1, H2, H3, H4, H5, H6, H7⟩
    isplitl [H6]; · iexact H6
    isplitl [H1]; · iexact H1
    isplitl [H2]; · iexact H2
    isplitl [H3]; · iexact H3
    isplitl [H4]; · iexact H4
    isplitl [H5] <;> iassumption
  · iintro ⟨H6, H1, H2, H3, H4, H5, H7⟩
    isplitl [H1]; · iexact H1
    isplitl [H2]; · iexact H2
    isplitl [H3]; · iexact H3
    isplitl [H4]; · iexact H4
    isplitl [H5]; · iexact H5
    isplitl [H6] <;> iassumption

/-- The accumulator is read, in the turns; -/
theorem mid_load_o {inb : ∀ i, (![0, 0] : Fin 2 → ℕ) i + S128x8192.size i ≤ S128x8192.size i}
    {hl : oM.view.LoadsAt (Rect.unit (s := S128x8192) ![0, 0] S128x8192.size inb).toLoadRect}
    {Rv : (S128x8192.Idx → Elt F .f32) → Prog (TpuEff nD τ sig (Elt F) Λ₀ .tc) α}
    (hR : Mid m K c n a b H o Fr ⊢ run c (Rv o) Q) :
    Mid m K c n a b H o Fr ⊢ run c (Prog.lift (.load oM (Rect.unit (s := S128x8192) ![0, 0] S128x8192.size inb).toLoadRect hl) >>= Rv) Q :=
  (mid_out m K c).1.trans (load_o c ((mid_out m K c).2.trans hR))

/-- and stored. -/
theorem mid_store_o {inb : ∀ i, (![0, 0] : Fin 2 → ℕ) i + S128x8192.size i ≤ S128x8192.size i} (o' : (cc0_stg1_0 : Ref sig .tc).ty.Contents (Elt F))
    {hx : (oM.access (Rect.unit (s := S128x8192) ![0, 0] S128x8192.size inb) : View sig .tc _ _ _).Stores Finset.univ} {hm}
    (hR : Mid m K c n a b H o' Fr ⊢ run c R Q) :
    Mid m K c n a b H o Fr ⊢ run c (Prog.lift (.store oM (Rect.unit (s := S128x8192) ![0, 0] S128x8192.size inb) o' Finset.univ hx hm) >>= fun _ => R) Q :=
  (mid_out m K c).1.trans (store_o c o' ((mid_out m K c).2.trans hR))

end Cert.Exchange

end
-- ==== Proof.Handshake.lean ====
/-
# The handshake

Each device raises the barrier of every other one: the kernel's first four parts and the head of the fifth, one signal
rule per site.
-/
module

public import proofs.«01_k».proof.Proof.Turns

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## Joining programs -/

theorem run_pure {α : Type} {A : sProp 𝕄} {x : α} {Q : α → sProp 𝕄} (h : A ⊢ Q x) : A ⊢ run c (pure x) Q := by
  unfold run
  show A ⊢ wp frame (wpE (defs₀ (F := F)) 𝒱₀ (c : Thread nD τ) none) Set.univ (Prog.ret x) Q
  rw [wp_ret]
  iintro H; imodintro; iapply h; iexact H

theorem run_bind {α β : Type} {A : sProp 𝕄} {p : Prog (TpuEff nD τ sig (Elt F) Λ₀ .tc) β} {k : β → Prog (TpuEff nD τ sig (Elt F) Λ₀ .tc) α}
    {Q : α → sProp 𝕄} (h : A ⊢ run c p fun x => run c (k x) Q) : A ⊢ run c (p >>= k) Q := by
  unfold run at h ⊢
  rwa [wp_bind]

theorem run_device {α : Type} {A : sProp 𝕄} {k : Dev nD → Prog (TpuEff nD τ sig (Elt F) Λ₀ .tc) α} {Q : α → sProp 𝕄}
    (h : A ⊢ run c (k c) Q) : A ⊢ run c (Prog.lift .deviceId >>= k) Q := by
  unfold run at h ⊢
  simp only [Prog.lift, Prog.bind_op, Prog.bind_ret, wp_deviceId]
  exact h

/-! ## The first four parts -/

/-- The barrier as the kernel's parts pass it on. -/
abbrev barA : Sems sig S_ := SemArray.scalar (sig.barrier 0 rfl)

variable {hx : xM.IsWhole} {hw : wM.IsWhole} {ho : oM.IsWhole} {hb : bM.IsWhole} {hl : lM.IsWhole} {hv : vM.IsWhole}
  {Fr : sProp (MT nD τ sig Unit (Elt F) ℕ UU ℕ)}

set_option maxRecDepth 65536 in
/-- The device reads its number and gives the first signal. -/
theorem part1 {Q : (Σ' (_ : Dev nD) (_ : BitVec 32) (_ : BitVec 32) (_ : BitVec 32), Sems sig S_) → sProp 𝕄}
    (hR : ∀ v2 v19 v30, iprop(records m K ∗ Sig c 1 ∗ Fr) ⊢ Q ⟨c, v2, v19, v30, barA⟩) :
    iprop(records m K ∗ Sig c 0 ∗ Fr) ⊢ run c (k0_part1 xM hx wM hw oM ho bM hb lM hl vM hv cc0_scratch3 cc0_scratch4 cc0_scratch5) Q := by
  rw [k0_part1_eq_skeleton]
  unfold k0_part1_skel
  refine run_device c ?_
  refine sig_step m K c ⟨0, by decide⟩ ((by decide +kernel : ∀ d : Dev nD, k0_cond1 d = 1#1 ↔ (⟨0, by decide⟩ : Dev nD) ≠ d) c) k0_dev1_eq ?_
  exact run_pure c (hR _ _ _)

set_option maxRecDepth 65536 in
/-- Signals 1 to 10. -/
theorem part2 {v2 : BitVec 32} {Q : PUnit → sProp 𝕄} (hR : iprop(records m K ∗ Sig c 11 ∗ Fr) ⊢ Q ⟨⟩) :
    iprop(records m K ∗ Sig c 1 ∗ Fr) ⊢ run c (k0_part2 xM hx wM hw oM ho bM hb lM hl vM hv cc0_scratch3 cc0_scratch4 cc0_scratch5 c v2 barA) Q := by
  rw [k0_part2_eq_skeleton]
  unfold k0_part2_skel
  refine sig_step m K c ⟨1, by decide⟩ ((by decide +kernel : ∀ d : Dev nD, k0_cond2 d = 1#1 ↔ (⟨1, by decide⟩ : Dev nD) ≠ d) c) k0_dev2_eq ?_
  refine sig_step m K c ⟨2, by decide⟩ ((by decide +kernel : ∀ d : Dev nD, k0_cond3 d = 1#1 ↔ (⟨2, by decide⟩ : Dev nD) ≠ d) c) k0_dev3_eq ?_
  refine sig_step m K c ⟨3, by decide⟩ ((by decide +kernel : ∀ d : Dev nD, k0_cond4 d = 1#1 ↔ (⟨3, by decide⟩ : Dev nD) ≠ d) c) k0_dev4_eq ?_
  refine sig_step m K c ⟨4, by decide⟩ ((by decide +kernel : ∀ d : Dev nD, k0_cond5 d = 1#1 ↔ (⟨4, by decide⟩ : Dev nD) ≠ d) c) k0_dev5_eq ?_
  refine sig_step m K c ⟨5, by decide⟩ ((by decide +kernel : ∀ d : Dev nD, k0_cond6 d = 1#1 ↔ (⟨5, by decide⟩ : Dev nD) ≠ d) c) k0_dev6_eq ?_
  refine sig_step m K c ⟨6, by decide⟩ ((by decide +kernel : ∀ d : Dev nD, k0_cond7 d = 1#1 ↔ (⟨6, by decide⟩ : Dev nD) ≠ d) c) k0_dev7_eq ?_
  refine sig_step m K c ⟨7, by decide⟩ ((by decide +kernel : ∀ d : Dev nD, k0_cond8 d = 1#1 ↔ (⟨7, by decide⟩ : Dev nD) ≠ d) c) k0_dev8_eq ?_
  refine sig_step m K c ⟨8, by decide⟩ ((by decide +kernel : ∀ d : Dev nD, k0_cond9 d = 1#1 ↔ (⟨8, by decide⟩ : Dev nD) ≠ d) c) k0_dev9_eq ?_
  refine sig_step m K c ⟨9, by decide⟩ ((by decide +kernel : ∀ d : Dev nD, k0_cond10 d = 1#1 ↔ (⟨9, by decide⟩ : Dev nD) ≠ d) c) k0_dev10_eq ?_
  refine sig_step m K c ⟨10, by decide⟩ ((by decide +kernel : ∀ d : Dev nD, k0_cond11 d = 1#1 ↔ (⟨10, by decide⟩ : Dev nD) ≠ d) c) k0_dev11_eq ?_
  exact run_pure c hR

set_option maxRecDepth 65536 in
/-- Signals 11 to 20. -/
theorem part3 {v2 : BitVec 32} {Q : PUnit → sProp 𝕄} (hR : iprop(records m K ∗ Sig c 21 ∗ Fr) ⊢ Q ⟨⟩) :
    iprop(records m K ∗ Sig c 11 ∗ Fr) ⊢ run c (k0_part3 xM hx wM hw oM ho bM hb lM hl vM hv cc0_scratch3 cc0_scratch4 cc0_scratch5 c v2 barA) Q := by
  rw [k0_part3_eq_skeleton]
  unfold k0_part3_skel
  refine sig_step m K c ⟨11, by decide⟩ ((by decide +kernel : ∀ d : Dev nD, k0_cond12 d = 1#1 ↔ (⟨11, by decide⟩ : Dev nD) ≠ d) c) k0_dev12_eq ?_
  refine sig_step m K c ⟨12, by decide⟩ ((by decide +kernel : ∀ d : Dev nD, k0_cond13 d = 1#1 ↔ (⟨12, by decide⟩ : Dev nD) ≠ d) c) k0_dev13_eq ?_
  refine sig_step m K c ⟨13, by decide⟩ ((by decide +kernel : ∀ d : Dev nD, k0_cond14 d = 1#1 ↔ (⟨13, by decide⟩ : Dev nD) ≠ d) c) k0_dev14_eq ?_
  refine sig_step m K c ⟨14, by decide⟩ ((by decide +kernel : ∀ d : Dev nD, k0_cond15 d = 1#1 ↔ (⟨14, by decide⟩ : Dev nD) ≠ d) c) k0_dev15_eq ?_
  refine sig_step m K c ⟨15, by decide⟩ ((by decide +kernel : ∀ d : Dev nD, k0_cond16 d = 1#1 ↔ (⟨15, by decide⟩ : Dev nD) ≠ d) c) k0_dev16_eq ?_
  refine sig_step m K c ⟨16, by decide⟩ ((by decide +kernel : ∀ d : Dev nD, k0_cond17 d = 1#1 ↔ (⟨16, by decide⟩ : Dev nD) ≠ d) c) k0_dev17_eq ?_
  refine sig_step m K c ⟨17, by decide⟩ ((by decide +kernel : ∀ d : Dev nD, k0_cond18 d = 1#1 ↔ (⟨17, by decide⟩ : Dev nD) ≠ d) c) k0_dev18_eq ?_
  refine sig_step m K c ⟨18, by decide⟩ ((by decide +kernel : ∀ d : Dev nD, k0_cond19 d = 1#1 ↔ (⟨18, by decide⟩ : Dev nD) ≠ d) c) k0_dev19_eq ?_
  refine sig_step m K c ⟨19, by decide⟩ ((by decide +kernel : ∀ d : Dev nD, k0_cond20 d = 1#1 ↔ (⟨19, by decide⟩ : Dev nD) ≠ d) c) k0_dev20_eq ?_
  refine sig_step m K c ⟨20, by decide⟩ ((by decide +kernel : ∀ d : Dev nD, k0_cond21 d = 1#1 ↔ (⟨20, by decide⟩ : Dev nD) ≠ d) c) k0_dev21_eq ?_
  exact run_pure c hR

set_option maxRecDepth 65536 in
/-- Signals 21 to 30. -/
theorem part4 {v2 : BitVec 32} {Q : PUnit → sProp 𝕄} (hR : iprop(records m K ∗ Sig c 31 ∗ Fr) ⊢ Q ⟨⟩) :
    iprop(records m K ∗ Sig c 21 ∗ Fr) ⊢ run c (k0_part4 xM hx wM hw oM ho bM hb lM hl vM hv cc0_scratch3 cc0_scratch4 cc0_scratch5 c v2 barA) Q := by
  rw [k0_part4_eq_skeleton]
  unfold k0_part4_skel
  refine sig_step m K c ⟨21, by decide⟩ ((by decide +kernel : ∀ d : Dev nD, k0_cond22 d = 1#1 ↔ (⟨21, by decide⟩ : Dev nD) ≠ d) c) k0_dev22_eq ?_
  refine sig_step m K c ⟨22, by decide⟩ ((by decide +kernel : ∀ d : Dev nD, k0_cond23 d = 1#1 ↔ (⟨22, by decide⟩ : Dev nD) ≠ d) c) k0_dev23_eq ?_
  refine sig_step m K c ⟨23, by decide⟩ ((by decide +kernel : ∀ d : Dev nD, k0_cond24 d = 1#1 ↔ (⟨23, by decide⟩ : Dev nD) ≠ d) c) k0_dev24_eq ?_
  refine sig_step m K c ⟨24, by decide⟩ ((by decide +kernel : ∀ d : Dev nD, k0_cond25 d = 1#1 ↔ (⟨24, by decide⟩ : Dev nD) ≠ d) c) k0_dev25_eq ?_
  refine sig_step m K c ⟨25, by decide⟩ ((by decide +kernel : ∀ d : Dev nD, k0_cond26 d = 1#1 ↔ (⟨25, by decide⟩ : Dev nD) ≠ d) c) k0_dev26_eq ?_
  refine sig_step m K c ⟨26, by decide⟩ ((by decide +kernel : ∀ d : Dev nD, k0_cond27 d = 1#1 ↔ (⟨26, by decide⟩ : Dev nD) ≠ d) c) k0_dev27_eq ?_
  refine sig_step m K c ⟨27, by decide⟩ ((by decide +kernel : ∀ d : Dev nD, k0_cond28 d = 1#1 ↔ (⟨27, by decide⟩ : Dev nD) ≠ d) c) k0_dev28_eq ?_
  refine sig_step m K c ⟨28, by decide⟩ ((by decide +kernel : ∀ d : Dev nD, k0_cond29 d = 1#1 ↔ (⟨28, by decide⟩ : Dev nD) ≠ d) c) k0_dev29_eq ?_
  refine sig_step m K c ⟨29, by decide⟩ ((by decide +kernel : ∀ d : Dev nD, k0_cond30 d = 1#1 ↔ (⟨29, by decide⟩ : Dev nD) ≠ d) c) k0_dev30_eq ?_
  refine sig_step m K c ⟨30, by decide⟩ ((by decide +kernel : ∀ d : Dev nD, k0_cond31 d = 1#1 ↔ (⟨30, by decide⟩ : Dev nD) ≠ d) c) k0_dev31_eq ?_
  exact run_pure c hR

end Cert.Exchange

end
-- ==== Proof.Opening.lean ====
/-
# From the handshake to the first sends

After the barrier wait a device casts its block of `x`, and puts the rows meant for itself in its own slot of the
landing buffer; then the first five sends go out. This is the kernel's fifth part.
-/
module

public import proofs.«01_k».proof.Proof.Handshake

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## The staged block, the cast block -/

def xPts : sProp 𝕄 := ((c : Thread nD τ).loc cc0_stg0_0) ↦{fullShare} xstg m c
def bPts (f : Buf (Elt F) ((c : Thread nD τ).loc cc0_scratch0)) : sProp 𝕄 := ((c : Thread nD τ).loc cc0_scratch0) ↦{fullShare} f

/-- The cast block, cut by the device its rows go to. -/
theorem bPts_rows : bPts c (xb m c) = bigSep Finset.univ fun t : Dev nD => rowsPts m c t := by
  unfold bPts rowsPts
  refine Eq.trans ?_ (pointsTo_biUnion (ℓ := (c : Thread nD τ).loc cc0_scratch0) (q := fullShare) (f := xb m c)
    (Finset.univ : Finset (Dev nD)) (fun t : Dev nD => rows t.val) fun t _ t' _ h => by
      rw [Finset.disjoint_left]; intro i h1 h2
      rw [mem_rows] at h1 h2; exact h (Fin.ext (h1.symm.trans h2)))
  refine congrArg (fun S => (((c : Thread nD τ).loc cc0_scratch0) ↦[S]{fullShare} xb m c : sProp 𝕄)) (Eq.symm (Finset.eq_univ_iff_forall.mpr fun i => ?_))
  have hi : ((i : S4096x128.Idx) 0).val < 4096 := ((i : S4096x128.Idx) 0).isLt
  exact Finset.mem_biUnion.mpr ⟨⟨((i : S4096x128.Idx) 0).val / 128, by show _ < 32; omega⟩, Finset.mem_univ _, mem_rows.mpr rfl⟩

/-- A family with one exceptional member. -/
theorem bigSep_except (A : sProp 𝕄) (B : Dev nD → sProp 𝕄) :
    (bigSep Finset.univ fun t : Dev nD => if t = c then A else B t) = iprop(A ∗ bigSep (Finset.univ.erase c) B) := by
  rw [bigSep_univ_at _ c, if_pos rfl, bigSep_congr fun t ht => if_neg (Finset.mem_erase.mp ht).1]

/-! ## The device's own block -/

theorem pay3_at (v : Vec F S128x128 .bf16) (y : S1x128x128.Idx) : k0_pay3 v y = v (ix2 (y 1) (y 2)) := by
  unfold k0_pay3
  exact (congrArg _ (eq_ix3 y)).trans (shapeCast_ab_1ab_apply (a := 128) (b := 128) v shapeCasts_S128x128_S1x128x128 (y 0) (y 1) (y 2))

/-- Its own rows, stored in its own slot, are what its full landing buffer holds there. -/
theorem own_lands {off : Fin 3 → ℕ} (hoff : off = slotOff c.val) (inb : ∀ i, off i + S1x128x128.size i ≤ S8x128x512.size i)
    {off' : Fin 2 → ℕ} (hoff' : off' = ![128 * c.val, 0]) (inb' : ∀ i, off' i + S128x128.size i ≤ S4096x128.size i)
    (f : Buf (Elt F) ((c : Thread nD τ).loc cc0_scratch1)) :
    (((c : Thread nD τ).loc cc0_scratch1) ↦[slot c.val]{fullShare}
        ((lM.access (Rect.unit (s := S8x128x512) off S1x128x128.size inb) : View sig .tc _ _ _).write (Elt F) f
          (k0_pay3 ((bM.access (Rect.unit (s := S4096x128) off' S128x128.size inb') : View sig .tc _ _ _).read (Elt F) (xb m c))) Finset.univ) : sProp 𝕄)
      = slotPts c c (landed m c) := by
  unfold slotPts
  refine pointsTo_congr fun i hi => ?_
  have hi' : i ∈ (lM.access (Rect.unit (s := S8x128x512) off S1x128x128.size inb) : View sig .tc _ _ _).set := by
    rw [show (lM.access (Rect.unit (s := S8x128x512) off S1x128x128.size inb) : View sig .tc _ _ _).set = slot c.val from
      (View.set_slice_whole cc0_scratch1 _).trans (rect_slot hoff inb)]
    exact hi
  obtain ⟨y, hy⟩ := View.exists_emb_of_mem_set _ hi'
  subst hy
  rw [View.write_emb_of_mem _ _ (Finset.mem_univ y)]
  subst hoff hoff'
  have hc : c.val < 32 := c.isLt
  have hy0 : (y 0).val < 1 := (y 0).isLt
  have hy2 : (y 2).val < 128 := (y 2).isLt
  have hk : k0_pay3 ((bM.access (Rect.unit (s := S4096x128) ![128 * c.val, 0] S128x128.size inb') : View sig .tc _ _ _).read (Elt F) (xb m c)) y
      = xb m c ((Rect.unit (s := S4096x128) ![128 * c.val, 0] S128x128.size inb').emb (ix2 (y 1) (y 2))) :=
    pay3_at _ y
  refine hk.trans ?_
  have e0 : (((Rect.unit (s := S8x128x512) (slotOff c.val) S1x128x128.size inb).emb y : S8x128x512.Idx) 0).val = c.val / 4 := by
    show c.val / 4 + 1 * (y 0).val = _; omega
  have e1 : (((Rect.unit (s := S8x128x512) (slotOff c.val) S1x128x128.size inb).emb y : S8x128x512.Idx) 1).val = (y 1).val := by
    show 0 + 1 * (y 1).val = _; omega
  have e2 : (((Rect.unit (s := S8x128x512) (slotOff c.val) S1x128x128.size inb).emb y : S8x128x512.Idx) 2).val = c.val % 4 * 128 + (y 2).val := by
    show c.val % 4 * 128 + 1 * (y 2).val = _; omega
  have hs : srcOf ((Rect.unit (s := S8x128x512) (slotOff c.val) S1x128x128.size inb).emb y) = c.val := by unfold srcOf; rw [e0, e2]; omega
  show xb m c _ = landed m c ((Rect.unit (s := S8x128x512) (slotOff c.val) S1x128x128.size inb).emb y)
  unfold landed
  refine (congrArg (xb m c) ?_).trans (congrArg (fun d : Dev nD => xb m d _) (Fin.ext hs.symm : c = ⟨srcOf _, srcOf_lt _⟩))
  refine (eq_ix2 _).trans ?_
  refine congrArg₂ ix2 (Fin.ext ?_) (Fin.ext ?_)
  · show 128 * c.val + 1 * (y 1).val = 128 * c.val + _; rw [e1]; omega
  · show 0 + 1 * (y 2).val = _ % 128; rw [e2]; omega

variable {α : Type} {R : Prog (TpuEff nD τ sig (Elt F) Λ₀ .tc) α} in
/-- The cast and the device's own block. -/
theorem prepare {Q : α → sProp 𝕄} {Fr : sProp 𝕄}
    {inb0 : ∀ i, (![0, 0] : Fin 2 → ℕ) i + S4096x128.size i ≤ S4096x128.size i}
    {hl0 : xM.view.LoadsAt (Rect.unit (s := S4096x128) ![0, 0] S4096x128.size inb0).toLoadRect}
    {hl1 : bM.view.LoadsAt (Rect.unit (s := S4096x128) ![0, 0] S4096x128.size inb0).toLoadRect}
    {hx1 : (bM.access (Rect.unit (s := S4096x128) ![0, 0] S4096x128.size inb0) : View sig .tc _ _ _).Stores Finset.univ} {hm1}
    {off' : Fin 2 → ℕ} (hoff' : off' = ![128 * c.val, 0]) {inb' : ∀ i, off' i + S128x128.size i ≤ S4096x128.size i}
    {hl2 : bM.view.LoadsAt (Rect.unit (s := S4096x128) off' S128x128.size inb').toLoadRect}
    {off : Fin 3 → ℕ} (hoff : off = slotOff c.val) {inb : ∀ i, off i + S1x128x128.size i ≤ S8x128x512.size i}
    {hl3 : lM.view.LoadsAt (Rect.unit (s := S8x128x512) off S1x128x128.size inb).toLoadRect}
    {hx3 : (lM.access (Rect.unit (s := S8x128x512) off S1x128x128.size inb) : View sig .tc _ _ _).Stores Finset.univ} {hm3}
    (hR : iprop(records m K ∗ Snd m c 0 ∗ (xPts m c ∗ slotPts c c (landed m c) ∗ atPos ER (barCell c) 1 ∅ 0 ∗ Fr)) ⊢ run c R Q) :
    iprop(records m K ∗ (owe c (sumFrom (owedRcv c) 0) ∗ atPos ER (barCell c) 1 ∅ 0 ∗ bigSep (Finset.univ.erase c) fun t => lend t c)
        ∗ (xPts m c ∗ (∃ f, bPts c f) ∗ (∃ f, slotPts c c f)
          ∗ (bigSep (Finset.univ.erase c) fun t => iprop(dutyTok ER (sndCell c t) 0 0 ∗ dutyTok ER (rcvCell t c) 0 0)) ∗ Fr))
      ⊢ run c (Prog.lift (.load xM (Rect.unit (s := S4096x128) ![0, 0] S4096x128.size inb0).toLoadRect hl0) >>= fun v =>
          Prog.lift (.load bM (Rect.unit (s := S4096x128) ![0, 0] S4096x128.size inb0).toLoadRect hl1) >>= fun _ =>
          Prog.lift (.store bM (Rect.unit (s := S4096x128) ![0, 0] S4096x128.size inb0) (k0_pay2 v) Finset.univ hx1 hm1) >>= fun _ =>
          Prog.lift (.load bM (Rect.unit (s := S4096x128) off' S128x128.size inb').toLoadRect hl2) >>= fun v' =>
          Prog.lift (.load lM (Rect.unit (s := S8x128x512) off S1x128x128.size inb).toLoadRect hl3) >>= fun _ =>
          Prog.lift (.store lM (Rect.unit (s := S8x128x512) off S1x128x128.size inb) (k0_pay3 v') Finset.univ hx3 hm3) >>= fun _ => R) Q := by
  have hset : (lM.access (Rect.unit (s := S8x128x512) off S1x128x128.size inb) : View sig .tc _ _ _).set = slot c.val :=
    (View.set_slice_whole cc0_scratch1 _).trans (rect_slot hoff inb)
  have hsnd : iprop(bigSep (Finset.univ.erase c) (fun t => lend t c) ∗ bPts c (xb m c)
        ∗ (bigSep (Finset.univ.erase c) fun t => iprop(dutyTok ER (sndCell c t) 0 0 ∗ dutyTok ER (rcvCell t c) 0 0)))
      ⊢ bigSep Finset.univ fun t : Dev nD => if t.val < 0 then sent m c t else sndTok m c t := by
    rw [bigSep_congr fun (t : Dev nD) _ => if_neg (Nat.not_lt_zero t.val)]
    unfold sndTok
    rw [bigSep_except, bPts_rows, bigSep_univ_at _ c, bigSep_sep', bigSep_sep', bigSep_sep', bigSep_sep']
    iintro ⟨H1, ⟨H2, H3⟩, H4, H5⟩
    isplitl [H2]; · iexact H2
    isplitl [H4]; · iexact H4
    isplitl [H5]; · iexact H5
    isplitl [H1] <;> iassumption
  unfold run at hR ⊢
  simp only [Prog.lift, Prog.bind_op, Prog.bind_ret]
  unfold Snd at hR
  iintro ⟨H0, ⟨H1, H2, H3⟩, Hx, ⟨%f, Hb⟩, ⟨%g, Hs⟩, Ht, HF⟩
  unfold xPts bPts slotPts
  iapply (wp_load 𝒱₀ (c : Thread nD τ) none Set.univ (m := xM) (Finset.subset_univ _)) $$ Hx; iintro Hx
  rw [show xM.view.readAt (Elt F) (Rect.unit (s := S4096x128) ![0, 0] S4096x128.size inb0).toLoadRect (xstg m c) = xstg m c from
    Memref.readAt_unit_zero (Elt F) cc0_stg0_0 hz _ _]
  iapply (wp_load 𝒱₀ (c : Thread nD τ) none Set.univ (m := bM) (Finset.subset_univ _)) $$ Hb; iintro Hb
  iapply (wp_store 𝒱₀ (c : Thread nD τ) none Set.univ (m := bM) (r := Rect.unit (s := S4096x128) ![0, 0] S4096x128.size inb0) (w := k0_pay2 (xstg m c)) (Mk := Finset.univ)
    (hx := hx1) (hm := hm1) (Finset.subset_univ _)) $$ Hb; iintro Hb
  rw [show (bM.access (Rect.unit (s := S4096x128) ![0, 0] S4096x128.size inb0) : View sig .tc _ _ _).write (Elt F) f (k0_pay2 (xstg m c)) Finset.univ = xb m c from
    Memref.write_access_unit_zero_univ (Elt F) cc0_scratch0 hz _ f _]
  iapply (wp_load_rect 𝒱₀ (c : Thread nD τ) none Set.univ (m := bM) (r := Rect.unit (s := S4096x128) off' S128x128.size inb') (Finset.subset_univ _)) $$ Hb; iintro Hb
  iapply (wp_load_rect 𝒱₀ (c : Thread nD τ) none Set.univ (m := lM) hset.subset) $$ Hs; iintro Hs
  iapply (wp_store 𝒱₀ (c : Thread nD τ) none Set.univ (m := lM) (r := Rect.unit (s := S8x128x512) off S1x128x128.size inb)
    (w := k0_pay3 ((bM.access (Rect.unit (s := S4096x128) off' S128x128.size inb') : View sig .tc _ _ _).read (Elt F) (xb m c))) (Mk := Finset.univ)
    (hx := hx3) (hm := hm3) (by rw [View.setOn_univ]; exact hset.subset)) $$ Hs; iintro Hs
  ihave Hs := (Entails.of_eq (own_lands m c hoff inb hoff' inb' g)) $$ Hs
  iapply hR
  isplitl [H0]; · iexact H0
  isplitl [H1 H3 Hb Ht]
  · isplitl [H1]; · iexact H1
    iapply hsnd
    isplitl [H3]; · iexact H3
    isplitl [Hb]; · unfold bPts; iexact Hb
    iexact Ht
  isplitl [Hx]; · unfold xPts; iexact Hx
  isplitl [Hs]; · iexact Hs
  isplitl [H2] <;> iassumption

/-! ## Part five -/

variable {hx : xM.IsWhole} {hw : wM.IsWhole} {ho : oM.IsWhole} {hb : bM.IsWhole} {hl : lM.IsWhole} {hv : vM.IsWhole}
  {Fr : sProp (MT nD τ sig Unit (Elt F) ℕ UU ℕ)}

set_option maxRecDepth 65536 in
/-- The last signal, the wait, the cast, the first sends. -/
theorem part5 {v2 : BitVec 32} {v19 : BitVec 32} {v30 : BitVec 32} {Q : (BitVec 32) → sProp 𝕄}
    (hR : ∀ r, iprop(records m K ∗ Snd m c 5 ∗ (xPts m c ∗ slotPts c c (landed m c) ∗ atPos ER (barCell c) 1 ∅ 0 ∗ Fr)) ⊢ Q r) :
    iprop(records m K ∗ Sig c 31 ∗ ((cred (tallyAt (barCell c) () 31) ∗ atPos ER (barCell c) 0 ∅ 0) ∗ (xPts m c ∗ (∃ f, bPts c f) ∗ (∃ f, slotPts c c f)
        ∗ (bigSep (Finset.univ.erase c) fun t => iprop(dutyTok ER (sndCell c t) 0 0 ∗ dutyTok ER (rcvCell t c) 0 0)) ∗ Fr))) ⊢ run c (k0_part5 xM hx wM hw oM ho bM hb lM hl vM hv cc0_scratch3 cc0_scratch4 cc0_scratch5 c v2 v19 v30 barA) Q := by
  rw [k0_part5_eq_skeleton]
  unfold k0_part5_skel
  refine sig_step m K c ⟨31, by decide⟩ ((by decide +kernel : ∀ d : Dev nD, k0_cond32 d = 1#1 ↔ (⟨31, by decide⟩ : Dev nD) ≠ d) c) k0_dev32_eq ?_
  have hs : ∀ P S B A : sProp 𝕄, iprop(P ∗ S ∗ B ∗ A) ⊢ iprop(P ∗ (S ∗ B) ∗ A) := fun P S B A => by
    iintro ⟨H1, H2, H3, H4⟩
    isplitl [H1]; · iexact H1
    isplitr [H4]
    · isplitl [H2] <;> iassumption
    iexact H4
  refine Entails.trans (PROP := sProp 𝕄) (hs _ _ _ _) ?_
  refine bar_wait m K c ?_
  refine prepare m K c (k0_off1_eq c) ((by decide +kernel : ∀ d : Dev nD, k0_off2 d = slotOff d.val) c) ?_
  refine snd_step m K c ⟨0, by decide⟩ ((by decide +kernel : ∀ d : Dev nD, k0_cond33 d = 1#1 ↔ (⟨0, by decide⟩ : Dev nD) ≠ d) c) k0_dev33_eq rfl ((by decide +kernel : ∀ d : Dev nD, k0_off4 d = slotOff d.val) c) (snd_sem ⟨0, by decide⟩ rfl _) (fun _ => rcv_sem c (k0_off3_eq c) _) ?_
  refine snd_step m K c ⟨1, by decide⟩ ((by decide +kernel : ∀ d : Dev nD, k0_cond34 d = 1#1 ↔ (⟨1, by decide⟩ : Dev nD) ≠ d) c) k0_dev34_eq rfl ((by decide +kernel : ∀ d : Dev nD, k0_off6 d = slotOff d.val) c) (snd_sem ⟨1, by decide⟩ rfl _) (fun _ => rcv_sem c (k0_off5_eq c) _) ?_
  refine snd_step m K c ⟨2, by decide⟩ ((by decide +kernel : ∀ d : Dev nD, k0_cond35 d = 1#1 ↔ (⟨2, by decide⟩ : Dev nD) ≠ d) c) k0_dev35_eq rfl ((by decide +kernel : ∀ d : Dev nD, k0_off8 d = slotOff d.val) c) (snd_sem ⟨2, by decide⟩ rfl _) (fun _ => rcv_sem c (k0_off7_eq c) _) ?_
  refine snd_step m K c ⟨3, by decide⟩ ((by decide +kernel : ∀ d : Dev nD, k0_cond36 d = 1#1 ↔ (⟨3, by decide⟩ : Dev nD) ≠ d) c) k0_dev36_eq rfl ((by decide +kernel : ∀ d : Dev nD, k0_off10 d = slotOff d.val) c) (snd_sem ⟨3, by decide⟩ rfl _) (fun _ => rcv_sem c (k0_off9_eq c) _) ?_
  refine snd_step m K c ⟨4, by decide⟩ ((by decide +kernel : ∀ d : Dev nD, k0_cond37 d = 1#1 ↔ (⟨4, by decide⟩ : Dev nD) ≠ d) c) k0_dev37_eq rfl ((by decide +kernel : ∀ d : Dev nD, k0_off12 d = slotOff d.val) c) (snd_sem ⟨4, by decide⟩ rfl _) (fun _ => rcv_sem c (k0_off11_eq c) _) ?_
  exact run_pure c (hR _)

end Cert.Exchange

end
-- ==== Proof.Whole.lean ====
/-
# Whole buffers and whole sets of semaphores

At its start and at its end a device holds its buffers whole and all its semaphores; in between it holds pieces. This
module cuts and rejoins: the landing buffer by slots, the two `w` slots, `w` by chunks, the 67 semaphores by their use.
-/
module

public import proofs.«01_k».proof.Proof.Opening

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## The semaphores -/

/-- The places of the four uses among the 67. -/
def useIx : (Fin 1 ⊕ Fin 2) ⊕ (Dev nD ⊕ Dev nD) → Fin 67
  | .inl (.inl _) => kBar
  | .inl (.inr s) => kWc s
  | .inr (.inl t) => kSnd t
  | .inr (.inr s) => kRcv s
theorem useIx_bijective : Function.Bijective useIx := by
  rw [Fintype.bijective_iff_injective_and_card]
  refine ⟨?_, by decide⟩
  intro a b h
  have h' := congrArg Fin.val h
  rcases a with (a | a) | (a | a) <;> rcases b with (b | b) | (b | b) <;>
    simp only [useIx, kBar, kWc, kSnd, kRcv, Fin.val_zero] at h' <;>
    first
    | exact congrArg _ (congrArg _ (Fin.ext (by omega)))
    | (have ha : a.val < 32 := a.isLt; have hb : b.val < 32 := b.isLt; omega)
    | (have ha := a.isLt; have hb := b.isLt; omega)

theorem bigSep_uses (Φ : Fin 67 → sProp 𝕄) : bigSep Finset.univ Φ
    = iprop((Φ kBar ∗ bigSep Finset.univ fun s : Fin 2 => Φ (kWc s)) ∗ (bigSep Finset.univ fun t : Dev nD => Φ (kSnd t)) ∗ bigSep Finset.univ fun s : Dev nD => Φ (kRcv s)) := by
  rw [bigSep_univ_equiv (Equiv.ofBijective useIx useIx_bijective) Φ, bigSep_univ_sum, bigSep_univ_sum, bigSep_univ_sum]
  refine congrArg₂ _ (congrArg₂ _ ?_ rfl) rfl
  exact bigSep_singleton

/-- The semaphores of one device, each with a property of its cell. -/
theorem cells_uses (Φ : GSem nD τ sig → sProp 𝕄) : (bigSep Finset.univ fun k : Fin 67 => Φ (kcell (c, k)))
    = iprop((Φ (barCell c) ∗ bigSep Finset.univ fun s : Fin 2 => Φ (wcCell c s)) ∗ (bigSep Finset.univ fun t : Dev nD => Φ (sndCell c t)) ∗ bigSep Finset.univ fun s : Dev nD => Φ (rcvCell c s)) := by
  rw [bigSep_uses]
  refine congrArg₂ _ (congrArg₂ _ ?_ (bigSep_congr fun s _ => ?_)) (congrArg₂ _ (bigSep_congr fun s _ => ?_) (bigSep_congr fun s _ => ?_))
  · exact congrArg (fun sm => Φ ((c : Thread nD τ), sm)) csem_bar
  · exact congrArg (fun sm => Φ ((c : Thread nD τ), sm)) (csem_wc s)
  · exact congrArg (fun sm => Φ ((c : Thread nD τ), sm)) (csem_snd s)
  · exact congrArg (fun sm => Φ ((c : Thread nD τ), sm)) (csem_rcv s)

/-! ## The buffers -/

def lPts (f : Buf (Elt F) ((c : Thread nD τ).loc cc0_scratch1)) : sProp 𝕄 := ((c : Thread nD τ).loc cc0_scratch1) ↦{fullShare} f
def vPts (f : Buf (Elt F) ((c : Thread nD τ).loc cc0_scratch2)) : sProp 𝕄 := ((c : Thread nD τ).loc cc0_scratch2) ↦{fullShare} f
def wPts : sProp 𝕄 := ((c : Thread nD τ).loc main_arg1) ↦{fullShare} m ((c : Thread nD τ).loc main_arg1)

theorem lPts_slots (f : Buf (Elt F) ((c : Thread nD τ).loc cc0_scratch1)) : lPts c f = bigSep Finset.univ fun s : Dev nD => slotPts c s f := by
  unfold lPts slotPts
  refine Eq.trans ?_ (pointsTo_biUnion (ℓ := (c : Thread nD τ).loc cc0_scratch1) (q := fullShare) (f := f)
    (Finset.univ : Finset (Dev nD)) (fun s : Dev nD => slot s.val) fun t _ t' _ h => by
      rw [Finset.disjoint_left]; intro i h1 h2
      rw [mem_slot] at h1 h2; exact h (Fin.ext (h1.symm.trans h2)))
  refine congrArg (fun S => (((c : Thread nD τ).loc cc0_scratch1) ↦[S]{fullShare} f : sProp 𝕄)) (Eq.symm (Finset.eq_univ_iff_forall.mpr fun i => ?_))
  exact Finset.mem_biUnion.mpr ⟨⟨srcOf i, srcOf_lt i⟩, Finset.mem_univ _, mem_slot.mpr rfl⟩

theorem wPts_chunks : wPts m c = bigSep Finset.univ fun q : Fin 8 => wrowsPts m c q.val := by
  unfold wPts wrowsPts
  refine Eq.trans ?_ (pointsTo_biUnion (ℓ := (c : Thread nD τ).loc main_arg1) (q := fullShare) (f := m ((c : Thread nD τ).loc main_arg1))
    (Finset.univ : Finset (Fin 8)) (fun q : Fin 8 => wrows (chunk c q.val)) fun t _ t' _ h => by
      rw [Finset.disjoint_left]; intro i h1 h2
      rw [mem_wrows] at h1 h2
      have e : chunk c t.val = chunk c t'.val := h1.symm.trans h2
      have := t.isLt; have := t'.isLt
      unfold chunk at e
      exact h (Fin.ext (by omega)))
  refine congrArg (fun S => (((c : Thread nD τ).loc main_arg1) ↦[S]{fullShare} m ((c : Thread nD τ).loc main_arg1) : sProp 𝕄)) (Eq.symm (Finset.eq_univ_iff_forall.mpr fun i => ?_))
  have hi : ((i : S4096x8192.Idx) 0).val < 4096 := ((i : S4096x8192.Idx) 0).isLt
  refine Finset.mem_biUnion.mpr ⟨⟨(((i : S4096x8192.Idx) 0).val / 512 + 8 - c.val / 4 % 8) % 8, Nat.mod_lt _ (by decide)⟩, Finset.mem_univ _, mem_wrows.mpr ?_⟩
  unfold chunk; dsimp only; omega

theorem wslot_disjoint : Disjoint (wslot 0) (wslot 1) := by
  rw [Finset.disjoint_left]; intro i h1 h2
  rw [mem_wslot] at h1 h2; omega
theorem wslot_union : wslot 0 ∪ wslot 1 = Finset.univ := Finset.eq_univ_iff_forall.mpr fun i => by
  have hi : (i 0).val < 2 := (i 0).isLt
  rw [Finset.mem_union, mem_wslot, mem_wslot]; omega

theorem vPts_slots (f : Buf (Elt F) ((c : Thread nD τ).loc cc0_scratch2)) : vPts c f ⊢ iprop(wslotPts c 0 f ∗ wslotPts c 1 f) := by
  unfold vPts wslotPts
  have h := (pointsTo_union (ℓ := (c : Thread nD τ).loc cc0_scratch2) (q := fullShare) (f := f) (Ix := Unit) (Name := ℕ) (U := UU) (Lvl := ℕ) wslot_disjoint).1
  rw [wslot_union] at h
  exact h
theorem vPts_join (f g : Buf (Elt F) ((c : Thread nD τ).loc cc0_scratch2)) : iprop(wslotPts c 0 f ∗ wslotPts c 1 g) ⊢ (iprop(∃ f, vPts c f) : sProp 𝕄) := by
  unfold vPts wslotPts
  have h := (pointsTo_join (ℓ := (c : Thread nD τ).loc cc0_scratch2) (q := fullShare) (f := f) (g := g) (Ix := Unit) (Name := ℕ) (U := UU) (Lvl := ℕ) wslot_disjoint)
  rw [wslot_union] at h
  iintro H
  iexists _
  iapply h; iexact H

/-! ## Closing the semaphores -/

theorem bigSep_along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A cell whose rounds are over is closed: its counter is the device's again, at zero. -/
theorem close_cell (k : Fin 67) {sm : SemLoc sig} (hk : csem k = sm) {R : ℕ}
    (hR : ∀ r, R ≤ r → (Rd (F := F) m).duties ((c : Thread nD τ), sm) r = ∅) :
    iprop(records m K ∗ atPos ER ((c : Thread nD τ), sm) R ∅ 0) ⊢ (|={Set.univ}=> semVal ((c : Thread nD τ), sm) 0 : sProp 𝕄) := by
  iintro ⟨#HR, Ha⟩
  iapply (Rounds.cell_close ER (Rd m) (Set.mem_univ (K (c, k))) (fun h => h) hR)
  isplitr; · iapply (rec_inv m K c k hk); iexact HR
  iexact Ha

theorem close_cells {I : Type} [Fintype I] [DecidableEq I] (k : I → Fin 67) {sm : I → SemLoc sig} (hk : ∀ i, csem (k i) = sm i) {R : I → ℕ}
    (hR : ∀ i r, R i ≤ r → (Rd (F := F) m).duties ((c : Thread nD τ), sm i) r = ∅) :
    iprop(records m K ∗ bigSep Finset.univ fun i => atPos ER ((c : Thread nD τ), sm i) (R i) ∅ 0)
      ⊢ (|={Set.univ}=> bigSep Finset.univ fun i => semVal ((c : Thread nD τ), sm i) 0 : sProp 𝕄) :=
  (bigSep_along fun i _ => close_cell m K c (k i) (hk i) (hR i)).trans (bigSep_fupd _ _)

theorem close_all :
    iprop(records m K ∗ atPos ER (barCell c) 1 ∅ 0 ∗ (bigSep Finset.univ fun s : Fin 2 => atPos ER (wcCell c s) 4 ∅ 0)
        ∗ (bigSep Finset.univ fun t : Dev nD => atPos ER (sndCell c t) (if t = c then 0 else 1) ∅ 0)
        ∗ bigSep Finset.univ fun s : Dev nD => atPos ER (rcvCell c s) (if s = c then 0 else 1) ∅ 0)
      ⊢ (|={Set.univ}=> bigSep Finset.univ fun k : Fin 67 => semVal (kcell (c, k)) 0 : sProp 𝕄) := by
  rw [cells_uses c fun g => (semVal g 0 : sProp 𝕄)]
  iintro ⟨#HR, H1, H2, H3, H4⟩
  imod (close_cell m K c kBar csem_bar (over_bar m c)) $$ [H1] with H1
  · isplitr; · iexact HR
    iexact H1
  imod (close_cells m K c kWc csem_wc (fun s => over_wc m c s)) $$ [H2] with H2
  · isplitr; · iexact HR
    iexact H2
  imod (close_cells m K c kSnd csem_snd (fun t => over_snd m c t)) $$ [H3] with H3
  · isplitr; · iexact HR
    iexact H3
  imod (close_cells m K c kRcv csem_rcv (fun s => over_rcv m c s)) $$ [H4] with H4
  · isplitr; · iexact HR
    iexact H4
  imodintro
  isplitl [H1 H2]
  · isplitl [H1] <;> iassumption
  isplitl [H3] <;> iassumption

end Cert.Exchange

end
-- ==== Proof.Sends.lean ====
/-
# The sends

Parts six to eight of the kernel: every block goes out, one rule of transfer per site.
-/
module

public import proofs.«01_k».proof.Proof.Handshake

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable {hx : xM.IsWhole} {hw : wM.IsWhole} {ho : oM.IsWhole} {hb : bM.IsWhole} {hl : lM.IsWhole} {hv : vM.IsWhole}
  {Fr : sProp (MT nD τ sig Unit (Elt F) ℕ UU ℕ)}

set_option maxRecDepth 65536 in
/-- Sends 5 to 14. -/
theorem part6 {v2 : BitVec 32} {v158 : BitVec 32} {Q : (BitVec 32) → sProp 𝕄}
    (hR : ∀ r, iprop(records m K ∗ Snd m c 15 ∗ Fr) ⊢ Q r) :
    iprop(records m K ∗ Snd m c 5 ∗ Fr) ⊢ run c (k0_part6 xM hx wM hw oM ho bM hb lM hl vM hv cc0_scratch3 cc0_scratch4 cc0_scratch5 c v2 v158) Q := by
  rw [k0_part6_eq_skeleton]
  unfold k0_part6_skel
  refine snd_step m K c ⟨5, by decide⟩ ((by decide +kernel : ∀ d : Dev nD, k0_cond38 d = 1#1 ↔ (⟨5, by decide⟩ : Dev nD) ≠ d) c) k0_dev38_eq rfl ((by decide +kernel : ∀ d : Dev nD, k0_off14 d = slotOff d.val) c) (snd_sem ⟨5, by decide⟩ rfl _) (fun _ => rcv_sem c (k0_off13_eq c) _) ?_
  refine snd_step m K c ⟨6, by decide⟩ ((by decide +kernel : ∀ d : Dev nD, k0_cond39 d = 1#1 ↔ (⟨6, by decide⟩ : Dev nD) ≠ d) c) k0_dev39_eq rfl ((by decide +kernel : ∀ d : Dev nD, k0_off16 d = slotOff d.val) c) (snd_sem ⟨6, by decide⟩ rfl _) (fun _ => rcv_sem c (k0_off15_eq c) _) ?_
  refine snd_step m K c ⟨7, by decide⟩ ((by decide +kernel : ∀ d : Dev nD, k0_cond40 d = 1#1 ↔ (⟨7, by decide⟩ : Dev nD) ≠ d) c) k0_dev40_eq rfl ((by decide +kernel : ∀ d : Dev nD, k0_off18 d = slotOff d.val) c) (snd_sem ⟨7, by decide⟩ rfl _) (fun _ => rcv_sem c (k0_off17_eq c) _) ?_
  refine snd_step m K c ⟨8, by decide⟩ ((by decide +kernel : ∀ d : Dev nD, k0_cond41 d = 1#1 ↔ (⟨8, by decide⟩ : Dev nD) ≠ d) c) k0_dev41_eq rfl ((by decide +kernel : ∀ d : Dev nD, k0_off20 d = slotOff d.val) c) (snd_sem ⟨8, by decide⟩ rfl _) (fun _ => rcv_sem c (k0_off19_eq c) _) ?_
  refine snd_step m K c ⟨9, by decide⟩ ((by decide +kernel : ∀ d : Dev nD, k0_cond42 d = 1#1 ↔ (⟨9, by decide⟩ : Dev nD) ≠ d) c) k0_dev42_eq rfl ((by decide +kernel : ∀ d : Dev nD, k0_off22 d = slotOff d.val) c) (snd_sem ⟨9, by decide⟩ rfl _) (fun _ => rcv_sem c (k0_off21_eq c) _) ?_
  refine snd_step m K c ⟨10, by decide⟩ ((by decide +kernel : ∀ d : Dev nD, k0_cond43 d = 1#1 ↔ (⟨10, by decide⟩ : Dev nD) ≠ d) c) k0_dev43_eq rfl ((by decide +kernel : ∀ d : Dev nD, k0_off24 d = slotOff d.val) c) (snd_sem ⟨10, by decide⟩ rfl _) (fun _ => rcv_sem c (k0_off23_eq c) _) ?_
  refine snd_step m K c ⟨11, by decide⟩ ((by decide +kernel : ∀ d : Dev nD, k0_cond44 d = 1#1 ↔ (⟨11, by decide⟩ : Dev nD) ≠ d) c) k0_dev44_eq rfl ((by decide +kernel : ∀ d : Dev nD, k0_off26 d = slotOff d.val) c) (snd_sem ⟨11, by decide⟩ rfl _) (fun _ => rcv_sem c (k0_off25_eq c) _) ?_
  refine snd_step m K c ⟨12, by decide⟩ ((by decide +kernel : ∀ d : Dev nD, k0_cond45 d = 1#1 ↔ (⟨12, by decide⟩ : Dev nD) ≠ d) c) k0_dev45_eq rfl ((by decide +kernel : ∀ d : Dev nD, k0_off28 d = slotOff d.val) c) (snd_sem ⟨12, by decide⟩ rfl _) (fun _ => rcv_sem c (k0_off27_eq c) _) ?_
  refine snd_step m K c ⟨13, by decide⟩ ((by decide +kernel : ∀ d : Dev nD, k0_cond46 d = 1#1 ↔ (⟨13, by decide⟩ : Dev nD) ≠ d) c) k0_dev46_eq rfl ((by decide +kernel : ∀ d : Dev nD, k0_off30 d = slotOff d.val) c) (snd_sem ⟨13, by decide⟩ rfl _) (fun _ => rcv_sem c (k0_off29_eq c) _) ?_
  refine snd_step m K c ⟨14, by decide⟩ ((by decide +kernel : ∀ d : Dev nD, k0_cond47 d = 1#1 ↔ (⟨14, by decide⟩ : Dev nD) ≠ d) c) k0_dev47_eq rfl ((by decide +kernel : ∀ d : Dev nD, k0_off32 d = slotOff d.val) c) (snd_sem ⟨14, by decide⟩ rfl _) (fun _ => rcv_sem c (k0_off31_eq c) _) ?_
  exact run_pure c (hR _)

set_option maxRecDepth 65536 in
/-- Sends 15 to 24. -/
theorem part7 {v2 : BitVec 32} {v188 : BitVec 32} {Q : (BitVec 32) → sProp 𝕄}
    (hR : ∀ r, iprop(records m K ∗ Snd m c 25 ∗ Fr) ⊢ Q r) :
    iprop(records m K ∗ Snd m c 15 ∗ Fr) ⊢ run c (k0_part7 xM hx wM hw oM ho bM hb lM hl vM hv cc0_scratch3 cc0_scratch4 cc0_scratch5 c v2 v188) Q := by
  rw [k0_part7_eq_skeleton]
  unfold k0_part7_skel
  refine snd_step m K c ⟨15, by decide⟩ ((by decide +kernel : ∀ d : Dev nD, k0_cond48 d = 1#1 ↔ (⟨15, by decide⟩ : Dev nD) ≠ d) c) k0_dev48_eq rfl ((by decide +kernel : ∀ d : Dev nD, k0_off34 d = slotOff d.val) c) (snd_sem ⟨15, by decide⟩ rfl _) (fun _ => rcv_sem c (k0_off33_eq c) _) ?_
  refine snd_step m K c ⟨16, by decide⟩ ((by decide +kernel : ∀ d : Dev nD, k0_cond49 d = 1#1 ↔ (⟨16, by decide⟩ : Dev nD) ≠ d) c) k0_dev49_eq rfl ((by decide +kernel : ∀ d : Dev nD, k0_off36 d = slotOff d.val) c) (snd_sem ⟨16, by decide⟩ rfl _) (fun _ => rcv_sem c (k0_off35_eq c) _) ?_
  refine snd_step m K c ⟨17, by decide⟩ ((by decide +kernel : ∀ d : Dev nD, k0_cond50 d = 1#1 ↔ (⟨17, by decide⟩ : Dev nD) ≠ d) c) k0_dev50_eq rfl ((by decide +kernel : ∀ d : Dev nD, k0_off38 d = slotOff d.val) c) (snd_sem ⟨17, by decide⟩ rfl _) (fun _ => rcv_sem c (k0_off37_eq c) _) ?_
  refine snd_step m K c ⟨18, by decide⟩ ((by decide +kernel : ∀ d : Dev nD, k0_cond51 d = 1#1 ↔ (⟨18, by decide⟩ : Dev nD) ≠ d) c) k0_dev51_eq rfl ((by decide +kernel : ∀ d : Dev nD, k0_off40 d = slotOff d.val) c) (snd_sem ⟨18, by decide⟩ rfl _) (fun _ => rcv_sem c (k0_off39_eq c) _) ?_
  refine snd_step m K c ⟨19, by decide⟩ ((by decide +kernel : ∀ d : Dev nD, k0_cond52 d = 1#1 ↔ (⟨19, by decide⟩ : Dev nD) ≠ d) c) k0_dev52_eq rfl ((by decide +kernel : ∀ d : Dev nD, k0_off42 d = slotOff d.val) c) (snd_sem ⟨19, by decide⟩ rfl _) (fun _ => rcv_sem c (k0_off41_eq c) _) ?_
  refine snd_step m K c ⟨20, by decide⟩ ((by decide +kernel : ∀ d : Dev nD, k0_cond53 d = 1#1 ↔ (⟨20, by decide⟩ : Dev nD) ≠ d) c) k0_dev53_eq rfl ((by decide +kernel : ∀ d : Dev nD, k0_off44 d = slotOff d.val) c) (snd_sem ⟨20, by decide⟩ rfl _) (fun _ => rcv_sem c (k0_off43_eq c) _) ?_
  refine snd_step m K c ⟨21, by decide⟩ ((by decide +kernel : ∀ d : Dev nD, k0_cond54 d = 1#1 ↔ (⟨21, by decide⟩ : Dev nD) ≠ d) c) k0_dev54_eq rfl ((by decide +kernel : ∀ d : Dev nD, k0_off46 d = slotOff d.val) c) (snd_sem ⟨21, by decide⟩ rfl _) (fun _ => rcv_sem c (k0_off45_eq c) _) ?_
  refine snd_step m K c ⟨22, by decide⟩ ((by decide +kernel : ∀ d : Dev nD, k0_cond55 d = 1#1 ↔ (⟨22, by decide⟩ : Dev nD) ≠ d) c) k0_dev55_eq rfl ((by decide +kernel : ∀ d : Dev nD, k0_off48 d = slotOff d.val) c) (snd_sem ⟨22, by decide⟩ rfl _) (fun _ => rcv_sem c (k0_off47_eq c) _) ?_
  refine snd_step m K c ⟨23, by decide⟩ ((by decide +kernel : ∀ d : Dev nD, k0_cond56 d = 1#1 ↔ (⟨23, by decide⟩ : Dev nD) ≠ d) c) k0_dev56_eq rfl ((by decide +kernel : ∀ d : Dev nD, k0_off50 d = slotOff d.val) c) (snd_sem ⟨23, by decide⟩ rfl _) (fun _ => rcv_sem c (k0_off49_eq c) _) ?_
  refine snd_step m K c ⟨24, by decide⟩ ((by decide +kernel : ∀ d : Dev nD, k0_cond57 d = 1#1 ↔ (⟨24, by decide⟩ : Dev nD) ≠ d) c) k0_dev57_eq rfl ((by decide +kernel : ∀ d : Dev nD, k0_off52 d = slotOff d.val) c) (snd_sem ⟨24, by decide⟩ rfl _) (fun _ => rcv_sem c (k0_off51_eq c) _) ?_
  exact run_pure c (hR _)

set_option maxRecDepth 65536 in
/-- Sends 25 to 31. -/
theorem part8 {v2 : BitVec 32} {v19 : BitVec 32} {v218 : BitVec 32} {Q : (PUnit) → sProp 𝕄}
    (hR : iprop(records m K ∗ Snd m c 32 ∗ Fr) ⊢ Q ⟨⟩) :
    iprop(records m K ∗ Snd m c 25 ∗ Fr) ⊢ run c (k0_part8 xM hx wM hw oM ho bM hb lM hl vM hv cc0_scratch3 cc0_scratch4 cc0_scratch5 c v2 v19 v218) Q := by
  rw [k0_part8_eq_skeleton]
  unfold k0_part8_skel
  refine snd_step m K c ⟨25, by decide⟩ ((by decide +kernel : ∀ d : Dev nD, k0_cond58 d = 1#1 ↔ (⟨25, by decide⟩ : Dev nD) ≠ d) c) k0_dev58_eq rfl ((by decide +kernel : ∀ d : Dev nD, k0_off54 d = slotOff d.val) c) (snd_sem ⟨25, by decide⟩ rfl _) (fun _ => rcv_sem c (k0_off53_eq c) _) ?_
  refine snd_step m K c ⟨26, by decide⟩ ((by decide +kernel : ∀ d : Dev nD, k0_cond59 d = 1#1 ↔ (⟨26, by decide⟩ : Dev nD) ≠ d) c) k0_dev59_eq rfl ((by decide +kernel : ∀ d : Dev nD, k0_off56 d = slotOff d.val) c) (snd_sem ⟨26, by decide⟩ rfl _) (fun _ => rcv_sem c (k0_off55_eq c) _) ?_
  refine snd_step m K c ⟨27, by decide⟩ ((by decide +kernel : ∀ d : Dev nD, k0_cond60 d = 1#1 ↔ (⟨27, by decide⟩ : Dev nD) ≠ d) c) k0_dev60_eq rfl ((by decide +kernel : ∀ d : Dev nD, k0_off58 d = slotOff d.val) c) (snd_sem ⟨27, by decide⟩ rfl _) (fun _ => rcv_sem c (k0_off57_eq c) _) ?_
  refine snd_step m K c ⟨28, by decide⟩ ((by decide +kernel : ∀ d : Dev nD, k0_cond61 d = 1#1 ↔ (⟨28, by decide⟩ : Dev nD) ≠ d) c) k0_dev61_eq rfl ((by decide +kernel : ∀ d : Dev nD, k0_off60 d = slotOff d.val) c) (snd_sem ⟨28, by decide⟩ rfl _) (fun _ => rcv_sem c (k0_off59_eq c) _) ?_
  refine snd_step m K c ⟨29, by decide⟩ ((by decide +kernel : ∀ d : Dev nD, k0_cond62 d = 1#1 ↔ (⟨29, by decide⟩ : Dev nD) ≠ d) c) k0_dev62_eq rfl ((by decide +kernel : ∀ d : Dev nD, k0_off62 d = slotOff d.val) c) (snd_sem ⟨29, by decide⟩ rfl _) (fun _ => rcv_sem c (k0_off61_eq c) _) ?_
  refine snd_step m K c ⟨30, by decide⟩ ((by decide +kernel : ∀ d : Dev nD, k0_cond63 d = 1#1 ↔ (⟨30, by decide⟩ : Dev nD) ≠ d) c) k0_dev63_eq rfl ((by decide +kernel : ∀ d : Dev nD, k0_off64 d = slotOff d.val) c) (snd_sem ⟨30, by decide⟩ rfl _) (fun _ => rcv_sem c (k0_off63_eq c) _) ?_
  refine snd_step m K c ⟨31, by decide⟩ ((by decide +kernel : ∀ d : Dev nD, k0_cond64 d = 1#1 ↔ (⟨31, by decide⟩ : Dev nD) ≠ d) c) k0_dev64_eq rfl ((by decide +kernel : ∀ d : Dev nD, k0_off66 d = slotOff d.val) c) (snd_sem ⟨31, by decide⟩ rfl _) (fun _ => rcv_sem c (k0_off65_eq c) _) ?_
  exact run_pure c hR

end Cert.Exchange

end
-- ==== Proof.TurnsA.lean ====
/-
# The turns, first half

The accumulator's values, and the kernel's parts nine to seventeen: the first two copies and the turns up to the fourth.
-/
module

public import proofs.«01_k».proof.Proof.Handshake

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## The accumulator -/

/-- After turn `q`: the products of the turns so far, added in order. -/
def acc : ℕ → FVec F S128x8192 .f32
  | 0 => k0_pay4 (lpiece m c 0) (wpiece m c 0)
  | q + 1 => k0_pay5 (lpiece m c (q + 1)) (wpiece m c (q + 1)) (acc q)

/-! ## Where a turn's blocks come from -/

/-- The device whose block turn `q` waits for in step `u`. -/
def src (q : ℕ) (u : Fin 4) : Dev nD := ⟨4 * chunk c q + u.val, by have := chunk_lt c q; have := u.isLt; show 4 * chunk c q + u.val < 32; omega⟩
theorem src_ord (q : ℕ) (hq : q < 8) (u : Fin 4) : ordc c.val (src c q u).val = 4 * q + u.val := ordc_turn c q u.val hq u.isLt

/-! ## Slots put aside and taken up -/

variable {α : Type} {R : Prog (TpuEff nD τ sig (Elt F) Λ₀ .tc) α} in
/-- A slot is taken up for a copy. -/
theorem unpark {Q : α → sProp 𝕄} {Fr H : sProp 𝕄} {n a b : ℕ} {o : (cc0_stg1_0 : Ref sig .tc).ty.Contents (Elt F)}
    (hR : Mid m K c n a b H o Fr ⊢ run c R Q) : Mid m K c n a b iprop(emp) o iprop(H ∗ Fr) ⊢ run c R Q := by
  refine Entails.trans (PROP := sProp 𝕄) ?_ hR
  unfold Mid
  iintro ⟨H1, H2, H3, H4, H5, H6, H7, H8⟩
  isplitl [H1]; · iexact H1
  isplitl [H2]; · iexact H2
  isplitl [H3]; · iexact H3
  isplitl [H4]; · iexact H4
  isplitl [H7]; · iexact H7
  isplitl [H6] <;> iassumption

/-! ## The parts -/

variable {hx : xM.IsWhole} {hw : wM.IsWhole} {ho : oM.IsWhole} {hb : bM.IsWhole} {hl : lM.IsWhole} {hv : vM.IsWhole}
  {Fr : sProp (MT nD τ sig Unit (Elt F) ℕ UU ℕ)}

set_option maxRecDepth 65536 in
/-- Part 9. -/
theorem part9 {v19 : BitVec 32} {Q : (Σ' (v282 : BitVec 32), BitVec 32) → sProp 𝕄} {o₀ : (cc0_stg1_0 : Ref sig .tc).ty.Contents (Elt F)} {f₀ f₁ : Buf (Elt F) ((c : Thread nD τ).loc cc0_scratch2)}
    (hR : ∀ r, Mid m K c 0 2 0 iprop(emp) o₀ Fr ⊢ Q r) :
    Mid m K c 0 0 0 (wslotPts c 0 f₀) o₀ iprop(wslotPts c 1 f₁ ∗ Fr) ⊢ run c (k0_part9 xM hx wM hw oM ho bM hb lM hl vM hv cc0_scratch3 cc0_scratch4 cc0_scratch5 c v19) Q := by
  rw [k0_part9_eq_skeleton]
  unfold k0_part9_skel
  refine copy_step m K c _ (by decide) (by decide) (by decide) rfl ((by decide +kernel : ∀ d : Dev nD, k0_off67 d 0#32 = ![512 * chunk d 0, 0]) c) (wc_sem (par 0) rfl _) ?_
  refine unpark m K c ?_
  refine copy_step m K c _ (by decide) (by decide) (by decide) rfl ((by decide +kernel : ∀ d : Dev nD, k0_off67 d 1#32 = ![512 * chunk d 1, 0]) c) (wc_sem (par 1) rfl _) ?_
  exact run_pure c (hR _)

set_option maxRecDepth 65536 in
/-- Part 10. -/
theorem part10 {v2 : BitVec 32} {v19 : BitVec 32} {v282 : BitVec 32} {c0_i32_149 : BitVec 32} {Q : (Σ' (v315 : BitVec 32), BitVec 32) → sProp 𝕄} {o₀ : (cc0_stg1_0 : Ref sig .tc).ty.Contents (Elt F)}
    (hR : ∀ r, Mid m K c 3 2 1 (wslotPts c (0 % 2) (wch m c 0)) o₀ Fr ⊢ Q r) :
    Mid m K c 0 2 0 iprop(emp) o₀ Fr ⊢ run c (k0_part10 xM hx wM hw oM ho bM hb lM hl vM hv cc0_scratch3 cc0_scratch4 cc0_scratch5 c v2 v19 v282 c0_i32_149) Q := by
  rw [k0_part10_eq_skeleton]
  unfold k0_part10_skel
  refine cwait_step m K c (by decide) (by decide) (wc_sem (par 0) rfl _) ?_
  refine rcv_step m K c (src c 0 0) (src_ord c 0 (by decide) 0) ((by decide +kernel : ∀ d : Dev nD, k0_cond65 d = 1#1 ↔ src d 0 0 ≠ d) c) (fun _ => rcv_sem (src c 0 0) ((by decide +kernel : ∀ d : Dev nD, k0_off68 d = ![(src d 0 0).val]) c) _) ?_
  refine rcv_step m K c (src c 0 1) (src_ord c 0 (by decide) 1) ((by decide +kernel : ∀ d : Dev nD, k0_cond66 d = 1#1 ↔ src d 0 1 ≠ d) c) (fun _ => rcv_sem (src c 0 1) ((by decide +kernel : ∀ d : Dev nD, k0_off70 d = ![(src d 0 1).val]) c) _) ?_
  refine rcv_step m K c (src c 0 2) (src_ord c 0 (by decide) 2) ((by decide +kernel : ∀ d : Dev nD, k0_cond67 d = 1#1 ↔ src d 0 2 ≠ d) c) (fun _ => rcv_sem (src c 0 2) ((by decide +kernel : ∀ d : Dev nD, k0_off72 d = ![(src d 0 2).val]) c) _) ?_
  exact run_pure c (hR _)

set_option maxRecDepth 65536 in
/-- Part 11. -/
theorem part11 {v2 : BitVec 32} {v19 : BitVec 32} {v282 : BitVec 32} {v315 : BitVec 32} {c3_i32_172 : BitVec 32} {Q : (Σ' (v345 : BitVec 32) (c8_i32_195 : BitVec 32) (v346 : BitVec 1), BitVec 32) → sProp 𝕄} {o₀ : (cc0_stg1_0 : Ref sig .tc).ty.Contents (Elt F)}
    (hR : ∀ r, Mid m K c 4 3 1 iprop(emp) (acc m c 0) Fr ⊢ Q r) :
    Mid m K c 3 2 1 (wslotPts c (0 % 2) (wch m c 0)) o₀ Fr ⊢ run c (k0_part11 xM hx wM hw oM ho bM hb lM hl vM hv cc0_scratch3 cc0_scratch4 cc0_scratch5 c v2 v19 v282 v315 c3_i32_172) Q := by
  rw [k0_part11_eq_skeleton]
  unfold k0_part11_skel
  refine rcv_step m K c (src c 0 3) (src_ord c 0 (by decide) 3) ((by decide +kernel : ∀ d : Dev nD, k0_cond68 d = 1#1 ↔ src d 0 3 ≠ d) c) (fun _ => rcv_sem (src c 0 3) ((by decide +kernel : ∀ d : Dev nD, k0_off74 d = ![(src d 0 3).val]) c) _) ?_
  refine load_l m K c 0 (by decide) (by decide) ((by decide +kernel : ∀ d : Dev nD, k0_off76 d 0#32 = ![chunk d 0, 0, 0]) c) ?_
  refine load_w m K c 0 rfl ?_
  refine mid_load_o m K c ?_
  refine mid_store_o m K c (acc m c 0) ?_
  refine copy_step m K c _ (by decide) (by decide) (by decide) rfl ((by decide +kernel : ∀ d : Dev nD, k0_off67 d 2#32 = ![512 * chunk d 2, 0]) c) (wc_sem (par 2) rfl _) ?_
  exact run_pure c (hR _)

set_option maxRecDepth 65536 in
/-- Part 12. -/
theorem part12 {v2 : BitVec 32} {v19 : BitVec 32} {v345 : BitVec 32} {c8_i32_195 : BitVec 32} {v346 : BitVec 1} {c1_i32_197 : BitVec 32} {Q : (BitVec 32) → sProp 𝕄}
    (hR : ∀ r, Mid m K c 5 3 2 (wslotPts c (1 % 2) (wch m c 1)) (acc m c 0) Fr ⊢ Q r) :
    Mid m K c 4 3 1 iprop(emp) (acc m c 0) Fr ⊢ run c (k0_part12 xM hx wM hw oM ho bM hb lM hl vM hv cc0_scratch3 cc0_scratch4 cc0_scratch5 c v2 v19 v345 c8_i32_195 v346 c1_i32_197) Q := by
  rw [k0_part12_eq_skeleton]
  unfold k0_part12_skel
  refine cwait_step m K c (by decide) (by decide) (wc_sem (par 1) rfl _) ?_
  refine rcv_step m K c (src c 1 0) (src_ord c 1 (by decide) 0) ((by decide +kernel : ∀ d : Dev nD, k0_cond69 d = 1#1 ↔ src d 1 0 ≠ d) c) (fun _ => rcv_sem (src c 1 0) ((by decide +kernel : ∀ d : Dev nD, k0_off77 d = ![(src d 1 0).val]) c) _) ?_
  exact run_pure c (hR _)

set_option maxRecDepth 65536 in
/-- Part 13. -/
theorem part13 {v2 : BitVec 32} {v19 : BitVec 32} {v355 : BitVec 32} {Q : (Σ' (v414 : BitVec 32), BitVec 32) → sProp 𝕄}
    (hR : ∀ r, Mid m K c 8 3 2 (wslotPts c (1 % 2) (wch m c 1)) (acc m c 1) Fr ⊢ Q r) :
    Mid m K c 5 3 2 (wslotPts c (1 % 2) (wch m c 1)) (acc m c 0) Fr ⊢ run c (k0_part13 xM hx wM hw oM ho bM hb lM hl vM hv cc0_scratch3 cc0_scratch4 cc0_scratch5 c v2 v19 v355) Q := by
  rw [k0_part13_eq_skeleton]
  unfold k0_part13_skel
  refine rcv_step m K c (src c 1 1) (src_ord c 1 (by decide) 1) ((by decide +kernel : ∀ d : Dev nD, k0_cond70 d = 1#1 ↔ src d 1 1 ≠ d) c) (fun _ => rcv_sem (src c 1 1) ((by decide +kernel : ∀ d : Dev nD, k0_off79 d = ![(src d 1 1).val]) c) _) ?_
  refine rcv_step m K c (src c 1 2) (src_ord c 1 (by decide) 2) ((by decide +kernel : ∀ d : Dev nD, k0_cond71 d = 1#1 ↔ src d 1 2 ≠ d) c) (fun _ => rcv_sem (src c 1 2) ((by decide +kernel : ∀ d : Dev nD, k0_off81 d = ![(src d 1 2).val]) c) _) ?_
  refine rcv_step m K c (src c 1 3) (src_ord c 1 (by decide) 3) ((by decide +kernel : ∀ d : Dev nD, k0_cond72 d = 1#1 ↔ src d 1 3 ≠ d) c) (fun _ => rcv_sem (src c 1 3) ((by decide +kernel : ∀ d : Dev nD, k0_off83 d = ![(src d 1 3).val]) c) _) ?_
  refine load_l m K c 1 (by decide) (by decide) ((by decide +kernel : ∀ d : Dev nD, k0_off76 d 1#32 = ![chunk d 1, 0, 0]) c) ?_
  refine load_w m K c 1 rfl ?_
  refine mid_load_o m K c ?_
  refine mid_load_o m K c ?_
  refine mid_store_o m K c (acc m c 1) ?_
  exact run_pure c (hR _)

set_option maxRecDepth 65536 in
/-- Part 14. -/
theorem part14 {v19 : BitVec 32} {v414 : BitVec 32} {c512_i32_242 : BitVec 32} {Q : (BitVec 32) → sProp 𝕄}
    (hR : ∀ r, Mid m K c 8 4 2 iprop(emp) (acc m c 1) Fr ⊢ Q r) :
    Mid m K c 8 3 2 (wslotPts c (1 % 2) (wch m c 1)) (acc m c 1) Fr ⊢ run c (k0_part14 xM hx wM hw oM ho bM hb lM hl vM hv cc0_scratch3 cc0_scratch4 cc0_scratch5 c v19 v414 c512_i32_242) Q := by
  rw [k0_part14_eq_skeleton]
  unfold k0_part14_skel
  refine copy_step m K c _ (by decide) (by decide) (by decide) rfl ((by decide +kernel : ∀ d : Dev nD, k0_off67 d 3#32 = ![512 * chunk d 3, 0]) c) (wc_sem (par 3) rfl _) ?_
  exact run_pure c (hR _)

set_option maxRecDepth 65536 in
/-- Part 15. -/
theorem part15 {v2 : BitVec 32} {v431 : BitVec 32} {Q : (BitVec 32) → sProp 𝕄}
    (hR : ∀ r, Mid m K c 12 4 3 (wslotPts c (2 % 2) (wch m c 2)) (acc m c 2) Fr ⊢ Q r) :
    Mid m K c 8 4 2 iprop(emp) (acc m c 1) Fr ⊢ run c (k0_part15 xM hx wM hw oM ho bM hb lM hl vM hv cc0_scratch3 cc0_scratch4 cc0_scratch5 c v2 v431) Q := by
  rw [k0_part15_eq_skeleton]
  unfold k0_part15_skel
  refine cwait_step m K c (by decide) (by decide) (wc_sem (par 2) rfl _) ?_
  refine rcv_step m K c (src c 2 0) (src_ord c 2 (by decide) 0) ((by decide +kernel : ∀ d : Dev nD, k0_cond73 d = 1#1 ↔ src d 2 0 ≠ d) c) (fun _ => rcv_sem (src c 2 0) ((by decide +kernel : ∀ d : Dev nD, k0_off85 d = ![(src d 2 0).val]) c) _) ?_
  refine rcv_step m K c (src c 2 1) (src_ord c 2 (by decide) 1) ((by decide +kernel : ∀ d : Dev nD, k0_cond74 d = 1#1 ↔ src d 2 1 ≠ d) c) (fun _ => rcv_sem (src c 2 1) ((by decide +kernel : ∀ d : Dev nD, k0_off87 d = ![(src d 2 1).val]) c) _) ?_
  refine rcv_step m K c (src c 2 2) (src_ord c 2 (by decide) 2) ((by decide +kernel : ∀ d : Dev nD, k0_cond75 d = 1#1 ↔ src d 2 2 ≠ d) c) (fun _ => rcv_sem (src c 2 2) ((by decide +kernel : ∀ d : Dev nD, k0_off89 d = ![(src d 2 2).val]) c) _) ?_
  refine rcv_step m K c (src c 2 3) (src_ord c 2 (by decide) 3) ((by decide +kernel : ∀ d : Dev nD, k0_cond76 d = 1#1 ↔ src d 2 3 ≠ d) c) (fun _ => rcv_sem (src c 2 3) ((by decide +kernel : ∀ d : Dev nD, k0_off91 d = ![(src d 2 3).val]) c) _) ?_
  refine load_l m K c 2 (by decide) (by decide) ((by decide +kernel : ∀ d : Dev nD, k0_off76 d 2#32 = ![chunk d 2, 0, 0]) c) ?_
  refine load_w m K c 2 rfl ?_
  refine mid_load_o m K c ?_
  refine mid_load_o m K c ?_
  refine mid_store_o m K c (acc m c 2) ?_
  exact run_pure c (hR _)

set_option maxRecDepth 65536 in
/-- Part 16. -/
theorem part16 {v19 : BitVec 32} {c4_i32_290 : BitVec 32} {Q : (Σ' (v507 : BitVec 32) (v510 : BitVec 32) (v511 : BitVec 32) (v512 : BitVec 1), BitVec 1) → sProp 𝕄}
    (hR : ∀ r, Mid m K c 12 5 3 iprop(emp) (acc m c 2) Fr ⊢ Q r) :
    Mid m K c 12 4 3 (wslotPts c (2 % 2) (wch m c 2)) (acc m c 2) Fr ⊢ run c (k0_part16 xM hx wM hw oM ho bM hb lM hl vM hv cc0_scratch3 cc0_scratch4 cc0_scratch5 c v19 c4_i32_290) Q := by
  rw [k0_part16_eq_skeleton]
  unfold k0_part16_skel
  refine copy_step m K c _ (by decide) (by decide) (by decide) rfl ((by decide +kernel : ∀ d : Dev nD, k0_off67 d 4#32 = ![512 * chunk d 4, 0]) c) (wc_sem (par 4) rfl _) ?_
  exact run_pure c (hR _)

set_option maxRecDepth 65536 in
/-- Part 17. -/
theorem part17 {v2 : BitVec 32} {v507 : BitVec 32} {v510 : BitVec 32} {v511 : BitVec 32} {v512 : BitVec 1} {v513 : BitVec 1} {Q : (FVec F S128x512 .bf16) → sProp 𝕄}
    (hR : Mid m K c 16 5 4 (wslotPts c (3 % 2) (wch m c 3)) (acc m c 2) Fr ⊢ Q (k0_pay7 (lpiece m c 3))) :
    Mid m K c 12 5 3 iprop(emp) (acc m c 2) Fr ⊢ run c (k0_part17 xM hx wM hw oM ho bM hb lM hl vM hv cc0_scratch3 cc0_scratch4 cc0_scratch5 c v2 v507 v510 v511 v512 v513) Q := by
  rw [k0_part17_eq_skeleton]
  unfold k0_part17_skel
  refine cwait_step m K c (by decide) (by decide) (wc_sem (par 3) rfl _) ?_
  refine rcv_step m K c (src c 3 0) (src_ord c 3 (by decide) 0) ((by decide +kernel : ∀ d : Dev nD, k0_cond77 d = 1#1 ↔ src d 3 0 ≠ d) c) (fun _ => rcv_sem (src c 3 0) ((by decide +kernel : ∀ d : Dev nD, k0_off93 d = ![(src d 3 0).val]) c) _) ?_
  refine rcv_step m K c (src c 3 1) (src_ord c 3 (by decide) 1) ((by decide +kernel : ∀ d : Dev nD, k0_cond78 d = 1#1 ↔ src d 3 1 ≠ d) c) (fun _ => rcv_sem (src c 3 1) ((by decide +kernel : ∀ d : Dev nD, k0_off95 d = ![(src d 3 1).val]) c) _) ?_
  refine rcv_step m K c (src c 3 2) (src_ord c 3 (by decide) 2) ((by decide +kernel : ∀ d : Dev nD, k0_cond79 d = 1#1 ↔ src d 3 2 ≠ d) c) (fun _ => rcv_sem (src c 3 2) ((by decide +kernel : ∀ d : Dev nD, k0_off97 d = ![(src d 3 2).val]) c) _) ?_
  refine rcv_step m K c (src c 3 3) (src_ord c 3 (by decide) 3) ((by decide +kernel : ∀ d : Dev nD, k0_cond80 d = 1#1 ↔ src d 3 3 ≠ d) c) (fun _ => rcv_sem (src c 3 3) ((by decide +kernel : ∀ d : Dev nD, k0_off99 d = ![(src d 3 3).val]) c) _) ?_
  refine load_l m K c 3 (by decide) (by decide) ((by decide +kernel : ∀ d : Dev nD, k0_off76 d 3#32 = ![chunk d 3, 0, 0]) c) ?_
  exact run_pure c hR

end Cert.Exchange

end
-- ==== Proof.TurnsB.lean ====
/-
# The turns, second half

The kernel's parts eighteen to twenty-six.
-/
module

public import proofs.«01_k».proof.Proof.TurnsA

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable {hx : xM.IsWhole} {hw : wM.IsWhole} {ho : oM.IsWhole} {hb : bM.IsWhole} {hl : lM.IsWhole} {hv : vM.IsWhole}
  {Fr : sProp (MT nD τ sig Unit (Elt F) ℕ UU ℕ)}

set_option maxRecDepth 65536 in
/-- Part 18. -/
theorem part18 {v19 : BitVec 32} {Q : (Σ' (v575 : BitVec 32) (v576 : BitVec 32) (v577 : BitVec 1), BitVec 1) → sProp 𝕄}
    (hR : ∀ r, Mid m K c 16 6 4 iprop(emp) (acc m c 3) Fr ⊢ Q r) :
    Mid m K c 16 5 4 (wslotPts c (3 % 2) (wch m c 3)) (acc m c 2) Fr ⊢ run c (k0_part18 xM hx wM hw oM ho bM hb lM hl vM hv cc0_scratch3 cc0_scratch4 cc0_scratch5 c v19 (k0_pay7 (lpiece m c 3))) Q := by
  rw [k0_part18_eq_skeleton]
  unfold k0_part18_skel
  refine load_w m K c 3 rfl ?_
  refine mid_load_o m K c ?_
  refine mid_load_o m K c ?_
  refine mid_store_o m K c (acc m c 3) ?_
  refine copy_step m K c _ (by decide) (by decide) (by decide) rfl ((by decide +kernel : ∀ d : Dev nD, k0_off67 d 5#32 = ![512 * chunk d 5, 0]) c) (wc_sem (par 5) rfl _) ?_
  exact run_pure c (hR _)

set_option maxRecDepth 65536 in
/-- Part 19. -/
theorem part19 {v2 : BitVec 32} {v19 : BitVec 32} {v575 : BitVec 32} {v576 : BitVec 32} {v577 : BitVec 1} {v578 : BitVec 1} {Q : (Σ' (v583 : BitVec 32), BitVec 1) → sProp 𝕄}
    (hR : ∀ r, Mid m K c 18 6 5 (wslotPts c (4 % 2) (wch m c 4)) (acc m c 3) Fr ⊢ Q r) :
    Mid m K c 16 6 4 iprop(emp) (acc m c 3) Fr ⊢ run c (k0_part19 xM hx wM hw oM ho bM hb lM hl vM hv cc0_scratch3 cc0_scratch4 cc0_scratch5 c v2 v19 v575 v576 v577 v578) Q := by
  rw [k0_part19_eq_skeleton]
  unfold k0_part19_skel
  refine cwait_step m K c (by decide) (by decide) (wc_sem (par 4) rfl _) ?_
  refine rcv_step m K c (src c 4 0) (src_ord c 4 (by decide) 0) ((by decide +kernel : ∀ d : Dev nD, k0_cond81 d = 1#1 ↔ src d 4 0 ≠ d) c) (fun _ => rcv_sem (src c 4 0) ((by decide +kernel : ∀ d : Dev nD, k0_off101 d = ![(src d 4 0).val]) c) _) ?_
  refine rcv_step m K c (src c 4 1) (src_ord c 4 (by decide) 1) ((by decide +kernel : ∀ d : Dev nD, k0_cond82 d = 1#1 ↔ src d 4 1 ≠ d) c) (fun _ => rcv_sem (src c 4 1) ((by decide +kernel : ∀ d : Dev nD, k0_off103 d = ![(src d 4 1).val]) c) _) ?_
  exact run_pure c (hR _)

set_option maxRecDepth 65536 in
/-- Part 20. -/
theorem part20 {v2 : BitVec 32} {v19 : BitVec 32} {v583 : BitVec 32} {v613 : BitVec 1} {Q : (PUnit) → sProp 𝕄}
    (hR : Mid m K c 20 6 5 (wslotPts c (4 % 2) (wch m c 4)) (acc m c 4) Fr ⊢ Q ⟨⟩) :
    Mid m K c 18 6 5 (wslotPts c (4 % 2) (wch m c 4)) (acc m c 3) Fr ⊢ run c (k0_part20 xM hx wM hw oM ho bM hb lM hl vM hv cc0_scratch3 cc0_scratch4 cc0_scratch5 c v2 v19 v583 v613) Q := by
  rw [k0_part20_eq_skeleton]
  unfold k0_part20_skel
  refine rcv_step m K c (src c 4 2) (src_ord c 4 (by decide) 2) ((by decide +kernel : ∀ d : Dev nD, k0_cond83 d = 1#1 ↔ src d 4 2 ≠ d) c) (fun _ => rcv_sem (src c 4 2) ((by decide +kernel : ∀ d : Dev nD, k0_off105 d = ![(src d 4 2).val]) c) _) ?_
  refine rcv_step m K c (src c 4 3) (src_ord c 4 (by decide) 3) ((by decide +kernel : ∀ d : Dev nD, k0_cond84 d = 1#1 ↔ src d 4 3 ≠ d) c) (fun _ => rcv_sem (src c 4 3) ((by decide +kernel : ∀ d : Dev nD, k0_off107 d = ![(src d 4 3).val]) c) _) ?_
  refine load_l m K c 4 (by decide) (by decide) ((by decide +kernel : ∀ d : Dev nD, k0_off76 d 4#32 = ![chunk d 4, 0, 0]) c) ?_
  refine load_w m K c 4 rfl ?_
  refine mid_load_o m K c ?_
  refine mid_load_o m K c ?_
  refine mid_store_o m K c (acc m c 4) ?_
  exact run_pure c hR

set_option maxRecDepth 65536 in
/-- Part 21. -/
theorem part21 {v2 : BitVec 32} {v19 : BitVec 32} {Q : (Σ' (v659 : BitVec 32), BitVec 1) → sProp 𝕄}
    (hR : ∀ r, Mid m K c 20 7 6 (wslotPts c (5 % 2) (wch m c 5)) (acc m c 4) Fr ⊢ Q r) :
    Mid m K c 20 6 5 (wslotPts c (4 % 2) (wch m c 4)) (acc m c 4) Fr ⊢ run c (k0_part21 xM hx wM hw oM ho bM hb lM hl vM hv cc0_scratch3 cc0_scratch4 cc0_scratch5 c v2 v19) Q := by
  rw [k0_part21_eq_skeleton]
  unfold k0_part21_skel
  refine copy_step m K c _ (by decide) (by decide) (by decide) rfl ((by decide +kernel : ∀ d : Dev nD, k0_off67 d 6#32 = ![512 * chunk d 6, 0]) c) (wc_sem (par 6) rfl _) ?_
  refine cwait_step m K c (by decide) (by decide) (wc_sem (par 5) rfl _) ?_
  exact run_pure c (hR _)

set_option maxRecDepth 65536 in
/-- Part 22. -/
theorem part22 {v2 : BitVec 32} {v19 : BitVec 32} {v659 : BitVec 32} {v679 : BitVec 1} {Q : (Σ' (v708 : BitVec 32), BitVec 32) → sProp 𝕄}
    (hR : ∀ r, Mid m K c 24 7 6 (wslotPts c (5 % 2) (wch m c 5)) (acc m c 5) Fr ⊢ Q r) :
    Mid m K c 20 7 6 (wslotPts c (5 % 2) (wch m c 5)) (acc m c 4) Fr ⊢ run c (k0_part22 xM hx wM hw oM ho bM hb lM hl vM hv cc0_scratch3 cc0_scratch4 cc0_scratch5 c v2 v19 v659 v679) Q := by
  rw [k0_part22_eq_skeleton]
  unfold k0_part22_skel
  refine rcv_step m K c (src c 5 0) (src_ord c 5 (by decide) 0) ((by decide +kernel : ∀ d : Dev nD, k0_cond85 d = 1#1 ↔ src d 5 0 ≠ d) c) (fun _ => rcv_sem (src c 5 0) ((by decide +kernel : ∀ d : Dev nD, k0_off109 d = ![(src d 5 0).val]) c) _) ?_
  refine rcv_step m K c (src c 5 1) (src_ord c 5 (by decide) 1) ((by decide +kernel : ∀ d : Dev nD, k0_cond86 d = 1#1 ↔ src d 5 1 ≠ d) c) (fun _ => rcv_sem (src c 5 1) ((by decide +kernel : ∀ d : Dev nD, k0_off111 d = ![(src d 5 1).val]) c) _) ?_
  refine rcv_step m K c (src c 5 2) (src_ord c 5 (by decide) 2) ((by decide +kernel : ∀ d : Dev nD, k0_cond87 d = 1#1 ↔ src d 5 2 ≠ d) c) (fun _ => rcv_sem (src c 5 2) ((by decide +kernel : ∀ d : Dev nD, k0_off113 d = ![(src d 5 2).val]) c) _) ?_
  refine rcv_step m K c (src c 5 3) (src_ord c 5 (by decide) 3) ((by decide +kernel : ∀ d : Dev nD, k0_cond88 d = 1#1 ↔ src d 5 3 ≠ d) c) (fun _ => rcv_sem (src c 5 3) ((by decide +kernel : ∀ d : Dev nD, k0_off115 d = ![(src d 5 3).val]) c) _) ?_
  refine load_l m K c 5 (by decide) (by decide) ((by decide +kernel : ∀ d : Dev nD, k0_off76 d 5#32 = ![chunk d 5, 0, 0]) c) ?_
  refine load_w m K c 5 rfl ?_
  refine mid_load_o m K c ?_
  refine mid_load_o m K c ?_
  refine mid_store_o m K c (acc m c 5) ?_
  exact run_pure c (hR _)

set_option maxRecDepth 65536 in
/-- Part 23. -/
theorem part23 {v19 : BitVec 32} {v708 : BitVec 32} {v710 : BitVec 32} {Q : (Σ' (v735 : BitVec 32), BitVec 32) → sProp 𝕄}
    (hR : ∀ r, Mid m K c 24 8 6 iprop(emp) (acc m c 5) Fr ⊢ Q r) :
    Mid m K c 24 7 6 (wslotPts c (5 % 2) (wch m c 5)) (acc m c 5) Fr ⊢ run c (k0_part23 xM hx wM hw oM ho bM hb lM hl vM hv cc0_scratch3 cc0_scratch4 cc0_scratch5 c v19 v708 v710) Q := by
  rw [k0_part23_eq_skeleton]
  unfold k0_part23_skel
  refine copy_step m K c _ (by decide) (by decide) (by decide) rfl ((by decide +kernel : ∀ d : Dev nD, k0_off67 d 7#32 = ![512 * chunk d 7, 0]) c) (wc_sem (par 7) rfl _) ?_
  exact run_pure c (hR _)

set_option maxRecDepth 65536 in
/-- Part 24. -/
theorem part24 {v2 : BitVec 32} {v735 : BitVec 32} {v746 : BitVec 32} {Q : (Σ' (v776 : FVec F S128x512 .f32), FVec F S512x8192 .f32) → sProp 𝕄}
    (hR : Mid m K c 28 8 7 (wslotPts c (6 % 2) (wch m c 6)) (acc m c 5) Fr ⊢ Q ⟨k0_pay11 (lpiece m c 6), k0_pay12 (wpiece m c 6)⟩) :
    Mid m K c 24 8 6 iprop(emp) (acc m c 5) Fr ⊢ run c (k0_part24 xM hx wM hw oM ho bM hb lM hl vM hv cc0_scratch3 cc0_scratch4 cc0_scratch5 c v2 v735 v746) Q := by
  rw [k0_part24_eq_skeleton]
  unfold k0_part24_skel
  refine cwait_step m K c (by decide) (by decide) (wc_sem (par 6) rfl _) ?_
  refine rcv_step m K c (src c 6 0) (src_ord c 6 (by decide) 0) ((by decide +kernel : ∀ d : Dev nD, k0_cond89 d = 1#1 ↔ src d 6 0 ≠ d) c) (fun _ => rcv_sem (src c 6 0) ((by decide +kernel : ∀ d : Dev nD, k0_off117 d = ![(src d 6 0).val]) c) _) ?_
  refine rcv_step m K c (src c 6 1) (src_ord c 6 (by decide) 1) ((by decide +kernel : ∀ d : Dev nD, k0_cond90 d = 1#1 ↔ src d 6 1 ≠ d) c) (fun _ => rcv_sem (src c 6 1) ((by decide +kernel : ∀ d : Dev nD, k0_off119 d = ![(src d 6 1).val]) c) _) ?_
  refine rcv_step m K c (src c 6 2) (src_ord c 6 (by decide) 2) ((by decide +kernel : ∀ d : Dev nD, k0_cond91 d = 1#1 ↔ src d 6 2 ≠ d) c) (fun _ => rcv_sem (src c 6 2) ((by decide +kernel : ∀ d : Dev nD, k0_off121 d = ![(src d 6 2).val]) c) _) ?_
  refine rcv_step m K c (src c 6 3) (src_ord c 6 (by decide) 3) ((by decide +kernel : ∀ d : Dev nD, k0_cond92 d = 1#1 ↔ src d 6 3 ≠ d) c) (fun _ => rcv_sem (src c 6 3) ((by decide +kernel : ∀ d : Dev nD, k0_off123 d = ![(src d 6 3).val]) c) _) ?_
  refine load_l m K c 6 (by decide) (by decide) ((by decide +kernel : ∀ d : Dev nD, k0_off76 d 6#32 = ![chunk d 6, 0, 0]) c) ?_
  refine load_w m K c 6 rfl ?_
  exact run_pure c hR

set_option maxRecDepth 65536 in
/-- Part 25. -/
theorem part25 {v19 : BitVec 32} {Q : (BitVec 32) → sProp 𝕄}
    (hR : ∀ r, Mid m K c 28 8 8 (wslotPts c (7 % 2) (wch m c 7)) (acc m c 6) iprop(wslotPts c (6 % 2) (wch m c 6) ∗ Fr) ⊢ Q r) :
    Mid m K c 28 8 7 (wslotPts c (6 % 2) (wch m c 6)) (acc m c 5) Fr ⊢ run c (k0_part25 xM hx wM hw oM ho bM hb lM hl vM hv cc0_scratch3 cc0_scratch4 cc0_scratch5 c v19 (k0_pay11 (lpiece m c 6)) (k0_pay12 (wpiece m c 6))) Q := by
  rw [k0_part25_eq_skeleton]
  unfold k0_part25_skel
  refine mid_load_o m K c ?_
  refine mid_load_o m K c ?_
  refine mid_store_o m K c (acc m c 6) ?_
  refine park m K c _ ?_
  refine cwait_step m K c (by decide) (by decide) (wc_sem (par 7) rfl _) ?_
  exact run_pure c (hR _)

set_option maxRecDepth 65536 in
/-- Part 26. -/
theorem part26 {v2 : BitVec 32} {v794 : BitVec 32} {Q : (BitVec 1) → sProp 𝕄}
    (hR : ∀ r, Mid m K c 32 8 8 (wslotPts c (7 % 2) (wch m c 7)) (acc m c 7) iprop(wslotPts c (6 % 2) (wch m c 6) ∗ Fr) ⊢ Q r) :
    Mid m K c 28 8 8 (wslotPts c (7 % 2) (wch m c 7)) (acc m c 6) iprop(wslotPts c (6 % 2) (wch m c 6) ∗ Fr) ⊢ run c (k0_part26 xM hx wM hw oM ho bM hb lM hl vM hv cc0_scratch3 cc0_scratch4 cc0_scratch5 c v2 v794) Q := by
  rw [k0_part26_eq_skeleton]
  unfold k0_part26_skel
  refine rcv_step m K c (src c 7 0) (src_ord c 7 (by decide) 0) ((by decide +kernel : ∀ d : Dev nD, k0_cond93 d = 1#1 ↔ src d 7 0 ≠ d) c) (fun _ => rcv_sem (src c 7 0) ((by decide +kernel : ∀ d : Dev nD, k0_off125 d = ![(src d 7 0).val]) c) _) ?_
  refine rcv_step m K c (src c 7 1) (src_ord c 7 (by decide) 1) ((by decide +kernel : ∀ d : Dev nD, k0_cond94 d = 1#1 ↔ src d 7 1 ≠ d) c) (fun _ => rcv_sem (src c 7 1) ((by decide +kernel : ∀ d : Dev nD, k0_off127 d = ![(src d 7 1).val]) c) _) ?_
  refine rcv_step m K c (src c 7 2) (src_ord c 7 (by decide) 2) ((by decide +kernel : ∀ d : Dev nD, k0_cond95 d = 1#1 ↔ src d 7 2 ≠ d) c) (fun _ => rcv_sem (src c 7 2) ((by decide +kernel : ∀ d : Dev nD, k0_off129 d = ![(src d 7 2).val]) c) _) ?_
  refine rcv_step m K c (src c 7 3) (src_ord c 7 (by decide) 3) ((by decide +kernel : ∀ d : Dev nD, k0_cond96 d = 1#1 ↔ src d 7 3 ≠ d) c) (fun _ => rcv_sem (src c 7 3) ((by decide +kernel : ∀ d : Dev nD, k0_off131 d = ![(src d 7 3).val]) c) _) ?_
  refine load_l m K c 7 (by decide) (by decide) ((by decide +kernel : ∀ d : Dev nD, k0_off76 d 7#32 = ![chunk d 7, 0, 0]) c) ?_
  refine load_w m K c 7 rfl ?_
  refine mid_load_o m K c ?_
  refine mid_load_o m K c ?_
  refine mid_store_o m K c (acc m c 7) ?_
  exact run_pure c (hR _)

end Cert.Exchange

end
-- ==== Proof.Drains.lean ====
/-
# The drains

The kernel's last parts: the device waits for every block it sent, one rule per site.
-/
module

public import proofs.«01_k».proof.Proof.Handshake

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

variable {hx : xM.IsWhole} {hw : wM.IsWhole} {ho : oM.IsWhole} {hb : bM.IsWhole} {hl : lM.IsWhole} {hv : vM.IsWhole}
  {Fr : sProp (MT nD τ sig Unit (Elt F) ℕ UU ℕ)}

set_option maxRecDepth 65536 in
/-- Waits for the blocks 0 to 9. -/
theorem part27 {v2 : BitVec 32} {v843 : BitVec 1} {Q : (BitVec 1) → sProp 𝕄}
    (hR : ∀ r, iprop(records m K ∗ Drn m c 10 ∗ Fr) ⊢ Q r) :
    iprop(records m K ∗ Drn m c 0 ∗ Fr) ⊢ run c (k0_part27 xM hx wM hw oM ho bM hb lM hl vM hv cc0_scratch3 cc0_scratch4 cc0_scratch5 c v2 v843) Q := by
  rw [k0_part27_eq_skeleton]
  unfold k0_part27_skel
  refine drn_step m K c ⟨0, by decide⟩ ((by decide +kernel : ∀ d : Dev nD, k0_cond97 d = 1#1 ↔ (⟨0, by decide⟩ : Dev nD) ≠ d) c) (snd_sem ⟨0, by decide⟩ rfl _) ?_
  refine drn_step m K c ⟨1, by decide⟩ ((by decide +kernel : ∀ d : Dev nD, k0_cond98 d = 1#1 ↔ (⟨1, by decide⟩ : Dev nD) ≠ d) c) (snd_sem ⟨1, by decide⟩ rfl _) ?_
  refine drn_step m K c ⟨2, by decide⟩ ((by decide +kernel : ∀ d : Dev nD, k0_cond99 d = 1#1 ↔ (⟨2, by decide⟩ : Dev nD) ≠ d) c) (snd_sem ⟨2, by decide⟩ rfl _) ?_
  refine drn_step m K c ⟨3, by decide⟩ ((by decide +kernel : ∀ d : Dev nD, k0_cond100 d = 1#1 ↔ (⟨3, by decide⟩ : Dev nD) ≠ d) c) (snd_sem ⟨3, by decide⟩ rfl _) ?_
  refine drn_step m K c ⟨4, by decide⟩ ((by decide +kernel : ∀ d : Dev nD, k0_cond101 d = 1#1 ↔ (⟨4, by decide⟩ : Dev nD) ≠ d) c) (snd_sem ⟨4, by decide⟩ rfl _) ?_
  refine drn_step m K c ⟨5, by decide⟩ ((by decide +kernel : ∀ d : Dev nD, k0_cond102 d = 1#1 ↔ (⟨5, by decide⟩ : Dev nD) ≠ d) c) (snd_sem ⟨5, by decide⟩ rfl _) ?_
  refine drn_step m K c ⟨6, by decide⟩ ((by decide +kernel : ∀ d : Dev nD, k0_cond103 d = 1#1 ↔ (⟨6, by decide⟩ : Dev nD) ≠ d) c) (snd_sem ⟨6, by decide⟩ rfl _) ?_
  refine drn_step m K c ⟨7, by decide⟩ ((by decide +kernel : ∀ d : Dev nD, k0_cond104 d = 1#1 ↔ (⟨7, by decide⟩ : Dev nD) ≠ d) c) (snd_sem ⟨7, by decide⟩ rfl _) ?_
  refine drn_step m K c ⟨8, by decide⟩ ((by decide +kernel : ∀ d : Dev nD, k0_cond105 d = 1#1 ↔ (⟨8, by decide⟩ : Dev nD) ≠ d) c) (snd_sem ⟨8, by decide⟩ rfl _) ?_
  refine drn_step m K c ⟨9, by decide⟩ ((by decide +kernel : ∀ d : Dev nD, k0_cond106 d = 1#1 ↔ (⟨9, by decide⟩ : Dev nD) ≠ d) c) (snd_sem ⟨9, by decide⟩ rfl _) ?_
  exact run_pure c (hR _)

set_option maxRecDepth 65536 in
/-- Waits for the blocks 10 to 19. -/
theorem part28 {v2 : BitVec 32} {v873 : BitVec 1} {Q : (BitVec 1) → sProp 𝕄}
    (hR : ∀ r, iprop(records m K ∗ Drn m c 20 ∗ Fr) ⊢ Q r) :
    iprop(records m K ∗ Drn m c 10 ∗ Fr) ⊢ run c (k0_part28 xM hx wM hw oM ho bM hb lM hl vM hv cc0_scratch3 cc0_scratch4 cc0_scratch5 c v2 v873) Q := by
  rw [k0_part28_eq_skeleton]
  unfold k0_part28_skel
  refine drn_step m K c ⟨10, by decide⟩ ((by decide +kernel : ∀ d : Dev nD, k0_cond107 d = 1#1 ↔ (⟨10, by decide⟩ : Dev nD) ≠ d) c) (snd_sem ⟨10, by decide⟩ rfl _) ?_
  refine drn_step m K c ⟨11, by decide⟩ ((by decide +kernel : ∀ d : Dev nD, k0_cond108 d = 1#1 ↔ (⟨11, by decide⟩ : Dev nD) ≠ d) c) (snd_sem ⟨11, by decide⟩ rfl _) ?_
  refine drn_step m K c ⟨12, by decide⟩ ((by decide +kernel : ∀ d : Dev nD, k0_cond109 d = 1#1 ↔ (⟨12, by decide⟩ : Dev nD) ≠ d) c) (snd_sem ⟨12, by decide⟩ rfl _) ?_
  refine drn_step m K c ⟨13, by decide⟩ ((by decide +kernel : ∀ d : Dev nD, k0_cond110 d = 1#1 ↔ (⟨13, by decide⟩ : Dev nD) ≠ d) c) (snd_sem ⟨13, by decide⟩ rfl _) ?_
  refine drn_step m K c ⟨14, by decide⟩ ((by decide +kernel : ∀ d : Dev nD, k0_cond111 d = 1#1 ↔ (⟨14, by decide⟩ : Dev nD) ≠ d) c) (snd_sem ⟨14, by decide⟩ rfl _) ?_
  refine drn_step m K c ⟨15, by decide⟩ ((by decide +kernel : ∀ d : Dev nD, k0_cond112 d = 1#1 ↔ (⟨15, by decide⟩ : Dev nD) ≠ d) c) (snd_sem ⟨15, by decide⟩ rfl _) ?_
  refine drn_step m K c ⟨16, by decide⟩ ((by decide +kernel : ∀ d : Dev nD, k0_cond113 d = 1#1 ↔ (⟨16, by decide⟩ : Dev nD) ≠ d) c) (snd_sem ⟨16, by decide⟩ rfl _) ?_
  refine drn_step m K c ⟨17, by decide⟩ ((by decide +kernel : ∀ d : Dev nD, k0_cond114 d = 1#1 ↔ (⟨17, by decide⟩ : Dev nD) ≠ d) c) (snd_sem ⟨17, by decide⟩ rfl _) ?_
  refine drn_step m K c ⟨18, by decide⟩ ((by decide +kernel : ∀ d : Dev nD, k0_cond115 d = 1#1 ↔ (⟨18, by decide⟩ : Dev nD) ≠ d) c) (snd_sem ⟨18, by decide⟩ rfl _) ?_
  refine drn_step m K c ⟨19, by decide⟩ ((by decide +kernel : ∀ d : Dev nD, k0_cond116 d = 1#1 ↔ (⟨19, by decide⟩ : Dev nD) ≠ d) c) (snd_sem ⟨19, by decide⟩ rfl _) ?_
  exact run_pure c (hR _)

set_option maxRecDepth 65536 in
/-- Waits for the blocks 20 to 29. -/
theorem part29 {v2 : BitVec 32} {v903 : BitVec 1} {Q : (BitVec 1) → sProp 𝕄}
    (hR : ∀ r, iprop(records m K ∗ Drn m c 30 ∗ Fr) ⊢ Q r) :
    iprop(records m K ∗ Drn m c 20 ∗ Fr) ⊢ run c (k0_part29 xM hx wM hw oM ho bM hb lM hl vM hv cc0_scratch3 cc0_scratch4 cc0_scratch5 c v2 v903) Q := by
  rw [k0_part29_eq_skeleton]
  unfold k0_part29_skel
  refine drn_step m K c ⟨20, by decide⟩ ((by decide +kernel : ∀ d : Dev nD, k0_cond117 d = 1#1 ↔ (⟨20, by decide⟩ : Dev nD) ≠ d) c) (snd_sem ⟨20, by decide⟩ rfl _) ?_
  refine drn_step m K c ⟨21, by decide⟩ ((by decide +kernel : ∀ d : Dev nD, k0_cond118 d = 1#1 ↔ (⟨21, by decide⟩ : Dev nD) ≠ d) c) (snd_sem ⟨21, by decide⟩ rfl _) ?_
  refine drn_step m K c ⟨22, by decide⟩ ((by decide +kernel : ∀ d : Dev nD, k0_cond119 d = 1#1 ↔ (⟨22, by decide⟩ : Dev nD) ≠ d) c) (snd_sem ⟨22, by decide⟩ rfl _) ?_
  refine drn_step m K c ⟨23, by decide⟩ ((by decide +kernel : ∀ d : Dev nD, k0_cond120 d = 1#1 ↔ (⟨23, by decide⟩ : Dev nD) ≠ d) c) (snd_sem ⟨23, by decide⟩ rfl _) ?_
  refine drn_step m K c ⟨24, by decide⟩ ((by decide +kernel : ∀ d : Dev nD, k0_cond121 d = 1#1 ↔ (⟨24, by decide⟩ : Dev nD) ≠ d) c) (snd_sem ⟨24, by decide⟩ rfl _) ?_
  refine drn_step m K c ⟨25, by decide⟩ ((by decide +kernel : ∀ d : Dev nD, k0_cond122 d = 1#1 ↔ (⟨25, by decide⟩ : Dev nD) ≠ d) c) (snd_sem ⟨25, by decide⟩ rfl _) ?_
  refine drn_step m K c ⟨26, by decide⟩ ((by decide +kernel : ∀ d : Dev nD, k0_cond123 d = 1#1 ↔ (⟨26, by decide⟩ : Dev nD) ≠ d) c) (snd_sem ⟨26, by decide⟩ rfl _) ?_
  refine drn_step m K c ⟨27, by decide⟩ ((by decide +kernel : ∀ d : Dev nD, k0_cond124 d = 1#1 ↔ (⟨27, by decide⟩ : Dev nD) ≠ d) c) (snd_sem ⟨27, by decide⟩ rfl _) ?_
  refine drn_step m K c ⟨28, by decide⟩ ((by decide +kernel : ∀ d : Dev nD, k0_cond125 d = 1#1 ↔ (⟨28, by decide⟩ : Dev nD) ≠ d) c) (snd_sem ⟨28, by decide⟩ rfl _) ?_
  refine drn_step m K c ⟨29, by decide⟩ ((by decide +kernel : ∀ d : Dev nD, k0_cond126 d = 1#1 ↔ (⟨29, by decide⟩ : Dev nD) ≠ d) c) (snd_sem ⟨29, by decide⟩ rfl _) ?_
  exact run_pure c (hR _)

end Cert.Exchange

end
-- ==== Proof.Body.lean ====
/-
# The kernel's body on one device

The 29 parts of the body one after the other, between a device's state at the start (`Held`, its buffers whole, what it
owes) and at the end (nothing owed, the buffers whole, every semaphore at zero, the output buffer at `outAt`).
-/
module

public import proofs.«01_k».proof.Proof.Whole
public import proofs.«01_k».proof.Proof.Sends
public import proofs.«01_k».proof.Proof.TurnsB
public import proofs.«01_k».proof.Proof.Drains

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-- The output block of device `c`. -/
def outAt : (cc0_stg1_0 : Ref sig .tc).ty.Contents (Elt F) := k0_pay1 (acc m c 7)

/-! ## The state at the start and at the end -/

/-- What a device holds of the protocol at the start: the tokens of what it will pay, its positions, its credits. -/
def Held : sProp 𝕄 :=
  iprop((bigSep (Finset.univ.erase c) fun t : Dev nD => dutyTok ER (barCell t) 0 c)
    ∗ (bigSep (Finset.univ.erase c) fun t : Dev nD => iprop(dutyTok ER (sndCell c t) 0 0 ∗ dutyTok ER (rcvCell t c) 0 0))
    ∗ (bigSep Finset.univ fun q : Fin 8 => dutyTok ER (wcCell c (par q.val)) (q.val / 2) 0)
    ∗ (bigSep Finset.univ fun k : Fin 67 => atPos ER (kcell (c, k)) 0 ∅ 0)
    ∗ cred (tallyAt (barCell c) () 31)
    ∗ bigSep (Finset.univ.erase c) fun s : Dev nD => cred (tallyAt (rcvCell c s) () NL))

/-- The scratch buffers. -/
def Bufs : sProp 𝕄 := iprop((∃ f, bPts c f) ∗ (∃ f, lPts c f) ∗ (∃ f, vPts c f))

/-- The state at the end. -/
def Ended : sProp 𝕄 :=
  iprop(owe c 0 ∗ wPts m c ∗ Bufs c ∗ xPts m c ∗ outPts c (outAt m c) ∗ bigSep Finset.univ fun k : Fin 67 => semVal (kcell (c, k)) 0)

/-- The pieces the exchange does not touch before the turns: the rights to the blocks, the positions, the chunks of `w`. -/
def Later (f : Buf (Elt F) ((c : Thread nD τ).loc cc0_scratch2)) (o : (cc0_stg1_0 : Ref sig .tc).ty.Contents (Elt F)) : sProp 𝕄 :=
  iprop((bigSep (Finset.univ.erase c) fun s : Dev nD => cred (tallyAt (rcvCell c s) () NL))
    ∗ (bigSep Finset.univ fun s : Dev nD => atPos ER (rcvCell c s) 0 ∅ 0)
    ∗ (bigSep Finset.univ fun t : Dev nD => atPos ER (sndCell c t) 0 ∅ 0)
    ∗ Wst m c 0 0 ∗ wslotPts c 0 f ∗ wslotPts c 1 f ∗ outPts c o)

/-- What waits through the turns. -/
def Waiting : sProp 𝕄 := iprop((bigSep Finset.univ fun t : Dev nD => undrained m c t) ∗ xPts m c ∗ atPos ER (barCell c) 1 ∅ 0)

/-- What the turns leave. -/
def Turned : sProp 𝕄 :=
  iprop(xPts m c ∗ atPos ER (barCell c) 1 ∅ 0 ∗ Rcv m c 32 ∗ Wst m c 8 8 ∗ wslotPts c (7 % 2) (wch m c 7) ∗ wslotPts c (6 % 2) (wch m c 6))

/-! ## From one phase to the next -/

theorem wst_start : iprop(records m K ∗ wPts m c ∗ (bigSep Finset.univ fun q : Fin 8 => dutyTok ER (wcCell c (par q.val)) (q.val / 2) 0)
      ∗ bigSep Finset.univ fun s : Fin 2 => atPos ER (wcCell c s) 0 ∅ 0) ⊢ Wst m c 0 0 := by
  have h1 : (bigSep Finset.univ fun q : Fin 8 => wst m c 0 0 q.val)
      = iprop((bigSep Finset.univ fun q : Fin 8 => wrowsPts m c q.val) ∗ bigSep Finset.univ fun q : Fin 8 => (dutyTok ER (wcCell c (par q.val)) (q.val / 2) 0 : sProp 𝕄)) := by
    rw [← bigSep_sep']
    exact bigSep_congr fun q _ => by unfold wst; rw [if_neg (Nat.not_lt_zero _), if_neg (Nat.not_lt_zero _)]; rfl
  have h2 : ∀ s ∈ (Finset.univ : Finset (Fin 2)), iprop(records m K ∗ atPos ER (wcCell c s) 0 ∅ 0) ⊢ wpos (F := F) c s ((0 + 1 - s.val) / 2) := fun s _ => by
    rw [show (0 + 1 - s.val) / 2 = 0 by omega]
    unfold wpos
    iintro ⟨#HR, Ha⟩
    isplitl [Ha]; · iexact Ha
    iapply (rec_reached m K c (kWc s) (csem_wc s)); iexact HR
  unfold Wst
  rw [h1, wPts_chunks]
  iintro ⟨#HR, Hw, Ht, Ha⟩
  isplitl [Hw Ht]
  · isplitl [Hw] <;> iassumption
  iapply (bigSep_along h2)
  isplitr; · iexact HR
  iexact Ha

theorem wst_end : Wst m c 8 8 ⊢ iprop(wPts m c ∗ bigSep Finset.univ fun s : Fin 2 => atPos ER (wcCell c s) 4 ∅ 0) := by
  have h1 : (bigSep Finset.univ fun q : Fin 8 => wst m c 8 8 q.val) = wPts m c := by
    rw [wPts_chunks]
    exact bigSep_congr fun q _ => by unfold wst; rw [if_pos q.isLt]
  have h0 (s : Fin 2) : wpos (F := F) c s ((8 + 1 - s.val) / 2) ⊢ atPos ER (wcCell c s) 4 ∅ 0 := by
    rw [show (8 + 1 - s.val) / 2 = 4 by omega]
    unfold wpos
    iintro ⟨Ha, -⟩; iexact Ha
  have h2 : (bigSep Finset.univ fun s : Fin 2 => wpos (F := F) c s ((8 + 1 - s.val) / 2)) ⊢ (bigSep Finset.univ fun s : Fin 2 => atPos ER (wcCell c s) 4 ∅ 0 : sProp 𝕄) :=
    bigSep_mono fun s _ => h0 s
  unfold Wst
  rw [h1]
  exact sep_mono_right h2

/-- The landing buffer cut for the signals: what each hands over, and the device's own slot. -/
theorem lPts_own (g : Buf (Elt F) ((c : Thread nD τ).loc cc0_scratch1)) :
    iprop(lPts c g ∗ bigSep (Finset.univ.erase c) fun t : Dev nD => dutyTok ER (barCell t) 0 c)
      ⊢ iprop(slotPts c c g ∗ bigSep Finset.univ fun t : Dev nD => if t.val < 0 then iprop(emp) else sigTok (F := F) c t) := by
  have h : (bigSep Finset.univ fun t : Dev nD => if t.val < 0 then iprop(emp) else sigTok (F := F) c t)
      = iprop(emp ∗ bigSep (Finset.univ.erase c) fun t : Dev nD => iprop(dutyTok ER (barCell t) 0 c ∗ ∃ f, slotPts c t f)) := by
    rw [← bigSep_except]
    exact bigSep_congr fun t _ => if_neg (Nat.not_lt_zero _)
  have h1 (t : Dev nD) : slotPts c t g ⊢ (iprop(∃ f, slotPts c t f) : sProp 𝕄) := by iintro H; iexists g; iexact H
  have h2 : (bigSep (Finset.univ.erase c) fun t : Dev nD => slotPts c t g) ⊢ (bigSep (Finset.univ.erase c) fun t : Dev nD => iprop(∃ f, slotPts c t f) : sProp 𝕄) :=
    bigSep_mono fun t _ => h1 t
  rw [h, lPts_slots, bigSep_univ_at _ c, bigSep_sep']
  iintro ⟨⟨H1, H2⟩, H3⟩
  isplitl [H1]; · iexact H1
  isplitr; · iempintro
  isplitl [H3]; · iexact H3
  iapply h2; iexact H2

/-- Before the turns. -/
theorem enter (f : Buf (Elt F) ((c : Thread nD τ).loc cc0_scratch2)) (o : (cc0_stg1_0 : Ref sig .tc).ty.Contents (Elt F)) :
    iprop(records m K ∗ Snd m c 32 ∗ (xPts m c ∗ slotPts c c (landed m c) ∗ atPos ER (barCell c) 1 ∅ 0 ∗ Later m c f o))
      ⊢ Mid m K c 0 0 0 (wslotPts c 0 f) o iprop(wslotPts c 1 f ∗ Waiting m c) := by
  have h1 : (bigSep Finset.univ fun t : Dev nD => if t.val < 32 then sent m c t else sndTok m c t) = bigSep Finset.univ fun t : Dev nD => sent m c t :=
    bigSep_congr fun t _ => if_pos t.isLt
  have h2 : (bigSep Finset.univ fun s : Dev nD => if ordc c.val s.val < 0 then rcvD (F := F) c s else rcvW m c s)
      = iprop((slotPts c c (landed m c) ∗ bigSep (Finset.univ.erase c) fun s : Dev nD => cred (tallyAt (rcvCell c s) () NL))
        ∗ bigSep Finset.univ fun s : Dev nD => atPos ER (rcvCell c s) 0 ∅ 0) := by
    rw [← bigSep_except, ← bigSep_sep']
    exact bigSep_congr fun s _ => if_neg (Nat.not_lt_zero _)
  unfold Snd Mid Waiting undrained Later Rcv
  rw [sumFrom_end, h1, h2, bigSep_sep']
  iintro ⟨H0, ⟨Ho, Hs⟩, Hx, Hc, Hb, Hcr, Hra, Hsa, Hw, Hv0, Hv1, Hout⟩
  isplitl [H0]; · iexact H0
  isplitl [Ho]; · iexact Ho
  isplitl [Hc Hcr Hra]
  · isplitr
    · iapply (got_zero m c); iempintro
    isplitl [Hc Hcr]
    · isplitl [Hc] <;> iassumption
    iexact Hra
  isplitl [Hw]; · iexact Hw
  isplitl [Hv0]; · iexact Hv0
  isplitl [Hout]; · iexact Hout
  isplitl [Hv1]; · iexact Hv1
  isplitl [Hs Hsa]
  · isplitl [Hs] <;> iassumption
  isplitl [Hx] <;> iassumption

/-- After them. -/
theorem leave : Mid m K c 32 8 8 (wslotPts c (7 % 2) (wch m c 7)) (acc m c 7) iprop(wslotPts c (6 % 2) (wch m c 6) ∗ Waiting m c)
    ⊢ iprop(records m K ∗ Drn m c 0 ∗ (outPts c (acc m c 7) ∗ Turned m c)) := by
  have h1 : (bigSep Finset.univ fun t : Dev nD => if t.val < 0 then drained m c t else undrained m c t) = bigSep Finset.univ fun t : Dev nD => undrained m c t :=
    bigSep_congr fun t _ => if_neg (Nat.not_lt_zero _)
  unfold Mid Waiting Drn Turned
  rw [h1]
  iintro ⟨H0, Ho, Hr, Hw, Hv, Hout, Hv', Hs, Hx, Hb⟩
  isplitl [H0]; · iexact H0
  isplitl [Ho Hs]
  · isplitl [Ho] <;> iassumption
  isplitl [Hout]; · iexact Hout
  isplitl [Hx]; · iexact Hx
  isplitl [Hb]; · iexact Hb
  isplitl [Hr]; · iexact Hr
  isplitl [Hw]; · iexact Hw
  isplitl [Hv] <;> iassumption

/-- After the last wait. -/
theorem finish : iprop(outPts c (outAt m c) ∗ (records m K ∗ Drn m c 32 ∗ Turned m c)) ⊢ (|={Set.univ}=> Ended m c : sProp 𝕄) := by
  have h1 : (bigSep Finset.univ fun t : Dev nD => if t.val < 32 then drained m c t else undrained m c t)
      = iprop(bPts c (xb m c) ∗ bigSep Finset.univ fun t : Dev nD => atPos ER (sndCell c t) (if t = c then 0 else 1) ∅ 0) := by
    rw [bPts_rows, ← bigSep_sep']
    exact bigSep_congr fun t _ => if_pos t.isLt
  have h2 : (bigSep Finset.univ fun s : Dev nD => if ordc c.val s.val < 32 then rcvD (F := F) c s else rcvW m c s)
      = bigSep Finset.univ fun s : Dev nD => atPos ER (rcvCell c s) (if s = c then 0 else 1) ∅ 0 :=
    bigSep_congr fun s _ => if_pos (ordc_lt _ _)
  have h3 : gotPts m c 32 = lPts c (landed m c) := by unfold gotPts lPts; rw [got_all]
  unfold Drn Turned Rcv Ended Bufs
  rw [h1, h2, h3]
  iintro ⟨Hout, HR, ⟨Ho, Hbp, Hsa⟩, Hx, Hb, ⟨Hl, Hra⟩, Hw, Hv1, Hv0⟩
  ihave Hw := (wst_end m c) $$ Hw
  icases Hw with ⟨Hw, Hwa⟩
  imod (close_all m K c) $$ [HR Hb Hwa Hsa Hra] with Hz
  · isplitl [HR]; · iexact HR
    isplitl [Hb]; · iexact Hb
    isplitl [Hwa]; · iexact Hwa
    isplitl [Hsa] <;> iassumption
  imodintro
  isplitl [Ho]; · iexact Ho
  isplitl [Hw]; · iexact Hw
  isplitl [Hbp Hl Hv1 Hv0]
  · isplitl [Hbp]; · iexists _; iexact Hbp
    isplitl [Hl]; · iexists _; iexact Hl
    iapply (vPts_join c (wch m c 6) (wch m c 7))
    isplitl [Hv0] <;> iassumption
  isplitl [Hx]; · iexact Hx
  isplitl [Hout] <;> iassumption

theorem run_close {α : Type} {A : sProp 𝕄} {x : α} {Q : α → sProp 𝕄} (h : A ⊢ |={Set.univ}=> Q x) : A ⊢ run c (pure x) Q := by
  unfold run
  show A ⊢ wp frame (wpE (defs₀ (F := F)) 𝒱₀ (c : Thread nD τ) none) Set.univ (Prog.ret x) Q
  rw [wp_ret]
  exact h

/-! ## The body -/

variable {hx : xM.IsWhole} {hw : wM.IsWhole} {ho : oM.IsWhole} {hb : bM.IsWhole} {hl : lM.IsWhole} {hv : vM.IsWhole}

set_option maxHeartbeats 2000000 in
set_option maxRecDepth 65536 in
/-- The body from the first signal on. -/
theorem body_parts (f : Buf (Elt F) ((c : Thread nD τ).loc cc0_scratch2)) (o : (cc0_stg1_0 : Ref sig .tc).ty.Contents (Elt F)) :
    iprop(records m K ∗ Sig c 0 ∗ ((cred (tallyAt (barCell c) () 31) ∗ atPos ER (barCell c) 0 ∅ 0) ∗ (xPts m c ∗ (∃ f, bPts c f) ∗ (∃ f, slotPts c c f)
        ∗ (bigSep (Finset.univ.erase c) fun t => iprop(dutyTok ER (sndCell c t) 0 0 ∗ dutyTok ER (rcvCell t c) 0 0)) ∗ Later m c f o)))
      ⊢ run c (cc0_body xM hx wM hw oM ho bM hb lM hl vM hv cc0_scratch3 cc0_scratch4 cc0_scratch5) fun _ => Ended m c := by
  rw [cc0_body_eq_skeleton]
  unfold cc0_body_skel
  refine run_bind c (part1 m K c fun v2 v19 v30 => ?_)
  dsimp only
  refine run_bind c (part2 m K c ?_)
  refine run_bind c (part3 m K c ?_)
  refine run_bind c (part4 m K c ?_)
  refine run_bind c (part5 m K c fun r5 => ?_)
  refine run_bind c (part6 m K c fun r6 => ?_)
  refine run_bind c (part7 m K c fun r7 => ?_)
  refine run_bind c (part8 m K c ?_)
  refine Entails.trans (PROP := sProp 𝕄) (enter m K c f o) ?_
  refine run_bind c (part9 m K c fun r9 => ?_)
  obtain ⟨r9, r9'⟩ := r9
  refine run_bind c (part10 m K c fun r10 => ?_)
  obtain ⟨r10, r10'⟩ := r10
  refine run_bind c (part11 m K c fun r11 => ?_)
  obtain ⟨r11, r11a, r11b, r11c⟩ := r11
  refine run_bind c (part12 m K c fun r12 => ?_)
  refine run_bind c (part13 m K c fun r13 => ?_)
  obtain ⟨r13, r13'⟩ := r13
  refine run_bind c (part14 m K c fun r14 => ?_)
  refine run_bind c (part15 m K c fun r15 => ?_)
  refine run_bind c (part16 m K c fun r16 => ?_)
  obtain ⟨r16, r16a, r16b, r16c, r16d⟩ := r16
  refine run_bind c (part17 m K c ?_)
  refine run_bind c (part18 m K c fun r18 => ?_)
  obtain ⟨r18, r18a, r18b, r18c⟩ := r18
  refine run_bind c (part19 m K c fun r19 => ?_)
  obtain ⟨r19, r19'⟩ := r19
  refine run_bind c (part20 m K c ?_)
  refine run_bind c (part21 m K c fun r21 => ?_)
  obtain ⟨r21, r21'⟩ := r21
  refine run_bind c (part22 m K c fun r22 => ?_)
  obtain ⟨r22, r22'⟩ := r22
  refine run_bind c (part23 m K c fun r23 => ?_)
  obtain ⟨r23, r23'⟩ := r23
  refine run_bind c (part24 m K c ?_)
  refine run_bind c (part25 m K c fun r25 => ?_)
  refine run_bind c (part26 m K c fun r26 => ?_)
  refine Entails.trans (PROP := sProp 𝕄) (leave m K c) ?_
  refine run_bind c (part27 m K c fun r27 => ?_)
  refine run_bind c (part28 m K c fun r28 => ?_)
  refine run_bind c (part29 m K c fun r29 => ?_)
  refine drn_step m K c ⟨30, by decide⟩ ((by decide +kernel : ∀ d : Dev nD, k0_cond127 d = 1#1 ↔ (⟨30, by decide⟩ : Dev nD) ≠ d) c) (snd_sem ⟨30, by decide⟩ rfl _) ?_
  refine drn_step m K c ⟨31, by decide⟩ ((by decide +kernel : ∀ d : Dev nD, k0_cond128 d = 1#1 ↔ (⟨31, by decide⟩ : Dev nD) ≠ d) c) (snd_sem ⟨31, by decide⟩ rfl _) ?_
  have hs : ∀ P D O T : sProp 𝕄, iprop(P ∗ D ∗ (O ∗ T)) ⊢ iprop(O ∗ (P ∗ D ∗ T)) := fun P D O T => by
    iintro ⟨H1, H2, H3, H4⟩
    isplitl [H3]; · iexact H3
    isplitl [H1]; · iexact H1
    isplitl [H2] <;> iassumption
  refine Entails.trans (PROP := sProp 𝕄) (hs _ _ _ _) ?_
  refine load_o c ?_
  refine load_o c ?_
  refine store_o c (outAt m c) ?_
  exact run_close c (finish m K c)

/-- The body. -/
theorem body_run :
    iprop(records m K ∗ owe c (O₀ c) ∗ Held c ∗ wPts m c ∗ Bufs c ∗ xPts m c ∗ ∃ o, outPts c o)
      ⊢ run c (cc0_body xM hx wM hw oM ho bM hb lM hl vM hv cc0_scratch3 cc0_scratch4 cc0_scratch5) fun _ => Ended m c := by
  unfold Held Bufs
  rw [cells_uses c fun g => (atPos ER g 0 ∅ 0 : sProp 𝕄)]
  iintro ⟨#HR, Ho, ⟨HtB, HtS, HtW, ⟨⟨HaB, HaW⟩, HaS, HaR⟩, HcB, HcR⟩, Hw, ⟨Hb, ⟨%g, Hl⟩, ⟨%f, Hv⟩⟩, Hx, ⟨%o, Hout⟩⟩
  ihave Hv := (vPts_slots c f) $$ Hv
  icases Hv with ⟨Hv0, Hv1⟩
  ihave Hl := (lPts_own c g) $$ [Hl HtB]
  · isplitl [Hl] <;> iassumption
  icases Hl with ⟨Hown, Hsig⟩
  ihave Hwst := (wst_start m K c) $$ [Hw HtW HaW]
  · isplitr; · iexact HR
    isplitl [Hw]; · iexact Hw
    isplitl [HtW] <;> iassumption
  iapply (body_parts m K c f o)
  isplitr; · iexact HR
  isplitl [Ho Hsig]
  · unfold Sig
    isplitl [Ho]; · iexact Ho
    iexact Hsig
  isplitl [HcB HaB]
  · isplitl [HcB] <;> iassumption
  isplitl [Hx]; · iexact Hx
  isplitl [Hb]; · iexact Hb
  isplitl [Hown]; · iexists _; iexact Hown
  isplitl [HtS]; · iexact HtS
  unfold Later
  isplitl [HcR]; · iexact HcR
  isplitl [HaR]; · iexact HaR
  isplitl [HaS]; · iexact HaS
  isplitl [Hwst]; · iexact Hwst
  isplitl [Hv0]; · iexact Hv0
  isplitl [Hv1] <;> iassumption

end Cert.Exchange

end
-- ==== Proof.Deal.lean ====
/-
# Dealing the protocol at launch

The launch holds every semaphore at zero and mints the tokens of every duty. This module opens all the cells, hands each
device its positions and the tokens of the duties it will pay, and reads the launch credits: 31 units at a device's
barrier cell, a block at each receive cell but its own.
-/
module

public import proofs.«01_k».proof.Proof.Body
public import Idealize.ShloMosaic.Lib.Pipeline.Launch
public import Idealize.ShloMosaic.Lib.Pipeline.Kit

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ) (c : Dev nD)

/-! ## The cells -/

theorem csem_injective : Function.Injective csem := by
  intro k k' h
  unfold csem at h
  split at h <;> split at h
  · exact Fin.ext (by omega)
  · cases h
  · cases h
  · have e := congrArg (fun s : SemLoc sig => match s with | .dma q => q.val | .reg _ => 0) h
    exact Fin.ext (Nat.succ.inj e)

theorem kcell_injective : Function.Injective (kcell : Dev nD × Fin 67 → GSem nD τ sig) := by
  rintro ⟨c, k⟩ ⟨c', k'⟩ h
  have h1 : c = c' := congrArg (fun g : GSem nD τ sig => g.1.1) h
  have h2 : k = k' := csem_injective (congrArg Prod.snd h)
  rw [h1, h2]

def cells : Finset (GSem nD τ sig) := Finset.univ.map ⟨kcell, kcell_injective⟩

/-- The cells' property, device by device. -/
theorem bigSep_cells (Φ : GSem nD τ sig → sProp 𝕄) :
    bigSep cells Φ = bigSep Finset.univ fun c : Dev nD => bigSep Finset.univ fun k : Fin 67 => Φ (kcell (c, k)) := by
  unfold cells; rw [bigSep_map, bigSep_univ_prod]; rfl

/-! ## The tokens -/

/-- The tokens, by use: a device's cell and the duty. -/
abbrev TokIx : Type := ((Dev nD × Dev nD) ⊕ (Dev nD × Dev nD)) ⊕ ((Dev nD × Dev nD) ⊕ (Dev nD × Fin 8))

def tokOf : TokIx → GSem nD τ sig × ℕ × Dev nD
  | .inl (.inl x) => (barCell x.1, 0, x.2)
  | .inl (.inr x) => (sndCell x.1 x.2, 0, 0)
  | .inr (.inl x) => (rcvCell x.1 x.2, 0, 0)
  | .inr (.inr x) => (wcCell x.1 (par x.2.val), x.2.val / 2, 0)

theorem tokOf_injective : Function.Injective tokOf := by
  intro a b h
  have hd := congrArg (fun x : GSem nD τ sig × ℕ × Dev nD => x.1.1.1) h
  have hu := congrArg (fun x : GSem nD τ sig × ℕ × Dev nD => useOf x.1.2) h
  have hr := congrArg (fun x : GSem nD τ sig × ℕ × Dev nD => x.2) h
  rcases a with (⟨a, i⟩ | ⟨a, i⟩) | (⟨a, i⟩ | ⟨a, i⟩) <;> rcases b with (⟨b, j⟩ | ⟨b, j⟩) | (⟨b, j⟩ | ⟨b, j⟩) <;>
    simp only [tokOf, useOf_bar, useOf_snd, useOf_rcv, useOf_wc, reduceCtorEq] at hd hu hr
  · rw [hd, (Prod.mk.inj hr).2]
  · rw [hd, Use.snd.inj hu]
  · rw [hd, Use.rcv.inj hu]
  · have h1 : i.val % 2 = j.val % 2 := congrArg Fin.val (Use.wc.inj hu)
    have h2 : i.val / 2 = j.val / 2 := (Prod.mk.inj hr).1
    rw [hd, show i = j from Fin.ext (by omega)]

def mint : Finset (GSem nD τ sig × ℕ × Dev nD) := Finset.univ.map ⟨tokOf, tokOf_injective⟩

/-- The tokens of device `c`'s own cells. -/
def ownToks : sProp 𝕄 :=
  iprop(((bigSep Finset.univ fun d : Dev nD => dutyTok ER (barCell c) 0 d) ∗ bigSep Finset.univ fun t : Dev nD => dutyTok ER (sndCell c t) 0 0)
    ∗ (bigSep Finset.univ fun s : Dev nD => dutyTok ER (rcvCell c s) 0 0) ∗ bigSep Finset.univ fun q : Fin 8 => dutyTok ER (wcCell c (par q.val)) (q.val / 2) 0)

theorem bigSep_mint : bigSep mint (fun x => (dutyTok ER x.1 x.2.1 x.2.2 : sProp 𝕄)) = bigSep Finset.univ fun c : Dev nD => ownToks c := by
  unfold mint ownToks
  rw [bigSep_map, bigSep_univ_sum, bigSep_univ_sum, bigSep_univ_sum, bigSep_univ_prod, bigSep_univ_prod, bigSep_univ_prod, bigSep_univ_prod,
    bigSep_sep', bigSep_sep', bigSep_sep']
  rfl

/-- The tokens device `c` pays with. -/
def payToks : sProp 𝕄 :=
  iprop((bigSep (Finset.univ.erase c) fun t : Dev nD => dutyTok ER (barCell t) 0 c)
    ∗ (bigSep (Finset.univ.erase c) fun t : Dev nD => iprop(dutyTok ER (sndCell c t) 0 0 ∗ dutyTok ER (rcvCell t c) 0 0))
    ∗ bigSep Finset.univ fun q : Fin 8 => dutyTok ER (wcCell c (par q.val)) (q.val / 2) 0)

/-- A device's barrier and receive tokens go to the devices that pay them. -/
theorem deal_toks : (bigSep Finset.univ fun c : Dev nD => (ownToks c : sProp 𝕄)) ⊢ bigSep Finset.univ fun c : Dev nD => payToks c := by
  have h (c : Dev nD) : iprop(((bigSep Finset.univ fun t : Dev nD => dutyTok ER (barCell t) 0 c) ∗ bigSep Finset.univ fun t : Dev nD => dutyTok ER (sndCell c t) 0 0)
      ∗ (bigSep Finset.univ fun t : Dev nD => dutyTok ER (rcvCell t c) 0 0) ∗ bigSep Finset.univ fun q : Fin 8 => dutyTok ER (wcCell c (par q.val)) (q.val / 2) 0)
      ⊢ (payToks c : sProp 𝕄) := by
    unfold payToks
    rw [bigSep_sep']
    have hs (Φ : Dev nD → sProp 𝕄) : bigSep Finset.univ Φ ⊢ bigSep (Finset.univ.erase c) Φ := bigSep_subset (Finset.erase_subset _ _)
    iintro ⟨⟨H1, H2⟩, H3, H4⟩
    ihave H1 := (hs _) $$ H1
    ihave H2 := (hs _) $$ H2
    ihave H3 := (hs _) $$ H3
    isplitl [H1]; · iexact H1
    isplitl [H2 H3]
    · isplitl [H2]; · iexact H2
      iexact H3
    iexact H4
  refine Entails.trans (PROP := sProp 𝕄) (Entails.of_eq ?_) (bigSep_mono fun c _ => h c)
  unfold ownToks
  rw [bigSep_sep', bigSep_sep', bigSep_sep', bigSep_sep', bigSep_sep', bigSep_sep',
    Pipeline.bigSep_univ_comm fun c d : Dev nD => (dutyTok ER (barCell c) 0 d : sProp 𝕄),
    Pipeline.bigSep_univ_comm fun c s : Dev nD => (dutyTok ER (rcvCell c s) 0 0 : sProp 𝕄)]

/-! ## What the launch deals -/

/-- What the launch element deals device `c`; -/
def Dealt : sProp 𝕄 :=
  iprop((bigSep Finset.univ fun k : Fin 67 => roundState ER (Rd m) (kcell (c, k)) 0)
    ∗ ((bigSep Finset.univ fun k : Fin 67 => atPos ER (kcell (c, k)) 0 ∅ 0) ∗ bigSep Finset.univ fun k : Fin 67 => reached ER (kcell (c, k)) 0)
    ∗ ownToks c)

/-- The part of the records that the launch makes; -/
def opened : sProp 𝕄 :=
  iprop((bigSep Finset.univ fun ck : Dev nD × Fin 67 => cellInv ER (Rd m) (K ck) (kcell ck)) ∗ bigSep Finset.univ fun ck : Dev nD × Fin 67 => reached ER (kcell ck) 0)
instance opened_persistent : BI.Persistent (opened m K) := by unfold opened; infer_instance

/-- what a device has once every cell is open. -/
def Ready : sProp 𝕄 :=
  iprop(∃ K, opened m K ∗ (bigSep Finset.univ fun k : Fin 67 => atPos ER (kcell (c, k)) 0 ∅ 0) ∗ payToks c)

theorem fund_cells : BI.own (ER (initOf cells mint)) ⊢ (|==> bigSep Finset.univ (Dealt m) : sProp 𝕄) := by
  iintro HX
  imod (Rounds.fund ER (Rd m) cells mint) $$ HX with ⟨Hst, Hr, Hat, Htok⟩
  imodintro
  ihave Hst := (Entails.of_eq (bigSep_cells fun g => roundState ER (Rd m) g 0)) $$ Hst
  ihave Hat := (Entails.of_eq (bigSep_cells fun g => atPos ER g 0 ∅ 0)) $$ Hat
  ihave Hr := (Entails.of_eq (bigSep_cells fun g => reached ER g 0)) $$ Hr
  ihave Htok := (Entails.of_eq bigSep_mint) $$ Htok
  unfold Dealt; simp only [bigSep_sep']
  isplitl [Hst]; · iexact Hst
  isplitl [Hat Hr]
  · isplitl [Hat] <;> iassumption
  iexact Htok

/-! ## The semaphores at launch -/

/-- The kernel's own semaphores, as the launch indexes them. -/
def osem (k : Fin 66) : SemLoc sig := .dma ⟨k.val + 2, by have := k.isLt; show k.val + 2 < 68; omega⟩

/-- All of a device's semaphores: the barrier's and the kernel's own. -/
theorem sems_split (Ψ : SemLoc sig → sProp 𝕄) :
    (bigSep Finset.univ fun k : Fin 67 => Ψ (csem k)) = iprop(Ψ (.reg barS) ∗ bigSep Finset.univ fun k : Fin 66 => Ψ (osem k)) := by
  rw [bigSep_univ_at (fun k : Fin 67 => Ψ (csem k)) kBar, csem_bar,
    show (Finset.univ : Finset (Fin 67)).erase kBar = Finset.univ.map ⟨Fin.succ, Fin.succ_injective 66⟩ from by
      ext k; rw [Finset.mem_erase, Finset.mem_map]
      exact ⟨fun h => (Fin.exists_succ_eq.mpr h.1).elim fun a ha => ⟨a, Finset.mem_univ _, ha⟩, fun ⟨a, _, ha⟩ => ⟨ha ▸ Fin.succ_ne_zero a, Finset.mem_univ _⟩⟩,
    bigSep_map]
  refine congrArg _ (bigSep_congr fun k _ => congrArg Ψ ?_)
  exact dif_neg (Nat.succ_ne_zero _)

theorem unscopedSems0_eq : (unscopedSems0 c : sProp 𝕄) = semVal (barCell c) 0 := by
  unfold unscopedSems0; rw [bigSep_eq_bigSepL_of_eq [SemLoc.reg barS] (by decide) (by decide)]; rfl

theorem sems0_eq : (bigSep Finset.univ fun k : Fin 67 => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, Pipeline.ownSems0]
  exact sems_split fun sm => semVal ((c : Thread nD τ), sm) 0

theorem open_cells :
    iprop(Pipeline.ownSems0 (Ix := Unit) (Name := ℕ) (U := UU) (Lvl := ℕ) (Val := Elt F) (τ := τ) osem c ∗ unscopedSems0 c ∗ Dealt m c)
      ⊢ |={Set.univ}=> iprop((bigSep Finset.univ fun k : Fin 67 => iprop(∃ κ : ℕ, cellInv ER (Rd m) κ (kcell (c, k))))
          ∗ ((bigSep Finset.univ fun k : Fin 67 => atPos ER (kcell (c, k)) 0 ∅ 0) ∗ bigSep Finset.univ fun k : Fin 67 => reached ER (kcell (c, k)) 0)
          ∗ ownToks c) := by
  unfold Dealt
  have ha : iprop((bigSep Finset.univ fun k : Fin 67 => semVal (kcell (c, k)) 0) ∗ bigSep Finset.univ fun k : Fin 67 => roundState ER (Rd m) (kcell (c, k)) 0)
      ⊢ (|={Set.univ}=> bigSep Finset.univ fun k : Fin 67 => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  iintro ⟨Hos, Hus, Hst, Hat, Htok⟩
  imod (ha) $$ [Hos Hus Hst] with Hinv
  · isplitl [Hos Hus]
    · iapply (Entails.of_eq (sems0_eq (F := F) c).symm)
      isplitl [Hus] <;> iassumption
    iexact Hst
  imodintro
  isplitl [Hinv]; · iexact Hinv
  isplitl [Hat]; · iexact Hat
  iexact Htok

theorem gather_cells :
    (bigSep Finset.univ fun c : Dev nD => iprop((bigSep Finset.univ fun k : Fin 67 => iprop(∃ κ : ℕ, cellInv ER (Rd m) κ (kcell (c, k))))
        ∗ ((bigSep Finset.univ fun k : Fin 67 => atPos ER (kcell (c, k)) 0 ∅ 0) ∗ bigSep Finset.univ fun k : Fin 67 => reached ER (kcell (c, k)) 0)
        ∗ ownToks c) : sProp 𝕄)
      ⊢ bigSep Finset.univ (Ready m) := by
  have hrdy (K : Dev nD × Fin 67 → ℕ) (c : Dev nD) :
      iprop(opened m K ∗ (bigSep Finset.univ fun k : Fin 67 => atPos ER (kcell (c, k)) 0 ∅ 0) ∗ payToks c) ⊢ Ready m c := by
    unfold Ready
    iintro H
    iexists K; iexact H
  rw [bigSep_sep', bigSep_sep', bigSep_sep', ← bigSep_univ_prod (fun ck : Dev nD × Fin 67 => iprop(∃ κ : ℕ, cellInv ER (Rd m) κ (kcell ck))),
    ← bigSep_univ_prod (fun ck : Dev nD × Fin 67 => (reached ER (kcell ck) 0 : sProp 𝕄))]
  iintro ⟨HI, ⟨Hat, #HR⟩, Htok⟩
  ihave HK := (BI.bigSep_exists_pi Finset.univ (fun (ck : Dev nD × Fin 67) (κ : ℕ) => (cellInv ER (Rd m) κ (kcell ck) : sProp 𝕄))) $$ HI
  icases HK with ⟨%K, #HI⟩
  ihave Htk := (deal_toks (F := F)) $$ Htok
  iapply (bigSep_along (R := opened m K) fun c _ => hrdy K c)
  isplitr
  · unfold opened; isplitl; · iexact HI
    iexact HR
  · iapply (Entails.of_eq (bigSep_sep' Finset.univ (fun c : Dev nD => bigSep Finset.univ fun k : Fin 67 => (atPos ER (kcell (c, k)) 0 ∅ 0 : sProp 𝕄)) payToks).symm)
    isplitl [Hat]; · iexact Hat
    iexact Htk

/-- All devices' semaphores at once. -/
theorem open_all : (bigSep Finset.univ fun c : Dev nD => iprop(Pipeline.ownSems0 (Ix := Unit) (Name := ℕ) (U := UU) (Lvl := ℕ) (Val := Elt F) (τ := τ) osem c ∗ unscopedSems0 c ∗ Dealt m c) : sProp 𝕄)
    ⊢ |={Set.univ}=> bigSep Finset.univ (Ready m) :=
  ((bigSep_mono fun c _ => open_cells m c).trans (bigSep_fupd _ _)).trans (BI.fupd_mono (gather_cells m))

/-! ## The launch credits -/

theorem sumFrom_all (f : Dev nD → CellTallies nD τ sig Unit) (g : GSem nD τ sig) : sumFrom f 0 g () = ∑ t : Dev nD, f t g () := by
  unfold sumFrom
  rw [Finset.sum_apply, Finsupp.finset_sum_apply]
  exact Finset.sum_congr rfl fun t _ => by rw [if_pos (Nat.zero_le _)]

theorem bar_inj {a b : Dev nD} (h : barCell a = barCell b) : a = b := congrArg (fun g : GSem nD τ sig => g.1.1) h
theorem rcv_inj {a b s t : Dev nD} (h : rcvCell a s = rcvCell b t) : a = b ∧ s = t :=
  ⟨congrArg (fun g : GSem nD τ sig => g.1.1) h, Use.rcv.inj (by rw [← useOf_rcv s, ← useOf_rcv t]; exact congrArg (fun g : GSem nD τ sig => useOf g.2) h)⟩
theorem bar_ne_rcv (a b s : Dev nD) : barCell a ≠ rcvCell b s := fun h => by
  have := congrArg (fun g : GSem nD τ sig => useOf g.2) h
  dsimp only at this
  rw [useOf_bar, useOf_rcv] at this; cases this

/-- What device `d` owes at a barrier cell, and at a receive cell. -/
theorem owed_bar (d c : Dev nD) : O₀ d (barCell c) () = if c = d then 0 else 1 := by
  unfold O₀
  rw [Pi.add_apply, Finsupp.add_apply, sumFrom_all, sumFrom_all, Finset.sum_eq_zero, Nat.zero_add, Finset.sum_eq_single c]
  · unfold owedBar; split
    · rfl
    · rw [tallyAt_apply, if_pos ⟨rfl, rfl⟩]
  · intro t _ ht; unfold owedBar; split
    · rfl
    · rw [tallyAt_apply, if_neg fun h => ht (bar_inj h.1).symm]
  · intro h; exact absurd (Finset.mem_univ _) h
  · intro t _; unfold owedRcv; split
    · rfl
    · rw [tallyAt_apply, if_neg fun h => bar_ne_rcv _ _ _ h.1]

theorem owed_rcv (d c s : Dev nD) (h : s ≠ c) : O₀ d (rcvCell c s) () = if d = s then NL else 0 := by
  unfold O₀
  rw [Pi.add_apply, Finsupp.add_apply, sumFrom_all, sumFrom_all, Finset.sum_eq_single c, Finset.sum_eq_zero, Nat.add_zero]
  · unfold owedRcv
    by_cases hd : d = s
    · subst hd; rw [if_neg (Ne.symm h), if_pos rfl, tallyAt_apply, if_pos ⟨rfl, rfl⟩]
    · rw [if_neg hd]; split
      · rfl
      · rw [tallyAt_apply, if_neg fun h' => hd (rcv_inj h'.1).2.symm]
  · intro t _; unfold owedBar; split
    · rfl
    · rw [tallyAt_apply, if_neg fun h => bar_ne_rcv _ _ _ h.1.symm]
  · intro t _ ht; unfold owedRcv; split
    · rfl
    · rw [tallyAt_apply, if_neg fun h' => ht (rcv_inj h'.1).1.symm]
  · intro h'; exact absurd (Finset.mem_univ _) h'

theorem launch_bar : tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  exact (by decide +kernel : ∀ c : Dev nD, (∑ d : Dev nD, if c = d then 0 else 1) = 31) c

theorem launch_rcv {s : Dev nD} (h : s ≠ c) :
    tallyOn (rcvCell c s) (launchCredit (Pipeline.owing O₀) 0 (rcvCell c s)) = (tallyAt (rcvCell c s) () NL : CellTallies nD τ sig Unit) := by
  unfold tallyAt; refine congrArg _ (Finsupp.ext fun u => ?_); cases u
  rw [Pipeline.launchCredit_owing, Finsupp.single_eq_same, Finset.sum_congr rfl fun d _ => owed_rcv d c s h,
    Finset.sum_ite_eq' Finset.univ s fun _ => NL, if_pos (Finset.mem_univ _)]

theorem rcvSem_injective : Function.Injective fun s : Dev nD => (SemLoc.dma (rcvS s) : SemLoc sig) := fun s t h =>
  Use.rcv.inj (by rw [← useOf_rcv s, ← useOf_rcv t]; exact congrArg useOf h)

theorem launch_creds :
    (Pipeline.launchCred O₀ c : sProp 𝕄) ⊢ iprop(cred (tallyAt (barCell c) () 31) ∗ bigSep (Finset.univ.erase c) fun s : Dev nD => cred (tallyAt (rcvCell c s) () NL)) := by
  unfold Pipeline.launchCred
  rw [bigSep_univ_at _ (SemLoc.reg barS), launch_bar]
  refine sep_mono_right ?_
  refine Entails.trans (PROP := sProp 𝕄) (bigSep_subset (t := (Finset.univ.erase c).map ⟨_, rcvSem_injective⟩) fun sm hm => ?_) (Entails.of_eq ?_)
  · obtain ⟨s, -, rfl⟩ := Finset.mem_map.mp hm
    refine Finset.mem_erase.mpr ⟨fun h => ?_, Finset.mem_univ _⟩
    cases h
  · rw [bigSep_map]
    exact bigSep_congr fun s hs => congrArg cred (launch_rcv c (Finset.mem_erase.mp hs).1)

end Cert.Exchange

end
-- ==== Proof.Launch.lean ====
/-
# The launch

The kernel's one region on all 32 devices: the proof data of its pipeline (one point; `x` staged in, the output staged
out), the body's obligation from `body_run`, and the run of the whole program: it ends with the result array written
from the output block, the arguments as they were and every semaphore at zero.
-/
module

public import proofs.«01_k».proof.Proof.Deal
public import proofs.«01_k».proof.Proof.Gen.KernelIdeal.Frame
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The pipeline's proof data -/

/-- What the body starts from beside its windows, without the scratch buffers; -/
def start : sProp 𝕄 := iprop((∃ K, records m K) ∗ Held c ∗ wPts m c)

def Φ₀ : sProp 𝕄 := iprop(start m c ∗ Bufs c)
/-- and what it ends with. -/
def Φ₁ : sProp 𝕄 := iprop(wPts m c ∗ Bufs c ∗ bigSep Finset.univ fun k : Fin 67 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_x (t : Fin cfg0.N) : (cfg0.win (0 : Fin 2)).fetch t = true := by rw [fin_N0 t]; rfl

theorem owns_buffer (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body's obligation -/

/-- A window's buffer, at contents `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def Entry : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def Exit : sProp 𝕄 :=
  iprop(Φ₁ m c ∗ (dats m ρ 0 c).owesAt () t0_0.succ ∗ stg c cc0_stg0_0 (xstg m c) ∗ stg c cc0_stg1_0 (outAt m c))

theorem entry : Entry m ρ c ⊢ iprop(∃ K, records m K ∗ owe c (O₀ c) ∗ Held c ∗ wPts m c ∗ Bufs c ∗ xPts m c ∗ ∃ o, outPts c o) := by
  unfold Entry Φ₀ start owe xPts outPts
  have hx (d) : (dats m ρ 0 c).before (0 : Fin 2) t0_0 d = xstg m c := by
    unfold Dat.before; rw [if_pos (fetch_x t0_0)]; rfl
  have ho : (dats m ρ 0 c).owesAt () t0_0.castSucc ⊢ (iprop(∃ W, owes (c : Thread nD τ) (O₀ c) W) : sProp 𝕄) := by
    unfold Dat.owesAt Pipeline.owesWithin
    iintro ⟨%W, %hW, HO⟩
    iexists W; iexact HO
  iintro ⟨⟨⟨⟨%K, HR⟩, HH, Hw⟩, HB⟩, Ho, ⟨%d0, %f0, %h0, Hx⟩, ⟨%d1, %f1, %h1, Hout⟩⟩
  ihave Ho := (ho) $$ Ho
  obtain rfl := h0.trans (hx d0)
  iexists K
  isplitl [HR]; · iexact HR
  isplitl [Ho]; · iexact Ho
  isplitl [HH]; · iexact HH
  isplitl [Hw]; · iexact Hw
  isplitl [HB]; · iexact HB
  isplitl [Hx]; · iexact Hx
  iexists f1; iexact Hout

theorem exit : Ended m c ⊢ Exit m ρ c := by
  unfold Ended Exit Φ₁ owe xPts outPts
  have ho : (iprop(∃ W, owes (c : Thread nD τ) 0 W) : sProp 𝕄) ⊢ (dats m ρ 0 c).owesAt () t0_0.succ := by
    unfold Dat.owesAt Pipeline.owesWithin
    iintro ⟨%W, HO⟩
    iexists W
    isplitr; · ipureintro; exact fun _ _ => Or.inl trivial
    iexact HO
  iintro ⟨Ho, Hw, HB, Hx, Hout, Hs⟩
  isplitl [Hw HB Hs]
  · isplitl [Hw]; · iexact Hw
    isplitl [HB] <;> iassumption
  isplitl [Ho]; · iapply (ho); iexact Ho
  isplitl [Hx]
  · iexists _; isplitr; · (ipureintro; rfl)
    iexact Hx
  iexists _; isplitr; · (ipureintro; rfl)
  iexact Hout

theorem body_point : Entry m ρ c ⊢ run c (cc0_body xM (Memref.isWhole_whole _) wM (Memref.isWhole_whole _) oM (Memref.isWhole_whole _)
    bM (Memref.isWhole_whole _) lM (Memref.isWhole_whole _) vM (Memref.isWhole_whole _) cc0_scratch3 cc0_scratch4 cc0_scratch5) fun _ => Exit m ρ c := by
  refine Entails.trans (PROP := sProp 𝕄) (entry m ρ c) ?_
  have h (K) := Entails.trans (PROP := sProp 𝕄) (body_run (hx := Memref.isWhole_whole _) (hw := Memref.isWhole_whole _) (ho := Memref.isWhole_whole _)
    (hb := Memref.isWhole_whole _) (hl := Memref.isWhole_whole _) (hv := Memref.isWhole_whole _) m K c) (wp_mono _ _ _ fun _ => exit m ρ c)
  unfold run
  iintro ⟨%K, H⟩
  iapply (h K); iexact H

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_buffer]
  exact body_point m ρ c

/-! ## The side conditions -/

theorem ownSemFacts : Pipeline.OwnSemFacts cfg0.spec osem where
  isScoped := by decide
  inj a b h := by
    have e := congrArg (fun s : SemLoc sig => match s with | .dma q => q.val | .reg _ => 0) h
    exact Fin.ext (Nat.add_right_cancel e)
  disj := by decide

theorem share_eq (w : Fin cfg0.W) : (dats m ρ 0 c).share w = fullShare := by unfold Dat.share; split <;> rfl

def u₀ : UU := (initOf (Pipeline.cells cfgs cellOf_inj) (Pipeline.launchToks cfgs cellOf_inj), initOf cells mint)

theorem start_intro :
    iprop(Pipeline.unscopedRestP Pipeline.Prefetch.none cfg0.spec c (fun b => m ((c : Thread nD τ).loc b)) ∗ levAts L lv
        ∗ Pipeline.launchCred O₀ c ∗ prngReg c (ρ c) ∗ Ready m c)
      ⊢ |={Set.univ}=> iprop(start m c ∗ emp) := by
  rw [Pipeline.unscopedRestP_none, unscopedRest0_eq]
  unfold start Ready payToks Held records opened wPts
  iintro ⟨Hw, Hlev, Hcr, -, ⟨%K, ⟨HI, Hr⟩, Hat, H1, H2, H3⟩⟩
  ihave Hc := (launch_creds (F := F) c) $$ Hcr
  icases Hc with ⟨HB, HL⟩
  imodintro
  isplitl
  · isplitl [HI Hr Hlev]
    · iexists K
      isplitl [HI]; · iexact HI
      isplitl [Hr] <;> iassumption
    isplitl [H1 H2 H3 Hat HB HL]
    · isplitl [H1]; · iexact H1
      isplitl [H2]; · iexact H2
      isplitl [H3]; · iexact H3
      isplitl [Hat]; · iexact Hat
      isplitl [HB] <;> iassumption
    iexact Hw
  · iempintro

theorem first_point :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Bufs bPts lPts vPts
  iintro ⟨Hs, -, Hr⟩
  isplitl [Hs]; · iexact Hs
  iexact Hr

theorem last_point :
    (dats m ρ 0 c).Φ (Fin.last cfg0.N) ⊢ iprop((unscopedSems0 c ∗ wPts m c) ∗ Pipeline.ownSems0 osem c ∗ Pipeline.scopedRest cfg0.spec c) := by
  rw [show (dats m ρ 0 c).Φ (Fin.last cfg0.N) = Φ₁ m c from rfl, scopedRest0_eq]
  unfold Φ₁ Bufs bPts lPts vPts
  rw [sems0_eq]
  iintro ⟨Hw, HB, Hu, Ho⟩
  isplitl [Hu Hw]
  · isplitl [Hu] <;> iassumption
  isplitl [Ho]; · iexact Ho
  iexact HB

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- At the end `w` is read off its buffer, the unscoped semaphores off their counters. -/
def Seen (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem seen (s' : Phys nD τ sig (Elt F)) :
    iprop((unscopedSems0 c ∗ wPts m c) ∗ emp ∗ SI s') ⊢ (|={Set.univ}=> iprop(⌜Seen m c s'.mem⌝ ∗ SI s') : sProp 𝕄) := by
  unfold wPts
  have hw : iprop(SI s' ∗ (((c : Thread nD τ).loc main_arg1) ↦{fullShare} m ((c : Thread nD τ).loc main_arg1)))
      ⊢ (iprop(⌜∀ i ∈ (Finset.univ : Finset _), s'.mem.mem ((c : Thread nD τ).loc main_arg1) i = m ((c : Thread nD τ).loc main_arg1) i⌝) : sProp 𝕄) := SI_pointsTo_agree
  iintro ⟨⟨Hu, Hw⟩, -, HSI⟩
  ihave %h := (hw) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨funext fun i => h i (Finset.mem_univ i), hs⟩
  iexact HSI

/-! ## The run -/

/-- What every run ends with: the windows' arrays as the pipeline leaves them, `w` as it was, every semaphore at zero. -/
def Post : PUnit × MemSt nD τ sig (Elt F) → Prop := fun r =>
  (∀ c : Dev nD, (∀ w : Fin cfg0.W, r.2.mem ((cfg0.win w).arr.view.loc (c : Thread nD τ)) = (dats m ρ 0 c).arrAt w cfg0.N)
      ∧ r.2.mem ((c : Thread nD τ).loc main_arg1) = m ((c : Thread nD τ).loc main_arg1))
    ∧ r.2.sem = fun _ => 0

set_option maxRecDepth 8000 in
/-- For any float values, from any memory with every semaphore at zero, every fair execution of the program on the 32
    devices ends, and ends in `Post`. -/
theorem run_main : θ_run defs (onTc (τ := τ) (main (F := F))) (s₀ m ρ) (Post m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := Dealt m) (G' := Ready m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := open_all m)
    (hA := fun _ _ => rfl) (hpf := fun _ k => k.elim0)
    (X := start m) (Y := fun c => iprop(unscopedSems0 c ∗ wPts m c)) (Z := fun _ => iprop(emp))
    (hX := start_intro m ρ) (hin := first_point m ρ) (hout := last_point m ρ)
    (QY := Seen m) (hY := seen m)
    (hQ := fun _ h hs => ⟨fun c => ⟨(h c).1, (h c).2.2.1⟩, sem_eq_zero hs fun c => (h c).2.2.2⟩)

/-- The array of `x` after the run is what it was. -/
theorem arrAt_x : (dats m ρ 0 c).arrAt (0 : Fin 2) cfg0.N = m ((c : Thread nD τ).loc main_arg0) :=
  (dats m ρ 0 c).arrAt_in (0 : Fin 2) rfl _

end Cert.Exchange

end
-- ==== Proof.Values.lean ====
/-
# The result at the extended reals

What every device's output block is when floats are extended reals: each element of the accumulator is a sum, over the
turns, of one chunk's products; the turns of a device go through the eight chunks in a rotated order, so the sum is the
one over all 4096 columns, the reference's; and the closing `y * (1 / (1 + exp (-y)))` is the reference's quotient.
-/
module

public import proofs.«01_k».proof.Defs
public import proofs.«01_k».proof.Proof.Launch
public import proofs.«01_k».proof.Proof.Gen.ReferenceIdeal.Run
public import Idealize.ShloMosaic.Lib.Pipeline.Value
public import Idealize.ShloMosaic.Lib.Pipeline.ValueKit
public import Idealize.ShloMosaic.Lib.IdealHost
public import Idealize.ShloMosaic.Lib.MatmulPlain
public import Idealize.ShloMosaic.Lib.StackMember
public import Idealize.ShloMosaic.Lib.ValueLayout

@[expose] public section

noncomputable section

namespace Cert.Exchange

open Cert.KernelIdeal Cert.KernelIdeal.Gen
open Idealize.ShloMosaic hiding ix2 ix3
open Idealize.ShloMosaic.TcCoe
open Idealize.ShloMosaic.ValueIdx
open Idealize.SL.Sem
open scoped BigOperators

/-! ## The windows' arrays -/

section Arrays

variable {F : FTy → Type} [FloatOps F]
variable (m : (ℓ : Loc nD τ sig) → Buf (Elt F) ℓ) (ρ : Dev nD → PrngReg) (c : Dev nD)

/-- The staged `x` is the array of `x`. -/
theorem xstg_eq : xstg m c = m ((c : Thread nD τ).loc main_arg0) :=
  Memref.read_access_unit_zero (Elt F) main_arg0 (funext fun a => Nat.zero_mul _) _ _

/-- The result array ends as the output block. -/
theorem arrAt_out : (dats m ρ 0 c).arrAt (1 : Fin 2) cfg0.N = outAt m c :=
  (dats m ρ 0 c).arrAt_eq_of_cover (1 : Fin 2) (outAt m c)
    (fun t _ => by
      rw [fin_N0 t]
      exact (Memref.read_access_unit_zero (Elt F) main_v1 (funext fun a => Nat.zero_mul _) _ (outAt m c)).symm)
    (fun i => ⟨t0_0, flush0_1 t0_0, by
      have hs : ((cfg0.win (1 : Fin 2)).blk t0_0).view.set = _ := View.set_slice_whole (b := main_v1) _
      rw [hs, Rect.mem_set_unit]
      have h0 : (i 0).val < 128 := (i 0).isLt
      have h1 : (i 1).val < 8192 := (i 1).isLt
      intro a
      fin_cases a
      · show 0 * 128 ≤ (i 0).val ∧ (i 0).val < 0 * 128 + 128; omega
      · show 0 * 8192 ≤ (i 1).val ∧ (i 1).val < 0 * 8192 + 8192; omega⟩)

end Arrays

/-! ## The sigmoid -/

theorem one_add_exp_ne_zero (y : EReal) : 1 + Ideal.exp y ≠ 0 := by
  have h0 : (0 : EReal) ≤ Ideal.exp y := by
    induction y with
    | bot => exact le_of_eq Ideal.exp_bot.symm
    | top => rw [Ideal.exp_top]; exact le_top
    | coe r => rw [Ideal.exp_coe]; exact EReal.coe_nonneg.mpr (Real.exp_pos r).le
  intro e
  have h1 : (1 : EReal) ≤ 1 + Ideal.exp y := le_add_of_nonneg_right h0
  rw [e] at h1; exact absurd h1 (by simp)

/-- The kernel's closing operation at an element: the quotient the reference forms. -/
theorem silu_apply (v : FVec Ideal S128x8192 .f32) (i : S128x8192.Idx) :
    k0_pay1 (F := Ideal) v i = Ideal.div (v i) (1 + Ideal.exp (-(v i))) := by
  unfold k0_pay1
  rw [shapeCast_self]
  show v i * Ideal.div (Ideal.ofBits .f32 0x3F800000#32) (Ideal.ofBits .f32 0x3F800000#32 + Ideal.exp (Ideal.ofBits .f32 0x00000000#32 - v i)) = _
  rw [Ideal.ofBits_one_f32, Ideal.ofBits_zero_f32, zero_sub, Ideal.mul_one_div (one_add_exp_ne_zero _)]

/-! ## One turn's product -/

/-- A turn's product at an element: the sum over the chunk's 512 columns. -/
theorem turn_apply (l : S1x128x512.Idx → EReal) (w : S1x512x8192.Idx → EReal) (r : Fin 128) (j : Fin 8192) :
    k0_pay4 (F := Ideal) l w (ix2 r j) = ∑ k : Fin 512, l (ix3 (0 : Fin 1) r k) * w (ix3 (0 : Fin 1) k j) := by
  unfold k0_pay4
  refine (Ideal.matmul_plain_apply none _ _ _ r j).trans ?_
  rw [show (constant (F := Ideal) S128x8192 .f32 0x00000000#32) (ix2 r j) = 0 from Ideal.ofBits_zero_f32, zero_add]
  refine Finset.sum_congr rfl fun k _ => ?_
  rw [shapeCast_1ab_ab_apply]
  exact congrArg (· * _) (shapeCast_1ab_ab_apply l _ r k)

theorem next_apply (l : S1x128x512.Idx → EReal) (w : S1x512x8192.Idx → EReal) (a : FVec Ideal S128x8192 .f32) (i : S128x8192.Idx) :
    k0_pay5 (F := Ideal) l w a i = a i + k0_pay4 (F := Ideal) l w i := by
  unfold k0_pay5
  rw [shapeCast_self]; rfl

/-! ## All of a device's turns -/

/-- The product of column `k` of row `i` of `x` and row `k` of column `j` of `w` (nothing past the last column). -/
def prodAt (X : ReferenceIdeal.S4096x4096.Idx → EReal) (W : S4096x8192.Idx → EReal) (i : Fin 4096) (j : Fin 8192) (k : ℕ) : EReal :=
  if h : k < 4096 then X (ix2 i (⟨k, h⟩ : Fin 4096)) * W (ix2 (⟨k, h⟩ : Fin 4096) j) else 0

/-- Chunk `q`'s share of the sum of products. -/
def chunkSum (X : ReferenceIdeal.S4096x4096.Idx → EReal) (W : S4096x8192.Idx → EReal) (i : Fin 4096) (j : Fin 8192) (q : ℕ) : EReal :=
  ∑ k : Fin 512, prodAt X W i j (q * 512 + k.val)

/-- The chunks in a device's order are the chunks. -/
theorem sum_rotated (c : Dev nD) (f : ℕ → EReal) : ∑ p ∈ Finset.range 8, f (chunk c p) = ∑ q ∈ Finset.range 8, f q := by
  refine Finset.sum_nbij (chunk c) (fun p _ => Finset.mem_range.mpr (chunk_lt c p)) ?_ ?_ (fun _ _ => rfl)
  · intro a ha b hb h
    have ha := Finset.mem_range.mp ha
    have hb := Finset.mem_range.mp hb
    unfold chunk at h; omega
  · intro q hq
    have hq := Finset.mem_range.mp hq
    refine ⟨(q + 8 - c.val / 4 % 8) % 8, Finset.mem_coe.mpr (Finset.mem_range.mpr (Nat.mod_lt _ (by decide))), ?_⟩
    unfold chunk; omega

theorem sum_chunks (X : ReferenceIdeal.S4096x4096.Idx → EReal) (W : S4096x8192.Idx → EReal) (i : Fin 4096) (j : Fin 8192) :
    ∑ q ∈ Finset.range 8, chunkSum X W i j q = ∑ k : Fin 4096, X (ix2 i k) * W (ix2 k j) := by
  unfold chunkSum
  rw [Finset.sum_range]
  refine (Fin.sum_univ_univ_mul_add (S := 8) 512 (prodAt X W i j)).trans (Finset.sum_congr rfl fun k _ => ?_)
  unfold prodAt; rw [dif_pos k.isLt]

variable (m : (ℓ : Loc nD τ sig) → Buf (Elt Ideal) ℓ) (c : Dev nD)

/-- Row `r` of device `c`'s output block, as a row of the whole. -/
abbrev rowOf (c : Dev nD) (r : Fin 128) : Fin 4096 := ⟨128 * c.val + r.val, by have h : c.val < 32 := c.isLt; omega⟩

theorem xb_apply (d : Dev nD) (i : S4096x128.Idx) :
    xb m d i = (m ((d : Thread nD τ).loc main_arg0) : S4096x128.Idx → EReal) i := by
  unfold xb k0_pay2
  rw [shapeCast_self, shapeCast_self, xstg_eq]; rfl

section Whole

variable (X : ReferenceIdeal.S4096x4096.Idx → EReal) (W : S4096x8192.Idx → EReal)

/-- The kernel's arguments are parts of `X` and `W`: device `c` has 128 columns of `X`, and all of `W`. -/
def Holds : Prop := ∀ c : Dev nD,
  (m ((c : Thread nD τ).loc main_arg0) : S4096x128.Idx → EReal) = Layout.block ⟨2, ![4096, 128]⟩ ⟨2, ![4096, 4096]⟩ 1 32 c X
    ∧ (m ((c : Thread nD τ).loc main_arg1) : S4096x8192.Idx → EReal) = W

variable (hX : Holds m X W)
include hX

/-- One product of a turn. -/
theorem piece_apply (q : ℕ) (r : Fin 128) (k : Fin 512) (j : Fin 8192) :
    lpiece m c q (ix3 (0 : Fin 1) r k) * wpiece m c q (ix3 (0 : Fin 1) k j) = prodAt X W (rowOf c r) j (chunk c q * 512 + k.val) := by
  have hq := chunk_lt c q
  have hlt : chunk c q * 512 + k.val < 4096 := by omega
  unfold prodAt; rw [dif_pos hlt]
  refine congrArg₂ (· * ·) ?_ ?_
  · show landed m c (ix3 (⟨chunk c q, hq⟩ : Fin 8) r k) = _
    unfold landed
    rw [xb_apply m, (hX _).1, Layout.block_apply]
    refine congrArg X (funext fun a => Fin.ext ?_)
    fin_cases a
    · rfl
    · show (4 * chunk c q + k.val / 128) * 128 + k.val % 128 = chunk c q * 512 + k.val
      omega
  · show wch m c q (ix3 (par q) k j) = _
    unfold wch
    rw [(hX c).2]
    refine congrArg W (funext fun a => Fin.ext ?_)
    fin_cases a
    · show 512 * chunk c q + k.val = chunk c q * 512 + k.val
      omega
    · rfl

theorem acc_apply (q : ℕ) (r : Fin 128) (j : Fin 8192) :
    acc m c q (ix2 r j) = ∑ p ∈ Finset.range (q + 1), chunkSum X W (rowOf c r) j (chunk c p) := by
  have hp (p : ℕ) : k0_pay4 (F := Ideal) (lpiece m c p) (wpiece m c p) (ix2 r j) = chunkSum X W (rowOf c r) j (chunk c p) :=
    (turn_apply _ _ r j).trans (Finset.sum_congr rfl fun k _ => piece_apply m c X W hX p r k j)
  induction q with
  | zero => rw [Finset.sum_range_one]; exact hp 0
  | succ q ih => rw [Finset.sum_range_succ, ← ih, ← hp]; exact next_apply _ _ _ _

/-- The accumulator at the end: the reference's product at the device's rows. -/
theorem acc_whole (r : Fin 128) (j : Fin 8192) :
    acc m c 7 (ix2 r j) = ∑ k : Fin 4096, X (ix2 (rowOf c r) k) * W (ix2 k j) :=
  (acc_apply m c X W hX 7 r j).trans ((sum_rotated c _).trans (sum_chunks X W _ j))

end Whole

/-! ## The reference -/

/-- The reference's result on `X` and `W`. -/
def refOut (X : ReferenceIdeal.S4096x4096.Idx → EReal) (W : ReferenceIdeal.S4096x8192.Idx → EReal) : FVec Ideal ReferenceIdeal.S4096x8192 .f32 :=
  have y : FVec Ideal ReferenceIdeal.S4096x8192 .f32 := Host.dotGeneral (φ₁ := .f32) (φ₂ := .f32) ReferenceIdeal.dot_S4096x4096_S4096x8192_S4096x8192_1_0_0_1_n_n none X W
  Host.divf y (addf (broadcastInDim ReferenceIdeal.S4096x8192 ![] ReferenceIdeal.Gen.bcast_S_S4096x8192 (constant ReferenceIdeal.S_ .f32 0x3F800000#32)) (Host.exp (Host.negf y)))

theorem refOut_apply (X : ReferenceIdeal.S4096x4096.Idx → EReal) (W : S4096x8192.Idx → EReal) (i : Fin 4096) (j : Fin 8192) :
    refOut X W (ix2 i j) = Ideal.div (∑ k : Fin 4096, X (ix2 i k) * W (ix2 k j)) (1 + Ideal.exp (-(∑ k : Fin 4096, X (ix2 i k) * W (ix2 k j)))) := by
  have hy : Host.dotGeneral (F := Ideal) (φ₁ := .f32) (φ₂ := .f32) ReferenceIdeal.dot_S4096x4096_S4096x8192_S4096x8192_1_0_0_1_n_n none X W (ix2 i j) = ∑ k : Fin 4096, X (ix2 i k) * W (ix2 k j) :=
    StackMember.dotGeneral_plain_apply (m := 4096) (n := 8192) none X W i j
  rw [← hy, ← Ideal.ofBits_one_f32]; rfl

/-- Each device's output block is its rows of the reference's result. -/
theorem out_eq (X : ReferenceIdeal.S4096x4096.Idx → EReal) (W : S4096x8192.Idx → EReal) (hX : Holds m X W) :
    (outAt m c : S128x8192.Idx → EReal) = Layout.block ⟨2, ![128, 8192]⟩ ⟨2, ![4096, 8192]⟩ 0 32 c (refOut X W) := by
  funext i
  obtain ⟨r, j, rfl⟩ : ∃ (r : Fin 128) (j : Fin 8192), i = ix2 r j := ⟨i 0, i 1, funext fun a => by fin_cases a <;> rfl⟩
  rw [Layout.block_apply]
  refine (silu_apply _ _).trans ?_
  rw [acc_whole m c X W hX, ← refOut_apply]
  refine congrArg (refOut X W) (funext fun a => Fin.ext ?_)
  fin_cases a
  · show 128 * c.val + r.val = c.val * 128 + r.val
    omega
  · rfl

/-! ## The claim -/

/-- Started on parts of the reference's arguments, the kernel ends with its parts of the reference's result. -/
theorem algebraic_kernel : Cert.algebraic_KernelIdeal_ReferenceIdeal := fun m ρ m' ρ' _ hm =>
  ⟨refOut (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1)),
    (θ_run defs _ _).mono (fun _ h c => ⟨((h.1 c).1 (1 : Fin 2)).trans ((arrAt_out m ρ c).trans (out_eq m c _ _ hm)),
      ((h.1 c).1 (0 : Fin 2)).trans (arrAt_x m ρ c), (h.1 c).2⟩) (run_main m ρ),
    (θ_run ReferenceIdeal.defs _ _).mono (fun _ h => h 0) (ReferenceIdeal.Value.run m' ρ')⟩

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.Exchange

/-- The kernel, over any float values, ends with its arguments unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨((h.1 c).1 (0 : Fin 2)).trans (arrAt_x m ρ c), (h.1 c).2⟩, h.2⟩) (run_main m ρ)

/-- The two programs have the same text: the same bodies under the same labels, -/
theorem bodies_eq {F : FTy → Type} [FloatOps F] : (Cert.Kernel.defs₀ (F := F)) = Cert.KernelIdeal.defs₀ := by
  unfold Cert.Kernel.defs₀ Cert.KernelIdeal.defs₀
  refine congrArg Defs.onTc (funext fun l => funext fun a => ?_)
  match l, a with
  | 0, (_, _) => rfl

/-- and the same table of them. -/
theorem defs_eq {F : FTy → Type} [FloatOps F] : (Cert.Kernel.defs (F := F)) = Cert.KernelIdeal.defs := by
  unfold Cert.Kernel.defs Cert.KernelIdeal.defs
  rw [bodies_eq]; rfl

/-- So the kernel ends so on machine floats, -/
theorem frame_kernel : Cert.quiescent_Kernel := fun m ρ _ => by
  rw [defs_eq]
  exact frame_any (F := Bits) m ρ

/-- and on extended reals. -/
theorem frame_ideal : Cert.quiescent_KernelIdeal := fun m ρ _ => frame_any (F := Ideal) m ρ

/-- The reference, which has no semaphores, does the same. -/
theorem frame_reference : Cert.quiescent_ReferenceIdeal := fun m ρ _ => (θ_run Cert.ReferenceIdeal.defs _ _).mono
  (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts,
  frame_kernel, frame_ideal, frame_reference, trivial, algebraic_kernel⟩

end Cert.Proof

end
